-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_pre_gain_finite [hPre_pre_gain_finite : Cert.Pre_pre_gain_finite.Facts] (m : (ℓ : Loc Cert.PoolIdeal.nD Cert.PoolIdeal.τ Cert.PoolIdeal.sig) → Buf (Elt Ideal) ℓ) : Prop :=
  ∀ c : Dev Cert.PoolIdeal.nD,
    (Cert.Pre_pre_gain_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5)) (m ((c.tc : Thread Cert.PoolIdeal.nD Cert.PoolIdeal.τ).loc Cert.PoolIdeal.main_arg6)) (m ((c.tc : Thread Cert.PoolIdeal.nD Cert.PoolIdeal.τ).loc Cert.PoolIdeal.main_arg7)) (m ((c.tc : Thread Cert.PoolIdeal.nD Cert.PoolIdeal.τ).loc Cert.PoolIdeal.main_arg8)) (m ((c.tc : Thread Cert.PoolIdeal.nD Cert.PoolIdeal.τ).loc Cert.PoolIdeal.main_arg9)) (m ((c.tc : Thread Cert.PoolIdeal.nD Cert.PoolIdeal.τ).loc Cert.PoolIdeal.main_arg10)) (m ((c.tc : Thread Cert.PoolIdeal.nD Cert.PoolIdeal.τ).loc Cert.PoolIdeal.main_arg11))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_pre_gain_finite [hPre_pre_gain_finite : Cert.Pre_pre_gain_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_pre_gain_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4)) (m ((c.tc : Thread Cert.PoolRefIdeal.nD Cert.PoolRefIdeal.τ).loc Cert.PoolRefIdeal.main_arg5)) (m ((c.tc : Thread Cert.PoolRefIdeal.nD Cert.PoolRefIdeal.τ).loc Cert.PoolRefIdeal.main_arg6)) (m ((c.tc : Thread Cert.PoolRefIdeal.nD Cert.PoolRefIdeal.τ).loc Cert.PoolRefIdeal.main_arg7)) (m ((c.tc : Thread Cert.PoolRefIdeal.nD Cert.PoolRefIdeal.τ).loc Cert.PoolRefIdeal.main_arg8)) (m ((c.tc : Thread Cert.PoolRefIdeal.nD Cert.PoolRefIdeal.τ).loc Cert.PoolRefIdeal.main_arg9)) (m ((c.tc : Thread Cert.PoolRefIdeal.nD Cert.PoolRefIdeal.τ).loc Cert.PoolRefIdeal.main_arg10)) (m ((c.tc : Thread Cert.PoolRefIdeal.nD Cert.PoolRefIdeal.τ).loc Cert.PoolRefIdeal.main_arg11))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4)
      ∧ r.2.mem ((c.tc : Thread Cert.Pool.nD Cert.Pool.τ).loc Cert.Pool.main_arg5) = m ((c.tc : Thread Cert.Pool.nD Cert.Pool.τ).loc Cert.Pool.main_arg5)
      ∧ r.2.mem ((c.tc : Thread Cert.Pool.nD Cert.Pool.τ).loc Cert.Pool.main_arg6) = m ((c.tc : Thread Cert.Pool.nD Cert.Pool.τ).loc Cert.Pool.main_arg6)
      ∧ r.2.mem ((c.tc : Thread Cert.Pool.nD Cert.Pool.τ).loc Cert.Pool.main_arg7) = m ((c.tc : Thread Cert.Pool.nD Cert.Pool.τ).loc Cert.Pool.main_arg7)
      ∧ r.2.mem ((c.tc : Thread Cert.Pool.nD Cert.Pool.τ).loc Cert.Pool.main_arg8) = m ((c.tc : Thread Cert.Pool.nD Cert.Pool.τ).loc Cert.Pool.main_arg8)
      ∧ r.2.mem ((c.tc : Thread Cert.Pool.nD Cert.Pool.τ).loc Cert.Pool.main_arg9) = m ((c.tc : Thread Cert.Pool.nD Cert.Pool.τ).loc Cert.Pool.main_arg9)
      ∧ r.2.mem ((c.tc : Thread Cert.Pool.nD Cert.Pool.τ).loc Cert.Pool.main_arg10) = m ((c.tc : Thread Cert.Pool.nD Cert.Pool.τ).loc Cert.Pool.main_arg10)
      ∧ r.2.mem ((c.tc : Thread Cert.Pool.nD Cert.Pool.τ).loc Cert.Pool.main_arg11) = m ((c.tc : Thread Cert.Pool.nD Cert.Pool.τ).loc Cert.Pool.main_arg11))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
      ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6)
      ∧ r.2.mem ((c.tc : Thread Cert.PoolIdeal.nD Cert.PoolIdeal.τ).loc Cert.PoolIdeal.main_arg7) = m ((c.tc : Thread Cert.PoolIdeal.nD Cert.PoolIdeal.τ).loc Cert.PoolIdeal.main_arg7)
      ∧ r.2.mem ((c.tc : Thread Cert.PoolIdeal.nD Cert.PoolIdeal.τ).loc Cert.PoolIdeal.main_arg8) = m ((c.tc : Thread Cert.PoolIdeal.nD Cert.PoolIdeal.τ).loc Cert.PoolIdeal.main_arg8)
      ∧ r.2.mem ((c.tc : Thread Cert.PoolIdeal.nD Cert.PoolIdeal.τ).loc Cert.PoolIdeal.main_arg9) = m ((c.tc : Thread Cert.PoolIdeal.nD Cert.PoolIdeal.τ).loc Cert.PoolIdeal.main_arg9)
      ∧ r.2.mem ((c.tc : Thread Cert.PoolIdeal.nD Cert.PoolIdeal.τ).loc Cert.PoolIdeal.main_arg10) = m ((c.tc : Thread Cert.PoolIdeal.nD Cert.PoolIdeal.τ).loc Cert.PoolIdeal.main_arg10)
      ∧ r.2.mem ((c.tc : Thread Cert.PoolIdeal.nD Cert.PoolIdeal.τ).loc Cert.PoolIdeal.main_arg11) = m ((c.tc : Thread Cert.PoolIdeal.nD Cert.PoolIdeal.τ).loc Cert.PoolIdeal.main_arg11))
      ∧ r.2.sem = fun _ => 0)

def quiescent_PoolIdeal_pre_pre_gain_finite [hPoolIdeal : Cert.PoolIdeal.Facts] [hPre_pre_gain_finite : Cert.Pre_pre_gain_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_pre_gain_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
      ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6)
      ∧ r.2.mem ((c.tc : Thread Cert.PoolIdeal.nD Cert.PoolIdeal.τ).loc Cert.PoolIdeal.main_arg7) = m ((c.tc : Thread Cert.PoolIdeal.nD Cert.PoolIdeal.τ).loc Cert.PoolIdeal.main_arg7)
      ∧ r.2.mem ((c.tc : Thread Cert.PoolIdeal.nD Cert.PoolIdeal.τ).loc Cert.PoolIdeal.main_arg8) = m ((c.tc : Thread Cert.PoolIdeal.nD Cert.PoolIdeal.τ).loc Cert.PoolIdeal.main_arg8)
      ∧ r.2.mem ((c.tc : Thread Cert.PoolIdeal.nD Cert.PoolIdeal.τ).loc Cert.PoolIdeal.main_arg9) = m ((c.tc : Thread Cert.PoolIdeal.nD Cert.PoolIdeal.τ).loc Cert.PoolIdeal.main_arg9)
      ∧ r.2.mem ((c.tc : Thread Cert.PoolIdeal.nD Cert.PoolIdeal.τ).loc Cert.PoolIdeal.main_arg10) = m ((c.tc : Thread Cert.PoolIdeal.nD Cert.PoolIdeal.τ).loc Cert.PoolIdeal.main_arg10)
      ∧ r.2.mem ((c.tc : Thread Cert.PoolIdeal.nD Cert.PoolIdeal.τ).loc Cert.PoolIdeal.main_arg11) = m ((c.tc : Thread Cert.PoolIdeal.nD Cert.PoolIdeal.τ).loc Cert.PoolIdeal.main_arg11))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5)
      ∧ r.2.mem ((c.tc : Thread Cert.PoolRefIdeal.nD Cert.PoolRefIdeal.τ).loc Cert.PoolRefIdeal.main_arg6) = m ((c.tc : Thread Cert.PoolRefIdeal.nD Cert.PoolRefIdeal.τ).loc Cert.PoolRefIdeal.main_arg6)
      ∧ r.2.mem ((c.tc : Thread Cert.PoolRefIdeal.nD Cert.PoolRefIdeal.τ).loc Cert.PoolRefIdeal.main_arg7) = m ((c.tc : Thread Cert.PoolRefIdeal.nD Cert.PoolRefIdeal.τ).loc Cert.PoolRefIdeal.main_arg7)
      ∧ r.2.mem ((c.tc : Thread Cert.PoolRefIdeal.nD Cert.PoolRefIdeal.τ).loc Cert.PoolRefIdeal.main_arg8) = m ((c.tc : Thread Cert.PoolRefIdeal.nD Cert.PoolRefIdeal.τ).loc Cert.PoolRefIdeal.main_arg8)
      ∧ r.2.mem ((c.tc : Thread Cert.PoolRefIdeal.nD Cert.PoolRefIdeal.τ).loc Cert.PoolRefIdeal.main_arg9) = m ((c.tc : Thread Cert.PoolRefIdeal.nD Cert.PoolRefIdeal.τ).loc Cert.PoolRefIdeal.main_arg9)
      ∧ r.2.mem ((c.tc : Thread Cert.PoolRefIdeal.nD Cert.PoolRefIdeal.τ).loc Cert.PoolRefIdeal.main_arg10) = m ((c.tc : Thread Cert.PoolRefIdeal.nD Cert.PoolRefIdeal.τ).loc Cert.PoolRefIdeal.main_arg10)
      ∧ r.2.mem ((c.tc : Thread Cert.PoolRefIdeal.nD Cert.PoolRefIdeal.τ).loc Cert.PoolRefIdeal.main_arg11) = m ((c.tc : Thread Cert.PoolRefIdeal.nD Cert.PoolRefIdeal.τ).loc Cert.PoolRefIdeal.main_arg11))
      ∧ r.2.sem = fun _ => 0)

def quiescent_PoolRefIdeal_pre_pre_gain_finite [hPoolRefIdeal : Cert.PoolRefIdeal.Facts] [hPre_pre_gain_finite : Cert.Pre_pre_gain_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_pre_gain_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5)
      ∧ r.2.mem ((c.tc : Thread Cert.PoolRefIdeal.nD Cert.PoolRefIdeal.τ).loc Cert.PoolRefIdeal.main_arg6) = m ((c.tc : Thread Cert.PoolRefIdeal.nD Cert.PoolRefIdeal.τ).loc Cert.PoolRefIdeal.main_arg6)
      ∧ r.2.mem ((c.tc : Thread Cert.PoolRefIdeal.nD Cert.PoolRefIdeal.τ).loc Cert.PoolRefIdeal.main_arg7) = m ((c.tc : Thread Cert.PoolRefIdeal.nD Cert.PoolRefIdeal.τ).loc Cert.PoolRefIdeal.main_arg7)
      ∧ r.2.mem ((c.tc : Thread Cert.PoolRefIdeal.nD Cert.PoolRefIdeal.τ).loc Cert.PoolRefIdeal.main_arg8) = m ((c.tc : Thread Cert.PoolRefIdeal.nD Cert.PoolRefIdeal.τ).loc Cert.PoolRefIdeal.main_arg8)
      ∧ r.2.mem ((c.tc : Thread Cert.PoolRefIdeal.nD Cert.PoolRefIdeal.τ).loc Cert.PoolRefIdeal.main_arg9) = m ((c.tc : Thread Cert.PoolRefIdeal.nD Cert.PoolRefIdeal.τ).loc Cert.PoolRefIdeal.main_arg9)
      ∧ r.2.mem ((c.tc : Thread Cert.PoolRefIdeal.nD Cert.PoolRefIdeal.τ).loc Cert.PoolRefIdeal.main_arg10) = m ((c.tc : Thread Cert.PoolRefIdeal.nD Cert.PoolRefIdeal.τ).loc Cert.PoolRefIdeal.main_arg10)
      ∧ r.2.mem ((c.tc : Thread Cert.PoolRefIdeal.nD Cert.PoolRefIdeal.τ).loc Cert.PoolRefIdeal.main_arg11) = m ((c.tc : Thread Cert.PoolRefIdeal.nD Cert.PoolRefIdeal.τ).loc Cert.PoolRefIdeal.main_arg11))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8)
      ∧ r.2.mem ((c.tc : Thread Cert.Attn.nD Cert.Attn.τ).loc Cert.Attn.main_arg9) = m ((c.tc : Thread Cert.Attn.nD Cert.Attn.τ).loc Cert.Attn.main_arg9))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v43) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)) →
    ∃ (v0 : (c : Dev Cert.OutIdeal.nD) → Buf (Elt Ideal) ((c.tc : Thread Cert.OutIdeal.nD Cert.OutIdeal.τ).loc Cert.OutIdeal.main_v14)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v14) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v62) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8))

def preserves_Pool_PoolIdeal : Prop :=
  True

def algebraic_PoolIdeal_PoolRefIdeal_pre_pre_gain_finite [hPoolIdeal : Cert.PoolIdeal.Facts] [hPoolRefIdeal : Cert.PoolRefIdeal.Facts] [hPre_pre_gain_finite : Cert.Pre_pre_gain_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_pre_gain_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)
      ∧ m' ((c.tc : Thread Cert.PoolRefIdeal.nD Cert.PoolRefIdeal.τ).loc Cert.PoolRefIdeal.main_arg4) = m ((c.tc : Thread Cert.PoolIdeal.nD Cert.PoolIdeal.τ).loc Cert.PoolIdeal.main_arg4)
      ∧ m' ((c.tc : Thread Cert.PoolRefIdeal.nD Cert.PoolRefIdeal.τ).loc Cert.PoolRefIdeal.main_arg5) = m ((c.tc : Thread Cert.PoolIdeal.nD Cert.PoolIdeal.τ).loc Cert.PoolIdeal.main_arg5)
      ∧ m' ((c.tc : Thread Cert.PoolRefIdeal.nD Cert.PoolRefIdeal.τ).loc Cert.PoolRefIdeal.main_arg6) = m ((c.tc : Thread Cert.PoolIdeal.nD Cert.PoolIdeal.τ).loc Cert.PoolIdeal.main_arg6)
      ∧ m' ((c.tc : Thread Cert.PoolRefIdeal.nD Cert.PoolRefIdeal.τ).loc Cert.PoolRefIdeal.main_arg7) = m ((c.tc : Thread Cert.PoolIdeal.nD Cert.PoolIdeal.τ).loc Cert.PoolIdeal.main_arg7)
      ∧ m' ((c.tc : Thread Cert.PoolRefIdeal.nD Cert.PoolRefIdeal.τ).loc Cert.PoolRefIdeal.main_arg8) = m ((c.tc : Thread Cert.PoolIdeal.nD Cert.PoolIdeal.τ).loc Cert.PoolIdeal.main_arg8)
      ∧ m' ((c.tc : Thread Cert.PoolRefIdeal.nD Cert.PoolRefIdeal.τ).loc Cert.PoolRefIdeal.main_arg9) = m ((c.tc : Thread Cert.PoolIdeal.nD Cert.PoolIdeal.τ).loc Cert.PoolIdeal.main_arg9)
      ∧ m' ((c.tc : Thread Cert.PoolRefIdeal.nD Cert.PoolRefIdeal.τ).loc Cert.PoolRefIdeal.main_arg10) = m ((c.tc : Thread Cert.PoolIdeal.nD Cert.PoolIdeal.τ).loc Cert.PoolIdeal.main_arg10)
      ∧ m' ((c.tc : Thread Cert.PoolRefIdeal.nD Cert.PoolRefIdeal.τ).loc Cert.PoolRefIdeal.main_arg11) = m ((c.tc : Thread Cert.PoolIdeal.nD Cert.PoolIdeal.τ).loc Cert.PoolIdeal.main_arg11)) →
    ∃ (v0 : (c : Dev Cert.PoolIdeal.nD) → Buf (Elt Ideal) ((c.tc : Thread Cert.PoolIdeal.nD Cert.PoolIdeal.τ).loc Cert.PoolIdeal.main_v21)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v21) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
          ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
          ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
          ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6)
          ∧ r.2.mem ((c.tc : Thread Cert.PoolIdeal.nD Cert.PoolIdeal.τ).loc Cert.PoolIdeal.main_arg7) = m ((c.tc : Thread Cert.PoolIdeal.nD Cert.PoolIdeal.τ).loc Cert.PoolIdeal.main_arg7)
          ∧ r.2.mem ((c.tc : Thread Cert.PoolIdeal.nD Cert.PoolIdeal.τ).loc Cert.PoolIdeal.main_arg8) = m ((c.tc : Thread Cert.PoolIdeal.nD Cert.PoolIdeal.τ).loc Cert.PoolIdeal.main_arg8)
          ∧ r.2.mem ((c.tc : Thread Cert.PoolIdeal.nD Cert.PoolIdeal.τ).loc Cert.PoolIdeal.main_arg9) = m ((c.tc : Thread Cert.PoolIdeal.nD Cert.PoolIdeal.τ).loc Cert.PoolIdeal.main_arg9)
          ∧ r.2.mem ((c.tc : Thread Cert.PoolIdeal.nD Cert.PoolIdeal.τ).loc Cert.PoolIdeal.main_arg10) = m ((c.tc : Thread Cert.PoolIdeal.nD Cert.PoolIdeal.τ).loc Cert.PoolIdeal.main_arg10)
          ∧ r.2.mem ((c.tc : Thread Cert.PoolIdeal.nD Cert.PoolIdeal.τ).loc Cert.PoolIdeal.main_arg11) = m ((c.tc : Thread Cert.PoolIdeal.nD Cert.PoolIdeal.τ).loc Cert.PoolIdeal.main_arg11))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v203) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3)
          ∧ r.2.mem ((c.tc : Thread Cert.PoolRefIdeal.nD Cert.PoolRefIdeal.τ).loc Cert.PoolRefIdeal.main_arg4) = m' ((c.tc : Thread Cert.PoolRefIdeal.nD Cert.PoolRefIdeal.τ).loc Cert.PoolRefIdeal.main_arg4)
          ∧ r.2.mem ((c.tc : Thread Cert.PoolRefIdeal.nD Cert.PoolRefIdeal.τ).loc Cert.PoolRefIdeal.main_arg5) = m' ((c.tc : Thread Cert.PoolRefIdeal.nD Cert.PoolRefIdeal.τ).loc Cert.PoolRefIdeal.main_arg5)
          ∧ r.2.mem ((c.tc : Thread Cert.PoolRefIdeal.nD Cert.PoolRefIdeal.τ).loc Cert.PoolRefIdeal.main_arg6) = m' ((c.tc : Thread Cert.PoolRefIdeal.nD Cert.PoolRefIdeal.τ).loc Cert.PoolRefIdeal.main_arg6)
          ∧ r.2.mem ((c.tc : Thread Cert.PoolRefIdeal.nD Cert.PoolRefIdeal.τ).loc Cert.PoolRefIdeal.main_arg7) = m' ((c.tc : Thread Cert.PoolRefIdeal.nD Cert.PoolRefIdeal.τ).loc Cert.PoolRefIdeal.main_arg7)
          ∧ r.2.mem ((c.tc : Thread Cert.PoolRefIdeal.nD Cert.PoolRefIdeal.τ).loc Cert.PoolRefIdeal.main_arg8) = m' ((c.tc : Thread Cert.PoolRefIdeal.nD Cert.PoolRefIdeal.τ).loc Cert.PoolRefIdeal.main_arg8)
          ∧ r.2.mem ((c.tc : Thread Cert.PoolRefIdeal.nD Cert.PoolRefIdeal.τ).loc Cert.PoolRefIdeal.main_arg9) = m' ((c.tc : Thread Cert.PoolRefIdeal.nD Cert.PoolRefIdeal.τ).loc Cert.PoolRefIdeal.main_arg9)
          ∧ r.2.mem ((c.tc : Thread Cert.PoolRefIdeal.nD Cert.PoolRefIdeal.τ).loc Cert.PoolRefIdeal.main_arg10) = m' ((c.tc : Thread Cert.PoolRefIdeal.nD Cert.PoolRefIdeal.τ).loc Cert.PoolRefIdeal.main_arg10)
          ∧ r.2.mem ((c.tc : Thread Cert.PoolRefIdeal.nD Cert.PoolRefIdeal.τ).loc Cert.PoolRefIdeal.main_arg11) = m' ((c.tc : Thread Cert.PoolRefIdeal.nD Cert.PoolRefIdeal.τ).loc Cert.PoolRefIdeal.main_arg11))

def preserves_Qkv_QkvIdeal : Prop :=
  IdealRules.named_const.Statement Cert.QkvIdeal.κ "q_scale" .f32 0x3E38AA3B#32 (((1 / 8) * (Real.log 2)⁻¹ : ℝ) : EReal)

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v5_0)) (v1 : (c : Dev Cert.QkvIdeal.nD) → Buf (Elt Ideal) ((c.tc : Thread Cert.QkvIdeal.nD Cert.QkvIdeal.τ).loc Cert.QkvIdeal.main_v5_1)) (v2 : (c : Dev Cert.QkvIdeal.nD) → Buf (Elt Ideal) ((c.tc : Thread Cert.QkvIdeal.nD Cert.QkvIdeal.τ).loc Cert.QkvIdeal.main_v5_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v5_0) = v0 c
          ∧ r.2.mem ((c.tc : Thread Cert.QkvIdeal.nD Cert.QkvIdeal.τ).loc Cert.QkvIdeal.main_v5_1) = v1 c
          ∧ r.2.mem ((c.tc : Thread Cert.QkvIdeal.nD Cert.QkvIdeal.τ).loc Cert.QkvIdeal.main_v5_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v25) = v0 c
          ∧ r.2.mem ((c.tc : Thread Cert.QkvRefIdeal.nD Cert.QkvRefIdeal.τ).loc Cert.QkvRefIdeal.main_v26) = v1 c
          ∧ r.2.mem ((c.tc : Thread Cert.QkvRefIdeal.nD Cert.QkvRefIdeal.τ).loc Cert.QkvRefIdeal.main_v27) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_Attn_AttnIdeal : Prop :=
  True

def Claim : Prop :=
  ∃ (hFfn : Cert.Ffn.Facts) (hFfnIdeal : Cert.FfnIdeal.Facts) (hFfnRefIdeal : Cert.FfnRefIdeal.Facts) (hOut : Cert.Out.Facts) (hOutIdeal : Cert.OutIdeal.Facts) (hOutRefIdeal : Cert.OutRefIdeal.Facts) (hPool : Cert.Pool.Facts) (hPoolIdeal : Cert.PoolIdeal.Facts) (hPoolRefIdeal : Cert.PoolRefIdeal.Facts) (hQkv : Cert.Qkv.Facts) (hQkvIdeal : Cert.QkvIdeal.Facts) (hQkvRefIdeal : Cert.QkvRefIdeal.Facts) (hAttn : Cert.Attn.Facts) (hAttnIdeal : Cert.AttnIdeal.Facts) (hPre_pre_gain_finite : Cert.Pre_pre_gain_finite.Facts),
    quiescent_Ffn (hFfn := hFfn)
    ∧ quiescent_FfnIdeal (hFfnIdeal := hFfnIdeal)
    ∧ quiescent_FfnRefIdeal (hFfnRefIdeal := hFfnRefIdeal)
    ∧ quiescent_Out (hOut := hOut)
    ∧ quiescent_OutIdeal (hOutIdeal := hOutIdeal)
    ∧ quiescent_OutRefIdeal (hOutRefIdeal := hOutRefIdeal)
    ∧ quiescent_Pool (hPool := hPool)
    ∧ quiescent_PoolIdeal (hPoolIdeal := hPoolIdeal)
    ∧ quiescent_PoolIdeal_pre_pre_gain_finite (hPoolIdeal := hPoolIdeal) (hPre_pre_gain_finite := hPre_pre_gain_finite)
    ∧ quiescent_PoolRefIdeal (hPoolRefIdeal := hPoolRefIdeal)
    ∧ quiescent_PoolRefIdeal_pre_pre_gain_finite (hPoolRefIdeal := hPoolRefIdeal) (hPre_pre_gain_finite := hPre_pre_gain_finite)
    ∧ quiescent_Qkv (hQkv := hQkv)
    ∧ quiescent_QkvIdeal (hQkvIdeal := hQkvIdeal)
    ∧ quiescent_QkvRefIdeal (hQkvRefIdeal := hQkvRefIdeal)
    ∧ quiescent_Attn (hAttn := hAttn)
    ∧ quiescent_AttnIdeal (hAttnIdeal := hAttnIdeal)
    ∧ preserves_Ffn_FfnIdeal
    ∧ algebraic_FfnIdeal_FfnRefIdeal (hFfnIdeal := hFfnIdeal) (hFfnRefIdeal := hFfnRefIdeal)
    ∧ preserves_Out_OutIdeal
    ∧ algebraic_OutIdeal_OutRefIdeal (hOutIdeal := hOutIdeal) (hOutRefIdeal := hOutRefIdeal)
    ∧ preserves_Pool_PoolIdeal
    ∧ algebraic_PoolIdeal_PoolRefIdeal_pre_pre_gain_finite (hPoolIdeal := hPoolIdeal) (hPoolRefIdeal := hPoolRefIdeal) (hPre_pre_gain_finite := hPre_pre_gain_finite)
    ∧ preserves_Qkv_QkvIdeal
    ∧ algebraic_QkvIdeal_QkvRefIdeal (hQkvIdeal := hQkvIdeal) (hQkvRefIdeal := hQkvRefIdeal)
    ∧ preserves_Attn_AttnIdeal
-- ==== Pre_pre_gain_finite.lean ====
abbrev S16384x1024 : Shape := ⟨2, ![16384, 1024]⟩
abbrev S16x1024 : Shape := ⟨2, ![16, 1024]⟩
abbrev S2x1024 : Shape := ⟨2, ![2, 1024]⟩
abbrev S1x4x256x256 : Shape := ⟨4, ![1, 4, 256, 256]⟩
abbrev S1x4x256 : Shape := ⟨3, ![1, 4, 256]⟩
abbrev S1x1024 : Shape := ⟨2, ![1, 1024]⟩
abbrev S2x2x1024 : Shape := ⟨3, ![2, 2, 1024]⟩
abbrev S2x2x1024x2816 : Shape := ⟨4, ![2, 2, 1024, 2816]⟩
abbrev S2x2x2816x1024 : Shape := ⟨4, ![2, 2, 2816, 1024]⟩
abbrev S1024 : Shape := ⟨1, ![1024]⟩
abbrev S_ : Shape := ⟨0, ![]⟩

class Facts : Prop where
  slices_S2x1024_S1x1024_0_0 : S2x1024.Slices ![0, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S16384x1024 .f32) (main_arg1 : FVec F S16x1024 .f32) (main_arg2 : FVec F S2x1024 .f32) (main_arg3 : FVec F S2x1024 .f32) (main_arg4 : FVec F S1x4x256x256 .f32) (main_arg5 : FVec F S1x4x256 .f32) (main_arg6 : FVec F S1x1024 .f32) (main_arg7 : FVec F S2x2x1024 .f32) (main_arg8 : FVec F S2x2x1024 .f32) (main_arg9 : FVec F S2x2x1024x2816 .f32) (main_arg10 : FVec F S2x2x1024x2816 .f32) (main_arg11 : FVec F S2x2x2816x1024 .f32) : IVec S_ 1 :=
  let main_v0 : FVec F S1x1024 .f32 := (extractStridedSlice S1x1024 ![0, 0] · slices_S2x1024_S1x1024_0_0) main_arg2
  let main_v1 : FVec F S1024 .f32 := shapeCast S1024 main_v0 shapeCasts_S1x1024_S1024
  let main_v2 : FVec F S1024 .f32 := Host.absf main_v1
  let main_cst : FVec F S_ .f32 := constant S_ .f32 0x7F800000#32
  let main_v3 : FVec F S1024 .f32 := broadcastInDim S1024 ![] bcast_S_S1024 main_cst
  let main_v4 : IVec S1024 1 := cmpf .olt main_v2 main_v3
  let main_c : IVec S_ 1 := constantI S_ 1 1#1
  let main_v5 : IVec S_ 1 := (fun x v => Host.reduce IntOp.andi x v reducesTo_S1024_S_d0 h_S_) main_v4 main_c
  main_v5
-- ==== Ffn.lean ====
abbrev S16384x1024 : Shape := ⟨2, ![16384, 1024]⟩
abbrev S2x2x1024 : Shape := ⟨3, ![2, 2, 1024]⟩
abbrev S2x2x1024x2816 : Shape := ⟨4, ![2, 2, 1024, 2816]⟩
abbrev S2x2x2816x1024 : Shape := ⟨4, ![2, 2, 2816, 1024]⟩
abbrev S1x1x1024 : Shape := ⟨3, ![1, 1, 1024]⟩
abbrev S1024 : Shape := ⟨1, ![1024]⟩
abbrev S1x1024 : Shape := ⟨2, ![1, 1024]⟩
abbrev S1024x1024 : Shape := ⟨2, ![1024, 1024]⟩
abbrev S1x1x1024x2816 : Shape := ⟨4, ![1, 1, 1024, 2816]⟩
abbrev S1x1x2816x1024 : Shape := ⟨4, ![1, 1, 2816, 1024]⟩
abbrev S512x1024 : Shape := ⟨2, ![512, 1024]⟩
abbrev S512 : Shape := ⟨1, ![512]⟩
abbrev S512x1 : Shape := ⟨2, ![512, 1]⟩
abbrev S1x1x1024x1024 : Shape := ⟨4, ![1, 1, 1024, 1024]⟩
abbrev S1x1x1024x768 : Shape := ⟨4, ![1, 1, 1024, 768]⟩
abbrev S1024x768 : Shape := ⟨2, ![1024, 768]⟩
abbrev S512x768 : Shape := ⟨2, ![512, 768]⟩
abbrev S1x1x768x1024 : Shape := ⟨4, ![1, 1, 768, 1024]⟩
abbrev S768x1024 : Shape := ⟨2, ![768, 1024]⟩

abbrev nBuf : Space → Nat
  | .hbm => 16
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S2x2x1024, .f32⟩
  | .hbm, ⟨2, _⟩ => ⟨S2x2x1024, .f32⟩
  | .hbm, ⟨3, _⟩ => ⟨S2x2x1024x2816, .f32⟩
  | .hbm, ⟨4, _⟩ => ⟨S2x2x1024x2816, .f32⟩
  | .hbm, ⟨5, _⟩ => ⟨S2x2x2816x1024, .f32⟩
  | .hbm, ⟨6, _⟩ => ⟨S2x2x1024x2816, .bf16⟩
  | .hbm, ⟨7, _⟩ => ⟨S2x2x1024x2816, .bf16⟩
  | .hbm, ⟨8, _⟩ => ⟨S2x2x2816x1024, .bf16⟩
  | .hbm, ⟨9, _⟩ => ⟨S1x1x1024, .f32⟩
  | .hbm, ⟨10, _⟩ => ⟨S1024, .f32⟩
  | .hbm, ⟨11, _⟩ => ⟨S1x1024, .f32⟩
  | .hbm, ⟨12, _⟩ => ⟨S1x1x1024, .f32⟩
  | .hbm, ⟨13, _⟩ => ⟨S1024, .f32⟩
  | .hbm, ⟨14, _⟩ => ⟨S1x1024, .f32⟩
  | .hbm, ⟨15, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024x2816, .bf16⟩
  | .local _ .vmem, ⟨4, _⟩ => ⟨S1x1x1024x2816, .bf16⟩
  | .local _ .vmem, ⟨5, _⟩ => ⟨S1x1x2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnRefIdeal.lean ====
abbrev S16384x1024 : Shape := ⟨2, ![16384, 1024]⟩
abbrev S2x2x1024 : Shape := ⟨3, ![2, 2, 1024]⟩
abbrev S2x2x1024x2816 : Shape := ⟨4, ![2, 2, 1024, 2816]⟩
abbrev S2x2x2816x1024 : Shape := ⟨4, ![2, 2, 2816, 1024]⟩
abbrev S1x1x1024 : Shape := ⟨3, ![1, 1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S16384x2816 : Shape := ⟨2, ![16384, 2816]⟩

abbrev nBuf : Space → Nat
  | .hbm => 65
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x2x1024, .f32⟩
  | .hbm, ⟨2, _⟩ => ⟨S2x2x1024, .f32⟩
  | .hbm, ⟨3, _⟩ => ⟨S2x2x1024x2816, .f32⟩
  | .hbm, ⟨4, _⟩ => ⟨S2x2x1024x2816, .f32⟩
  | .hbm, ⟨5, _⟩ => ⟨S2x2x2816x1024, .f32⟩
  | .hbm, ⟨6, _⟩ => ⟨S1x1x1024, .f32⟩
  | .hbm, ⟨7, _⟩ => ⟨S1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S1x1x1024x2816, .f32⟩
  | .hbm, ⟨25, _⟩ => ⟨S1024x2816, .f32⟩
  | .hbm, ⟨26, _⟩ => ⟨S1x1x1024x2816, .f32⟩
  | .hbm, ⟨27, _⟩ => ⟨S1024x2816, .f32⟩
  | .hbm, ⟨28, _⟩ => ⟨S1x1x2816x1024, .f32⟩
  | .hbm, ⟨29, _⟩ => ⟨S2816x1024, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S_, .f32⟩
  | .hbm, ⟨34, _⟩ => ⟨S16384x2816, .f32⟩
  | .hbm, ⟨35, _⟩ => ⟨S16384x2816, .f32⟩
  | .hbm, ⟨36, _⟩ => ⟨S_, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S16384x1024, .f32⟩
  | .hbm, ⟨43, _⟩ => ⟨S1x1x1024, .f32⟩
  | .hbm, ⟨44, _⟩ => ⟨S1024, .f32⟩
  | .hbm, ⟨45, _⟩ => ⟨S16384x1024, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S1x1024, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S16384x1024, .f32⟩
  | .hbm, ⟨63, _⟩ => ⟨S16384x1024, .f32⟩
  | .hbm, ⟨64, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]
-- ==== Out.lean ====
abbrev S16384x1024 : Shape := ⟨2, ![16384, 1024]⟩
abbrev S1x1024x1024 : Shape := ⟨3, ![1, 1024, 1024]⟩
abbrev S2x1024 : Shape := ⟨2, ![2, 1024]⟩
abbrev S2x2x1024 : Shape := ⟨3, ![2, 2, 1024]⟩
abbrev S2x2x1024x2816 : Shape := ⟨4, ![2, 2, 1024, 2816]⟩
abbrev S2x2x2816x1024 : Shape := ⟨4, ![2, 2, 2816, 1024]⟩
abbrev S1x1x1024 : Shape := ⟨3, ![1, 1, 1024]⟩
abbrev S1024 : Shape := ⟨1, ![1024]⟩
abbrev S1x1024 : Shape := ⟨2, ![1, 1024]⟩
abbrev S1024x1024 : Shape := ⟨2, ![1024, 1024]⟩
abbrev S1x1x1024x2816 : Shape := ⟨4, ![1, 1, 1024, 2816]⟩
abbrev S1x1x2816x1024 : Shape := ⟨4, ![1, 1, 2816, 1024]⟩
abbrev S512x1024 : Shape := ⟨2, ![512, 1024]⟩
abbrev S512 : Shape := ⟨1, ![512]⟩
abbrev S512x1 : Shape := ⟨2, ![512, 1]⟩
abbrev S1x1x1024x1024 : Shape := ⟨4, ![1, 1, 1024, 1024]⟩
abbrev S1x1x1024x768 : Shape := ⟨4, ![1, 1, 1024, 768]⟩
abbrev S1024x768 : Shape := ⟨2, ![1024, 768]⟩
abbrev S512x768 : Shape := ⟨2, ![512, 768]⟩
abbrev S1x1x768x1024 : Shape := ⟨4, ![1, 1, 768, 1024]⟩
abbrev S768x1024 : Shape := ⟨2, ![768, 1024]⟩

abbrev nBuf : Space → Nat
  | .hbm => 24
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1x1024x1024, .f32⟩
  | .hbm, ⟨3, _⟩ => ⟨S2x1024, .f32⟩
  | .hbm, ⟨4, _⟩ => ⟨S2x2x1024, .f32⟩
  | .hbm, ⟨5, _⟩ => ⟨S2x2x1024, .f32⟩
  | .hbm, ⟨6, _⟩ => ⟨S2x2x1024x2816, .f32⟩
  | .hbm, ⟨7, _⟩ => ⟨S2x2x1024x2816, .f32⟩
  | .hbm, ⟨8, _⟩ => ⟨S2x2x2816x1024, .f32⟩
  | .hbm, ⟨9, _⟩ => ⟨S2x2x1024x2816, .bf16⟩
  | .hbm, ⟨10, _⟩ => ⟨S2x2x1024x2816, .bf16⟩
  | .hbm, ⟨11, _⟩ => ⟨S2x2x2816x1024, .bf16⟩
  | .hbm, ⟨12, _⟩ => ⟨S1x1x1024, .f32⟩
  | .hbm, ⟨13, _⟩ => ⟨S1024, .f32⟩
  | .hbm, ⟨14, _⟩ => ⟨S1x1024, .f32⟩
  | .hbm, ⟨15, _⟩ => ⟨S1x1x1024, .f32⟩
  | .hbm, ⟨16, _⟩ => ⟨S1024, .f32⟩
  | .hbm, ⟨17, _⟩ => ⟨S1x1024, .f32⟩
  | .hbm, ⟨18, _⟩ => ⟨S1024x1024, .f32⟩
  | .hbm, ⟨19, _⟩ => ⟨S1024x1024, .bf16⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1x1024x2816, .bf16⟩
  | .local _ .vmem, ⟨8, _⟩ => ⟨S1x1x1024x2816, .bf16⟩
  | .local _ .vmem, ⟨9, _⟩ => ⟨S1x1x2816x1024, .bf16⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== OutRefIdeal.lean ====
abbrev S16384x1024 : Shape := ⟨2, ![16384, 1024]⟩
abbrev S1x1024x1024 : Shape := ⟨3, ![1, 1024, 1024]⟩
abbrev S2x1024 : Shape := ⟨2, ![2, 1024]⟩
abbrev S2x2x1024 : Shape := ⟨3, ![2, 2, 1024]⟩
abbrev S2x2x1024x2816 : Shape := ⟨4, ![2, 2, 1024, 2816]⟩
abbrev S2x2x2816x1024 : Shape := ⟨4, ![2, 2, 2816, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1x1024 : Shape := ⟨3, ![1, 1, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S16384x2816 : Shape := ⟨2, ![16384, 2816]⟩

abbrev nBuf : Space → Nat
  | .hbm => 90
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1x1024x1024, .f32⟩
  | .hbm, ⟨3, _⟩ => ⟨S2x1024, .f32⟩
  | .hbm, ⟨4, _⟩ => ⟨S2x2x1024, .f32⟩
  | .hbm, ⟨5, _⟩ => ⟨S2x2x1024, .f32⟩
  | .hbm, ⟨6, _⟩ => ⟨S2x2x1024x2816, .f32⟩
  | .hbm, ⟨7, _⟩ => ⟨S2x2x1024x2816, .f32⟩
  | .hbm, ⟨8, _⟩ => ⟨S2x2x2816x1024, .f32⟩
  | .hbm, ⟨9, _⟩ => ⟨S16384x1024, .f32⟩
  | .hbm, ⟨10, _⟩ => ⟨S1024x1024, .f32⟩
  | .hbm, ⟨11, _⟩ => ⟨S16384x1024, .f32⟩
  | .hbm, ⟨12, _⟩ => ⟨S1x1024, .f32⟩
  | .hbm, ⟨13, _⟩ => ⟨S1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S1x1x1024, .f32⟩
  | .hbm, ⟨32, _⟩ => ⟨S1024, .f32⟩
  | .hbm, ⟨33, _⟩ => ⟨S16384x1024, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S1x1x1024x2816, .f32⟩
  | .hbm, ⟨50, _⟩ => ⟨S1024x2816, .f32⟩
  | .hbm, ⟨51, _⟩ => ⟨S1x1x1024x2816, .f32⟩
  | .hbm, ⟨52, _⟩ => ⟨S1024x2816, .f32⟩
  | .hbm, ⟨53, _⟩ => ⟨S1x1x2816x1024, .f32⟩
  | .hbm, ⟨54, _⟩ => ⟨S2816x1024, .f32⟩
  | .hbm, ⟨55, _⟩ => ⟨S16384x2816, .f32⟩
  | .hbm, ⟨56, _⟩ => ⟨S16384x2816, .f32⟩
  | .hbm, ⟨57, _⟩ => ⟨S16384x2816, .f32⟩
  | .hbm, ⟨58, _⟩ => ⟨S_, .f32⟩
  | .hbm, ⟨59, _⟩ => ⟨S16384x2816, .f32⟩
  | .hbm, ⟨60, _⟩ => ⟨S16384x2816, .f32⟩
  | .hbm, ⟨61, _⟩ => ⟨S_, .f32⟩
  | .hbm, ⟨62, _⟩ => ⟨S16384x2816, .f32⟩
  | .hbm, ⟨63, _⟩ => ⟨S16384x2816, .f32⟩
  | .hbm, ⟨64, _⟩ => ⟨S16384x2816, .f32⟩
  | .hbm, ⟨65, _⟩ => ⟨S16384x2816, .f32⟩
  | .hbm, ⟨66, _⟩ => ⟨S16384x2816, .f32⟩
  | .hbm, ⟨67, _⟩ => ⟨S16384x1024, .f32⟩
  | .hbm, ⟨68, _⟩ => ⟨S1x1x1024, .f32⟩
  | .hbm, ⟨69, _⟩ => ⟨S1024, .f32⟩
  | .hbm, ⟨70, _⟩ => ⟨S16384x1024, .f32⟩
  | .hbm, ⟨71, _⟩ => ⟨S_, .f32⟩
  | .hbm, ⟨72, _⟩ => ⟨S16384, .f32⟩
  | .hbm, ⟨73, _⟩ => ⟨S16384x1, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S_, .f32⟩
  | .hbm, ⟨78, _⟩ => ⟨S16384x1, .f32⟩
  | .hbm, ⟨79, _⟩ => ⟨S16384x1, .f32⟩
  | .hbm, ⟨80, _⟩ => ⟨S16384x1, .f32⟩
  | .hbm, ⟨81, _⟩ => ⟨S16384x1024, .f32⟩
  | .hbm, ⟨82, _⟩ => ⟨S16384x1024, .f32⟩
  | .hbm, ⟨83, _⟩ => ⟨S1x1024, .f32⟩
  | .hbm, ⟨84, _⟩ => ⟨S16384x1024, .f32⟩
  | .hbm, ⟨85, _⟩ => ⟨S16384x1024, .f32⟩
  | .hbm, ⟨86, _⟩ => ⟨S_, .f32⟩
  | .hbm, ⟨87, _⟩ => ⟨S16384x1024, .f32⟩
  | .hbm, ⟨88, _⟩ => ⟨S16384x1024, .f32⟩
  | .hbm, ⟨89, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_5 : Ref sig .tc := ⟨.hbm, 71, rfl⟩
abbrev main_v48 : Ref sig .tc := ⟨.hbm, 72, rfl⟩
abbrev main_v49 : Ref sig .tc := ⟨.hbm, 73, rfl⟩
abbrev main_cst_6 : Ref sig .tc := ⟨.hbm, 74, rfl⟩
abbrev main_v50 : Ref sig .tc := ⟨.hbm, 75, rfl⟩
abbrev main_v51 : Ref sig .tc := ⟨.hbm, 76, rfl⟩
abbrev main_cst_7 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_8 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩

abbrev nD : Nat := 1
abbrev τ : Topo := Topo.v7x

variable {F : FTy → Type} [FloatOps F]
-- ==== Pool.lean ====
abbrev S16384x1024 : Shape := ⟨2, ![16384, 1024]⟩
abbrev S16x1024 : Shape := ⟨2, ![16, 1024]⟩
abbrev S2x1024 : Shape := ⟨2, ![2, 1024]⟩
abbrev S1x4x256x256 : Shape := ⟨4, ![1, 4, 256, 256]⟩
abbrev S1x4x256 : Shape := ⟨3, ![1, 4, 256]⟩
abbrev S1x1024 : Shape := ⟨2, ![1, 1024]⟩
abbrev S2x2x1024 : Shape := ⟨3, ![2, 2, 1024]⟩
abbrev S2x2x1024x2816 : Shape := ⟨4, ![2, 2, 1024, 2816]⟩
abbrev S2x2x2816x1024 : Shape := ⟨4, ![2, 2, 2816, 1024]⟩
abbrev S1x1x1024 : Shape := ⟨3, ![1, 1, 1024]⟩
abbrev S1024 : Shape := ⟨1, ![1024]⟩
abbrev S4x256x256 : Shape := ⟨3, ![4, 256, 256]⟩
abbrev S4x256 : Shape := ⟨2, ![4, 256]⟩
abbrev S1024x1024 : Shape := ⟨2, ![1024, 1024]⟩
abbrev S1x1x1024x2816 : Shape := ⟨4, ![1, 1, 1024, 2816]⟩
abbrev S1x1x2816x1024 : Shape := ⟨4, ![1, 1, 2816, 1024]⟩
abbrev S512x1024 : Shape := ⟨2, ![512, 1024]⟩
abbrev S512 : Shape := ⟨1, ![512]⟩
abbrev S512x1 : Shape := ⟨2, ![512, 1]⟩
abbrev S16 : Shape := ⟨1, ![16]⟩
abbrev S16x1 : Shape := ⟨2, ![16, 1]⟩
abbrev S528x1024 : Shape := ⟨2, ![528, 1024]⟩
abbrev S528x256 : Shape := ⟨2, ![528, 256]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩
abbrev S1x1x1024x512 : Shape := ⟨4, ![1, 1, 1024, 512]⟩
abbrev S1024x512 : Shape := ⟨2, ![1024, 512]⟩
abbrev S512x512 : Shape := ⟨2, ![512, 512]⟩
abbrev S1x1x512x1024 : Shape := ⟨4, ![1, 1, 512, 1024]⟩
abbrev S1x1x1024x256 : Shape := ⟨4, ![1, 1, 1024, 256]⟩
abbrev S1024x256 : Shape := ⟨2, ![1024, 256]⟩
abbrev S1x1x256x1024 : Shape := ⟨4, ![1, 1, 256, 1024]⟩
abbrev S256x1024 : Shape := ⟨2, ![256, 1024]⟩

abbrev nBuf : Space → Nat
  | .hbm => 34
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16x1024, .f32⟩
  | .hbm, ⟨2, _⟩ => ⟨S2x1024, .f32⟩
  | .hbm, ⟨3, _⟩ => ⟨S2x1024, .f32⟩
  | .hbm, ⟨4, _⟩ => ⟨S1x4x256x256, .f32⟩
  | .hbm, ⟨5, _⟩ => ⟨S1x4x256, .f32⟩
  | .hbm, ⟨6, _⟩ => ⟨S1x1024, .f32⟩
  | .hbm, ⟨7, _⟩ => ⟨S2x2x1024, .f32⟩
  | .hbm, ⟨8, _⟩ => ⟨S2x2x1024, .f32⟩
  | .hbm, ⟨9, _⟩ => ⟨S2x2x1024x2816, .f32⟩
  | .hbm, ⟨10, _⟩ => ⟨S2x2x1024x2816, .f32⟩
  | .hbm, ⟨11, _⟩ => ⟨S2x2x2816x1024, .f32⟩
  | .hbm, ⟨12, _⟩ => ⟨S2x2x1024x2816, .bf16⟩
  | .hbm, ⟨13, _⟩ => ⟨S2x2x1024x2816, .bf16⟩
  | .hbm, ⟨14, _⟩ => ⟨S2x2x2816x1024, .bf16⟩
  | .hbm, ⟨15, _⟩ => ⟨S1x1x1024, .f32⟩
  | .hbm, ⟨16, _⟩ => ⟨S1024, .f32⟩
  | .hbm, ⟨17, _⟩ => ⟨S1x1024, .f32⟩
  | .hbm, ⟨18, _⟩ => ⟨S1x1x1024, .f32⟩
  | .hbm, ⟨19, _⟩ => ⟨S1024, .f32⟩
  | .hbm, ⟨20, _⟩ => ⟨S1x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S4x256x256, .f32⟩
  | .hbm, ⟨25, _⟩ => ⟨S4x256x256, .bf16⟩
  | .hbm, ⟨26, _⟩ => ⟨S4x256, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S16384x1024, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S1x1024, .f32⟩
  | .local _ .vmem, ⟨4, _⟩ => ⟨S4x256x256, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1x1x1024x2816, .bf16⟩
  | .local _ .vmem, ⟨12, _⟩ => ⟨S1x1x1024x2816, .bf16⟩
  | .local _ .vmem, ⟨13, _⟩ => ⟨S1x1x2816x1024, .bf16⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c64_i32 : BitVec 32 := 64#32
  let v1 : BitVec 32 := Scalar.muli arg1 c64_i32
  let v2 : BitVec 32 := Scalar.addi v0 v1
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1x2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== PoolRefIdeal.lean ====
abbrev S16384x1024 : Shape := ⟨2, ![16384, 1024]⟩
abbrev S16x1024 : Shape := ⟨2, ![16, 1024]⟩
abbrev S2x1024 : Shape := ⟨2, ![2, 1024]⟩
abbrev S1x4x256x256 : Shape := ⟨4, ![1, 4, 256, 256]⟩
abbrev S1x4x256 : Shape := ⟨3, ![1, 4, 256]⟩
abbrev S1x1024 : Shape := ⟨2, ![1, 1024]⟩
abbrev S2x2x1024 : Shape := ⟨3, ![2, 2, 1024]⟩
abbrev S2x2x1024x2816 : Shape := ⟨4, ![2, 2, 1024, 2816]⟩
abbrev S2x2x2816x1024 : Shape := ⟨4, ![2, 2, 2816, 1024]⟩
abbrev S1x16x1024 : Shape := ⟨3, ![1, 16, 1024]⟩
abbrev S4x16x1024 : Shape := ⟨3, ![4, 16, 1024]⟩
abbrev S4x4096x1024 : Shape := ⟨3, ![4, 4096, 1024]⟩
abbrev S4x4112x1024 : Shape := ⟨3, ![4, 4112, 1024]⟩
abbrev S1024 : Shape := ⟨1, ![1024]⟩
abbrev S_ : Shape := ⟨0, ![]⟩
abbrev S4x4112 : Shape := ⟨2, ![4, 4112]⟩
abbrev S4x4112x1 : Shape := ⟨3, ![4, 4112, 1]⟩
abbrev S1x1x1024 : Shape := ⟨3, ![1, 1, 1024]⟩
abbrev S4x256x256 : Shape := ⟨3, ![4, 256, 256]⟩
abbrev S4x256 : Shape := ⟨2, ![4, 256]⟩
abbrev S4x4113x1024 : Shape := ⟨3, ![4, 4113, 1024]⟩
abbrev S4x4112x4x256 : Shape := ⟨4, ![4, 4112, 4, 256]⟩
abbrev S4x4113x4x256 : Shape := ⟨4, ![4, 4113, 4, 256]⟩
abbrev S4112 : Shape := ⟨1, ![4112]⟩
abbrev S4x4112x1x256 : Shape := ⟨4, ![4, 4112, 1, 256]⟩
abbrev S4x4112x256 : Shape := ⟨3, ![4, 4112, 256]⟩
abbrev S4x4113x1x256 : Shape := ⟨4, ![4, 4113, 1, 256]⟩
abbrev S4x4113x256 : Shape := ⟨3, ![4, 4113, 256]⟩
abbrev S4112x1 : Shape := ⟨2, ![4112, 1]⟩
abbrev S1x4112x1 : Shape := ⟨3, ![1, 4112, 1]⟩
abbrev S4x256x4x4112 : Shape := ⟨4, ![4, 256, 4, 4112]⟩
abbrev S1x1x4x256 : Shape := ⟨4, ![1, 1, 4, 256]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S4x4112x2816 : Shape := ⟨3, ![4, 4112, 2816]⟩

abbrev nBuf : Space → Nat
  | .hbm => 265
  | .vmem => 0
  | .smem => 0
  | _ => 0

abbrev hbmTy0_0 (i : Nat) : BufTy := match i % 128 with
  | 0 => ⟨S16384x1024, .f32⟩
  | 1 => ⟨S16x1024, .f32⟩
  | 2 => ⟨S2x1024, .f32⟩
  | 3 => ⟨S2x1024, .f32⟩
  | 4 => ⟨S1x4x256x256, .f32⟩
  | 5 => ⟨S1x4x256, .f32⟩
  | 6 => ⟨S1x1024, .f32⟩
  | 7 => ⟨S2x2x1024, .f32⟩
  | 8 => ⟨S2x2x1024, .f32⟩
  | 9 => ⟨S2x2x1024x2816, .f32⟩
  | 10 => ⟨S2x2x1024x2816, .f32⟩
  | 11 => ⟨S2x2x2816x1024, .f32⟩
  | 12 => ⟨S1x16x1024, .f32⟩
  | 13 => ⟨S4x16x1024, .f32⟩
  | 14 => ⟨S4x4096x1024, .f32⟩
  | 15 => ⟨S4x4112x1024, .f32⟩
  | 16 => ⟨S1x1024, .f32⟩
  | 17 => ⟨S1024, .f32⟩
  | 18 => ⟨S4x4112x1024, .f32⟩
  | 19 => ⟨S_, .f32⟩
  | 20 => ⟨S4x4112, .f32⟩
  | 21 => ⟨S4x4112x1, .f32⟩
  | 22 => ⟨S_, .f32⟩
  | 23 => ⟨S4x4112x1, .f32⟩
  | 24 => ⟨S4x4112x1, .f32⟩
  | 25 => ⟨S_, .f32⟩
  | 26 => ⟨S4x4112x1, .f32⟩
  | 27 => ⟨S4x4112x1, .f32⟩
  | 28 => ⟨S4x4112x1, .f32⟩
  | 29 => ⟨S4x4112x1024, .f32⟩
  | 30 => ⟨S4x4112x1024, .f32⟩
  | 31 => ⟨S1x1x1024, .f32⟩
  | 32 => ⟨S4x4112x1024, .f32⟩
  | 33 => ⟨S4x4112x1024, .f32⟩
  | 34 => ⟨S4x256x256, .f32⟩
  | 35 => ⟨S4x256, .f32⟩
  | 36 => ⟨S1024, .f32⟩
  | 37 => ⟨S_, .f32⟩
  | 38 => ⟨S_, .f32⟩
  | 39 => ⟨S4x4112x1024, .f32⟩
  | 40 => ⟨S_, .i32⟩
  | 41 => ⟨S_, .f32⟩
  | 42 => ⟨S4x4113x1024, .f32⟩
  | 43 => ⟨S4x4112x4x256, .f32⟩
  | 44 => ⟨S4x4113x4x256, .f32⟩
  | 45 => ⟨S4112, .i32⟩
  | 46 => ⟨S_, .i32⟩
  | 47 => ⟨S4112, .i32⟩
  | 48 => ⟨S4112, .i32⟩
  | 49 => ⟨S_, .i32⟩
  | 50 => ⟨S4112, .i32⟩
  | 51 => ⟨S4112, .i32⟩
  | 52 => ⟨S_, .i32⟩
  | 53 => ⟨S4112, .i32⟩
  | 54 => ⟨S4112, .i32⟩
  | 55 => ⟨S_, .i32⟩
  | 56 => ⟨S4112, .i32⟩
  | 57 => ⟨S4112, .i32⟩
  | 58 => ⟨S4112, .i32⟩
  | 59 => ⟨S4112, .f32⟩
  | 60 => ⟨S4x4112x1x256, .f32⟩
  | 61 => ⟨S4x4112x256, .f32⟩
  | 62 => ⟨S4x4113x1x256, .f32⟩
  | 63 => ⟨S4x4113x256, .f32⟩
  | 64 => ⟨S_, .i32⟩
  | 65 => ⟨S4112, .i32⟩
  | 66 => ⟨S4112, .i1⟩
  | 67 => ⟨S_, .i32⟩
  | 68 => ⟨S4112, .i32⟩
  | 69 => ⟨S4112, .i32⟩
  | 70 => ⟨S4112, .i32⟩
  | 71 => ⟨S4112x1, .i32⟩
  | 72 => ⟨S4x4112x256, .f32⟩
  | 73 => ⟨S4x4112x256, .f32⟩
  | 74 => ⟨S1x4112x1, .f32⟩
  | 75 => ⟨S4x4112x256, .f32⟩
  | 76 => ⟨S4x4112x256, .f32⟩
  | 77 => ⟨S_, .i32⟩
  | 78 => ⟨S4112, .i32⟩
  | 79 => ⟨S4112, .i32⟩
  | 80 => ⟨S_, .i32⟩
  | 81 => ⟨S4112, .i32⟩
  | 82 => ⟨S4112, .i32⟩
  | 83 => ⟨S_, .i32⟩
  | 84 => ⟨S4112, .i32⟩
  | 85 => ⟨S4112, .i32⟩
  | 86 => ⟨S_, .i32⟩
  | 87 => ⟨S4112, .i32⟩
  | 88 => ⟨S4112, .i32⟩
  | 89 => ⟨S4112, .i32⟩
  | 90 => ⟨S4112, .f32⟩
  | 91 => ⟨S4x4112x1x256, .f32⟩
  | 92 => ⟨S4x4112x256, .f32⟩
  | 93 => ⟨S4x4113x1x256, .f32⟩
  | 94 => ⟨S4x4113x256, .f32⟩
  | 95 => ⟨S_, .i32⟩
  | 96 => ⟨S4112, .i32⟩
  | 97 => ⟨S4112, .i1⟩
  | 98 => ⟨S_, .i32⟩
  | 99 => ⟨S4112, .i32⟩
  | 100 => ⟨S4112, .i32⟩
  | 101 => ⟨S4112, .i32⟩
  | 102 => ⟨S4112x1, .i32⟩
  | 103 => ⟨S4x4112x256, .f32⟩
  | 104 => ⟨S4x4112x256, .f32⟩
  | 105 => ⟨S1x4112x1, .f32⟩
  | 106 => ⟨S4x4112x256, .f32⟩
  | 107 => ⟨S4x4112x256, .f32⟩
  | 108 => ⟨S_, .i32⟩
  | 109 => ⟨S4112, .i32⟩
  | 110 => ⟨S4112, .i32⟩
  | 111 => ⟨S_, .i32⟩
  | 112 => ⟨S4112, .i32⟩
  | 113 => ⟨S4112, .i32⟩
  | 114 => ⟨S_, .i32⟩
  | 115 => ⟨S4112, .i32⟩
  | 116 => ⟨S4112, .i32⟩
  | 117 => ⟨S_, .i32⟩
  | 118 => ⟨S4112, .i32⟩
  | 119 => ⟨S4112, .i32⟩
  | 120 => ⟨S4112, .i32⟩
  | 121 => ⟨S4112, .f32⟩
  | 122 => ⟨S4x4112x1x256, .f32⟩
  | 123 => ⟨S4x4112x256, .f32⟩
  | 124 => ⟨S4x4113x1x256, .f32⟩
  | 125 => ⟨S4x4113x256, .f32⟩
  | 126 => ⟨S_, .i32⟩
  | 127 => ⟨S4112, .i32⟩
  | _ => ⟨S16384x1024, .f32⟩

abbrev hbmTy0_1 (i : Nat) : BufTy := match i % 128 with
  | 0 => ⟨S4112, .i1⟩
  | 1 => ⟨S_, .i32⟩
  | 2 => ⟨S4112, .i32⟩
  | 3 => ⟨S4112, .i32⟩
  | 4 => ⟨S4112, .i32⟩
  | 5 => ⟨S4112x1, .i32⟩
  | 6 => ⟨S4x4112x256, .f32⟩
  | 7 => ⟨S4x4112x256, .f32⟩
  | 8 => ⟨S1x4112x1, .f32⟩
  | 9 => ⟨S4x4112x256, .f32⟩
  | 10 => ⟨S4x4112x256, .f32⟩
  | 11 => ⟨S_, .i32⟩
  | 12 => ⟨S4112, .i32⟩
  | 13 => ⟨S4112, .i32⟩
  | 14 => ⟨S_, .i32⟩
  | 15 => ⟨S4112, .i32⟩
  | 16 => ⟨S4112, .i32⟩
  | 17 => ⟨S_, .i32⟩
  | 18 => ⟨S4112, .i32⟩
  | 19 => ⟨S4112, .i32⟩
  | 20 => ⟨S_, .i32⟩
  | 21 => ⟨S4112, .i32⟩
  | 22 => ⟨S4112, .i32⟩
  | 23 => ⟨S4112, .i32⟩
  | 24 => ⟨S4112, .f32⟩
  | 25 => ⟨S4x4112x1x256, .f32⟩
  | 26 => ⟨S4x4112x256, .f32⟩
  | 27 => ⟨S4x4113x1x256, .f32⟩
  | 28 => ⟨S4x4113x256, .f32⟩
  | 29 => ⟨S_, .i32⟩
  | 30 => ⟨S4112, .i32⟩
  | 31 => ⟨S4112, .i1⟩
  | 32 => ⟨S_, .i32⟩
  | 33 => ⟨S4112, .i32⟩
  | 34 => ⟨S4112, .i32⟩
  | 35 => ⟨S4112, .i32⟩
  | 36 => ⟨S4112x1, .i32⟩
  | 37 => ⟨S4x4112x256, .f32⟩
  | 38 => ⟨S4x4112x256, .f32⟩
  | 39 => ⟨S1x4112x1, .f32⟩
  | 40 => ⟨S4x4112x256, .f32⟩
  | 41 => ⟨S4x4112x256, .f32⟩
  | 42 => ⟨S4x4112x1x256, .f32⟩
  | 43 => ⟨S4x4112x1x256, .f32⟩
  | 44 => ⟨S4x4112x1x256, .f32⟩
  | 45 => ⟨S4x4112x1x256, .f32⟩
  | 46 => ⟨S4x4112x4x256, .f32⟩
  | 47 => ⟨S4x4112x4x256, .f32⟩
  | 48 => ⟨S4x256x4x4112, .f32⟩
  | 49 => ⟨S4x4112x4x256, .f32⟩
  | 50 => ⟨S1x1x4x256, .f32⟩
  | 51 => ⟨S4x4112x4x256, .f32⟩
  | 52 => ⟨S4x4112x4x256, .f32⟩
  | 53 => ⟨S4x4112x1024, .f32⟩
  | 54 => ⟨S1x1x1024, .f32⟩
  | 55 => ⟨S4x4112x1024, .f32⟩
  | 56 => ⟨S4x4112x1024, .f32⟩
  | 57 => ⟨S1x1024, .f32⟩
  | 58 => ⟨S1024, .f32⟩
  | 59 => ⟨S4x4112x1024, .f32⟩
  | 60 => ⟨S_, .f32⟩
  | 61 => ⟨S4x4112, .f32⟩
  | 62 => ⟨S4x4112x1, .f32⟩
  | 63 => ⟨S_, .f32⟩
  | 64 => ⟨S4x4112x1, .f32⟩
  | 65 => ⟨S4x4112x1, .f32⟩
  | 66 => ⟨S_, .f32⟩
  | 67 => ⟨S4x4112x1, .f32⟩
  | 68 => ⟨S4x4112x1, .f32⟩
  | 69 => ⟨S4x4112x1, .f32⟩
  | 70 => ⟨S4x4112x1024, .f32⟩
  | 71 => ⟨S4x4112x1024, .f32⟩
  | 72 => ⟨S1x1x1024, .f32⟩
  | 73 => ⟨S4x4112x1024, .f32⟩
  | 74 => ⟨S4x4112x1024, .f32⟩
  | 75 => ⟨S4x4112x1024, .f32⟩
  | 76 => ⟨S1x1x1024, .f32⟩
  | 77 => ⟨S1024, .f32⟩
  | 78 => ⟨S4x4112x1024, .f32⟩
  | 79 => ⟨S_, .f32⟩
  | 80 => ⟨S4x4112, .f32⟩
  | 81 => ⟨S4x4112x1, .f32⟩
  | 82 => ⟨S_, .f32⟩
  | 83 => ⟨S4x4112x1, .f32⟩
  | 84 => ⟨S4x4112x1, .f32⟩
  | 85 => ⟨S_, .f32⟩
  | 86 => ⟨S4x4112x1, .f32⟩
  | 87 => ⟨S4x4112x1, .f32⟩
  | 88 => ⟨S4x4112x1, .f32⟩
  | 89 => ⟨S4x4112x1024, .f32⟩
  | 90 => ⟨S4x4112x1024, .f32⟩
  | 91 => ⟨S1x1x1024, .f32⟩
  | 92 => ⟨S4x4112x1024, .f32⟩
  | 93 => ⟨S4x4112x1024, .f32⟩
  | 94 => ⟨S1x1x1024x2816, .f32⟩
  | 95 => ⟨S1024x2816, .f32⟩
  | 96 => ⟨S1x1x1024x2816, .f32⟩
  | 97 => ⟨S1024x2816, .f32⟩
  | 98 => ⟨S1x1x2816x1024, .f32⟩
  | 99 => ⟨S2816x1024, .f32⟩
  | 100 => ⟨S4x4112x2816, .f32⟩
  | 101 => ⟨S4x4112x2816, .f32⟩
  | 102 => ⟨S4x4112x2816, .f32⟩
  | 103 => ⟨S_, .f32⟩
  | 104 => ⟨S4x4112x2816, .f32⟩
  | 105 => ⟨S4x4112x2816, .f32⟩
  | 106 => ⟨S_, .f32⟩
  | 107 => ⟨S4x4112x2816, .f32⟩
  | 108 => ⟨S4x4112x2816, .f32⟩
  | 109 => ⟨S4x4112x2816, .f32⟩
  | 110 => ⟨S4x4112x2816, .f32⟩
  | 111 => ⟨S4x4112x2816, .f32⟩
  | 112 => ⟨S4x4112x1024, .f32⟩
  | 113 => ⟨S1x1x1024, .f32⟩
  | 114 => ⟨S1024, .f32⟩
  | 115 => ⟨S4x4112x1024, .f32⟩
  | 116 => ⟨S_, .f32⟩
  | 117 => ⟨S4x4112, .f32⟩
  | 118 => ⟨S4x4112x1, .f32⟩
  | 119 => ⟨S_, .f32⟩
  | 120 => ⟨S4x4112x1, .f32⟩
  | 121 => ⟨S4x4112x1, .f32⟩
  | 122 => ⟨S_, .f32⟩
  | 123 => ⟨S4x4112x1, .f32⟩
  | 124 => ⟨S4x4112x1, .f32⟩
  | 125 => ⟨S4x4112x1, .f32⟩
  | 126 => ⟨S4x4112x1024, .f32⟩
  | 127 => ⟨S4x4112x1024, .f32⟩
  | _ => ⟨S16384x1024, .f32⟩

abbrev hbmTy0_2 (i : Nat) : BufTy := match i % 128 with
  | 0 => ⟨S1x1x1024, .f32⟩
  | 1 => ⟨S4x4112x1024, .f32⟩
  | 2 => ⟨S4x4112x1024, .f32⟩
  | 3 => ⟨S_, .f32⟩
  | 4 => ⟨S4x4112x1024, .f32⟩
  | 5 => ⟨S4x4112x1024, .f32⟩
  | 6 => ⟨S4x4112x1024, .f32⟩
  | 7 => ⟨S4x4096x1024, .f32⟩
  | 8 => ⟨S16384x1024, .f32⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call0_call0_cst : Ref sig .tc := ⟨.hbm, 37, rfl⟩
abbrev main_call0_call0_v0 : Ref sig .tc := ⟨.hbm, 38, rfl⟩
abbrev main_v22 : Ref sig .tc := ⟨.hbm, 39, rfl⟩
abbrev main_c : Ref sig .tc := ⟨.hbm, 40, rfl⟩
abbrev main_call1_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_2 : Ref sig .tc := ⟨.hbm, 46, rfl⟩
abbrev main_v27 : Ref sig .tc := ⟨.hbm, 47, rfl⟩
abbrev main_v28 : Ref sig .tc := ⟨.hbm, 48, rfl⟩
abbrev main_c_3 : Ref sig .tc := ⟨.hbm, 49, rfl⟩
abbrev main_v29 : Ref sig .tc := ⟨.hbm, 50, rfl⟩
abbrev main_v30 : Ref sig .tc := ⟨.hbm, 51, rfl⟩
abbrev main_c_4 : Ref sig .tc := ⟨.hbm, 52, rfl⟩
abbrev main_v31 : Ref sig .tc := ⟨.hbm, 53, rfl⟩
abbrev main_v32 : Ref sig .tc := ⟨.hbm, 54, rfl⟩
abbrev main_c_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_6 : Ref sig .tc := ⟨.hbm, 64, rfl⟩
abbrev main_v41 : Ref sig .tc := ⟨.hbm, 65, rfl⟩
abbrev main_v42 : Ref sig .tc := ⟨.hbm, 66, rfl⟩
abbrev main_c_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_8 : Ref sig .tc := ⟨.hbm, 77, rfl⟩
abbrev main_v52 : Ref sig .tc := ⟨.hbm, 78, rfl⟩
abbrev main_v53 : Ref sig .tc := ⟨.hbm, 79, rfl⟩
abbrev main_c_9 : Ref sig .tc := ⟨.hbm, 80, rfl⟩
abbrev main_v54 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_12 : Ref sig .tc := ⟨.hbm, 95, rfl⟩
abbrev main_v66 : Ref sig .tc := ⟨.hbm, 96, rfl⟩
abbrev main_v67 : Ref sig .tc := ⟨.hbm, 97, rfl⟩
abbrev main_c_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_14 : Ref sig .tc := ⟨.hbm, 108, rfl⟩
abbrev main_v77 : Ref sig .tc := ⟨.hbm, 109, rfl⟩
abbrev main_v78 : Ref sig .tc := ⟨.hbm, 110, rfl⟩
abbrev main_c_15 : Ref sig .tc := ⟨.hbm, 111, rfl⟩
abbrev main_v79 : Ref sig .tc := ⟨.hbm, 112, rfl⟩
abbrev main_v80 : Ref sig .tc := ⟨.hbm, 113, rfl⟩
abbrev main_c_16 : Ref sig .tc := ⟨.hbm, 114, rfl⟩
abbrev main_v81 : Ref sig .tc := ⟨.hbm, 115, rfl⟩
abbrev main_v82 : Ref sig .tc := ⟨.hbm, 116, rfl⟩
abbrev main_c_17 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_c_18 : Ref sig .tc := ⟨.hbm, 126, rfl⟩
abbrev main_v91 : Ref sig .tc := ⟨.hbm, 127, rfl⟩
abbrev main_v92 : Ref sig .tc := ⟨.hbm, 128, rfl⟩
abbrev main_c_19 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_c_20 : Ref sig .tc := ⟨.hbm, 139, rfl⟩
abbrev main_v102 : Ref sig .tc := ⟨.hbm, 140, rfl⟩
abbrev main_v103 : Ref sig .tc := ⟨.hbm, 141, rfl⟩
abbrev main_c_21 : Ref sig .tc := ⟨.hbm, 142, rfl⟩
abbrev main_v104 : Ref sig .tc := ⟨.hbm, 143, rfl⟩
abbrev main_v105 : Ref sig .tc := ⟨.hbm, 144, rfl⟩
abbrev main_c_22 : Ref sig .tc := ⟨.hbm, 145, rfl⟩
abbrev main_v106 : Ref sig .tc := ⟨.hbm, 146, rfl⟩
abbrev main_v107 : Ref sig .tc := ⟨.hbm, 147, rfl⟩
abbrev main_c_23 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_c_24 : Ref sig .tc := ⟨.hbm, 157, rfl⟩
abbrev main_v116 : Ref sig .tc := ⟨.hbm, 158, rfl⟩
abbrev main_v117 : Ref sig .tc := ⟨.hbm, 159, rfl⟩
abbrev main_c_25 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_cst_26 : Ref sig .tc := ⟨.hbm, 188, rfl⟩
abbrev main_v145 : Ref sig .tc := ⟨.hbm, 189, rfl⟩
abbrev main_v146 : Ref sig .tc := ⟨.hbm, 190, rfl⟩
abbrev main_cst_27 : Ref sig .tc := ⟨.hbm, 191, rfl⟩
abbrev main_v147 : Ref sig .tc := ⟨.hbm, 192, rfl⟩
abbrev main_v148 : Ref sig .tc := ⟨.hbm, 193, rfl⟩
abbrev main_cst_28 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_cst_29 : Ref sig .tc := ⟨.hbm, 207, rfl⟩
abbrev main_v161 : Ref sig .tc := ⟨.hbm, 208, rfl⟩
abbrev main_v162 : Ref sig .tc := ⟨.hbm, 209, rfl⟩
abbrev main_cst_30 : Ref sig .tc := ⟨.hbm, 210, rfl⟩
abbrev main_v163 : Ref sig .tc := ⟨.hbm, 211, rfl⟩
abbrev main_v164 : Ref sig .tc := ⟨.hbm, 212, rfl⟩
abbrev main_cst_31 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_call2_v0 : Ref sig .tc := ⟨.hbm, 229, rfl⟩
abbrev main_call2_v1 : Ref sig .tc := ⟨.hbm, 230, rfl⟩
abbrev main_call2_cst : Ref sig .tc := ⟨.hbm, 231, rfl⟩
abbrev main_call2_v2 : Ref sig .tc := ⟨.hbm, 232, rfl⟩
abbrev main_call2_v3 : Ref sig .tc := ⟨.hbm, 233, rfl⟩
abbrev main_call2_cst_0 : Ref sig .tc := ⟨.hbm, 234, rfl⟩
abbrev main_call2_v4 : Ref sig .tc := ⟨.hbm, 235, rfl⟩
abbrev main_call2_v5 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_cst_32 : Ref sig .tc := ⟨.hbm, 244, rfl⟩
abbrev main_v187 : Ref sig .tc := ⟨.hbm, 245, rfl⟩
abbrev main_v188 : Ref sig .tc := ⟨.hbm, 246, rfl⟩
abbrev main_cst_33 : Ref sig .tc := ⟨.hbm, 247, rfl⟩
abbrev main_v189 : Ref sig .tc := ⟨.hbm, 248, rfl⟩
abbrev main_v190 : Ref sig .tc := ⟨.hbm, 249, rfl⟩
abbrev main_cst_34 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_cst_35 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩

abbrev nD : Nat := 1
abbrev τ : Topo := Topo.v7x

variable {F : FTy → Type} [FloatOps F]
-- ==== Qkv.lean ====
abbrev S16384x1024 : Shape := ⟨2, ![16384, 1024]⟩
abbrev S2x1024 : Shape := ⟨2, ![2, 1024]⟩
abbrev S1x1024x3072 : Shape := ⟨3, ![1, 1024, 3072]⟩
abbrev S1x1024 : Shape := ⟨2, ![1, 1024]⟩
abbrev S1024 : Shape := ⟨1, ![1024]⟩
abbrev S1024x3072 : Shape := ⟨2, ![1024, 3072]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x3072, .f32⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S1024x3072, .f32⟩
  | .hbm, ⟨7, _⟩ => ⟨S1024x3072, .bf16⟩
  | .hbm, ⟨8, _⟩ => ⟨S16384x1024, .bf16⟩
  | .hbm, ⟨9, _⟩ => ⟨S16384x1024, .bf16⟩
  | .hbm, ⟨10, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QkvIdeal.lean ====
variable {F : FTy → Type} [FloatOps F] [Named F]
def κ : String → Option EReal := fun
  | "q_scale" => some (((1 / 8) * (Real.log 2)⁻¹ : ℝ) : EReal)
  | _ => none
-- ==== QkvRefIdeal.lean ====
abbrev S16384x1024 : Shape := ⟨2, ![16384, 1024]⟩
abbrev S2x1024 : Shape := ⟨2, ![2, 1024]⟩
abbrev S1x1024x3072 : Shape := ⟨3, ![1, 1024, 3072]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x3072 : Shape := ⟨2, ![1024, 3072]⟩
abbrev S16384x3072 : Shape := ⟨2, ![16384, 3072]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x3072, .f32⟩
  | .hbm, ⟨3, _⟩ => ⟨S1x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1024x3072, .f32⟩
  | .hbm, ⟨22, _⟩ => ⟨S16384x3072, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S16384x1024, .bf16⟩
  | .hbm, ⟨34, _⟩ => ⟨S16384x1024, .bf16⟩
  | .hbm, ⟨35, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Attn.lean ====
abbrev S16384x1024 : Shape := ⟨2, ![16384, 1024]⟩
abbrev S16x1024 : Shape := ⟨2, ![16, 1024]⟩
abbrev S1x64 : Shape := ⟨2, ![1, 64]⟩
abbrev S1x128 : Shape := ⟨2, ![1, 128]⟩
abbrev S64 : Shape := ⟨1, ![64]⟩
abbrev S128 : Shape := ⟨1, ![128]⟩
abbrev S1024x128 : Shape := ⟨2, ![1024, 128]⟩
abbrev S4096x128 : Shape := ⟨2, ![4096, 128]⟩
abbrev S16x128 : Shape := ⟨2, ![16, 128]⟩
abbrev S2048x128 : Shape := ⟨2, ![2048, 128]⟩
abbrev S4096x256 : Shape := ⟨2, ![4096, 256]⟩
abbrev S128x128 : Shape := ⟨2, ![128, 128]⟩
abbrev S128x256 : Shape := ⟨2, ![128, 256]⟩
abbrev S2048x256 : Shape := ⟨2, ![2048, 256]⟩
abbrev S768x128 : Shape := ⟨2, ![768, 128]⟩
abbrev S512x128 : Shape := ⟨2, ![512, 128]⟩
abbrev S256x128 : Shape := ⟨2, ![256, 128]⟩
abbrev S1024 : Shape := ⟨1, ![1024]⟩
abbrev S1024x1 : Shape := ⟨2, ![1024, 1]⟩
abbrev S1024x256 : Shape := ⟨2, ![1024, 256]⟩
abbrev S256x256 : Shape := ⟨2, ![256, 256]⟩
abbrev S768x256 : Shape := ⟨2, ![768, 256]⟩
abbrev S768 : Shape := ⟨1, ![768]⟩
abbrev S768x1 : Shape := ⟨2, ![768, 1]⟩
abbrev S512x256 : Shape := ⟨2, ![512, 256]⟩
abbrev S512 : Shape := ⟨1, ![512]⟩
abbrev S512x1 : Shape := ⟨2, ![512, 1]⟩
abbrev S256 : Shape := ⟨1, ![256]⟩
abbrev S256x1 : Shape := ⟨2, ![256, 1]⟩
abbrev S256x1024 : Shape := ⟨2, ![256, 1024]⟩
abbrev S1 : Shape := ⟨1, ![1]⟩
abbrev S1x1 : Shape := ⟨2, ![1, 1]⟩

abbrev nBuf : Space → Nat
  | .hbm => 21
  | .vmem => 23
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16x1024, .bf16⟩
  | .hbm, ⟨4, _⟩ => ⟨S16x1024, .bf16⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S64, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S128, .f32⟩
  | .hbm, ⟨19, _⟩ => ⟨S1x128, .f32⟩
  | .hbm, ⟨20, _⟩ => ⟨S16384x1024, .bf16⟩
  | .local _ .vmem, ⟨0, _⟩ => ⟨S1024x128, .bf16⟩
  | .local _ .vmem, ⟨1, _⟩ => ⟨S1024x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S16x128, .bf16⟩
  | .local _ .vmem, ⟨7, _⟩ => ⟨S16x128, .bf16⟩
  | .local _ .vmem, ⟨8, _⟩ => ⟨S16x128, .bf16⟩
  | .local _ .vmem, ⟨9, _⟩ => ⟨S16x128, .bf16⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x128, .f32⟩
  | .local _ .vmem, ⟨15, _⟩ => ⟨S1024x128, .bf16⟩
  | .local _ .vmem, ⟨16, _⟩ => ⟨S1024x128, .bf16⟩
  | .local _ .vmem, ⟨17, _⟩ => ⟨S2048x128, .bf16⟩
  | .local _ .vmem, ⟨18, _⟩ => ⟨S4096x256, .bf16⟩
  | .local _ .vmem, ⟨19, _⟩ => ⟨S128x128, .bf16⟩
  | .local _ .vmem, ⟨20, _⟩ => ⟨S128x256, .bf16⟩
  | .local _ .vmem, ⟨21, _⟩ => ⟨S2048x128, .f32⟩
  | .local _ .vmem, ⟨22, _⟩ => ⟨S2048x256, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S16x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S16x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== Proof.RowMath.lean ====
/-
  One row of the feed-forward block, written over the extended reals, and the three facts about it
  that the two programs' texts differ by: the root-mean-square factor is a finite nonnegative number,
  such a factor moves through a sum of products, and a sum over 2816 hidden lanes is the sum of its
  chunks of 1024, 1024 and 768 lanes.
-/
module

public import Idealize.ShloMosaic.Lib.Pointwise
public import Idealize.ShloMosaic.Lib.ValueIdx
public import Idealize.ShloMosaic.Lib.Pipeline.ValueKit

@[expose] public section

noncomputable section

namespace Cert.RowMath

open Idealize.ShloMosaic

/-- The root-mean-square factor of a row of 1024 lanes: the reciprocal square root of the mean of the squares plus epsilon. -/
def rinv (x : Fin 1024 → EReal) : EReal :=
  Ideal.rsqrt (Ideal.div (∑ k, x k * x k) (Ideal.ofBits FTy.f32 1149239296#32) + Ideal.ofBits FTy.f32 897988541#32)

/-- The gated hidden unit: `a · logistic a · b`. -/
def gate (a b : EReal) : EReal := a * Ideal.logistic a * b

/-- A projection of a normalized row, the factor applied to the finished sum (as the kernel does). -/
def upLate (h g w : Fin 1024 → EReal) : EReal := (∑ k, h k * g k * w k) * rinv h

/-- A projection of a normalized row, the factor applied to each lane first (as the mathematics is written). -/
def up (h g w : Fin 1024 → EReal) : EReal := ∑ k, h k * rinv h * g k * w k

/-- The residual update of a row: `h + ½ · (f · rms(f) · g)`. -/
def addNorm (h g f : Fin 1024 → EReal) (j : Fin 1024) : EReal :=
  h j + Ideal.ofBits FTy.f32 1056964608#32 * (f j * rinv f * g j)

/-- A row with a projection of another row, normalized, added: `h + p · rms(p) · g` with `p = o · w`. -/
def addProj (h o : Fin 1024 → EReal) (w : Fin 1024 → Fin 1024 → EReal) (g : Fin 1024 → EReal) (j : Fin 1024) : EReal :=
  h j + (∑ k, o k * w k j) * rinv (fun l => ∑ k, o k * w k l) * g j

/-- The hidden row's contribution to output lane `j`: a sum over `n` hidden lanes. -/
def mix {n : ℕ} (u : Fin n → EReal) (w : Fin n → Fin 1024 → EReal) (j : Fin 1024) : EReal := ∑ c, u c * w c j

/-- The feed-forward row before its residual: gate of two projections, projected down. -/
def ffnMid (h g : Fin 1024 → EReal) (w1 w3 : Fin 1024 → Fin 2816 → EReal) (w2 : Fin 2816 → Fin 1024 → EReal) : Fin 1024 → EReal :=
  mix (fun c => gate (up h g fun k => w1 k c) (up h g fun k => w3 k c)) w2

/-- The whole feed-forward row, residual included. -/
def ffnRow (h g gp : Fin 1024 → EReal) (w1 w3 : Fin 1024 → Fin 2816 → EReal) (w2 : Fin 2816 → Fin 1024 → EReal) : Fin 1024 → EReal :=
  addNorm h gp (ffnMid h g w1 w3 w2)

/-- The number of lanes, as printed. -/
theorem ofBits_1024 : Ideal.ofBits FTy.f32 1149239296#32 = ((1024 : ℝ) : EReal) := by
  simp [Ideal.ofBits, Ideal.ieee, -EReal.coe_mul]; norm_num

/-- The norm's small constant is a positive real. -/
theorem ofBits_eps : ∃ e : ℝ, 0 < e ∧ Ideal.ofBits FTy.f32 897988541#32 = (e : EReal) := by
  refine ⟨_, ?_, by simp [Ideal.ofBits, Ideal.ieee, -EReal.coe_mul]; rfl⟩
  norm_num

/-- One, as printed. -/
theorem ofBits_one : Ideal.ofBits FTy.f32 1065353216#32 = 1 := by
  rw [← EReal.coe_one]
  simp [Ideal.ofBits, Ideal.ieee, -EReal.coe_mul, -EReal.coe_one]; norm_num

/-- A square is not negative. -/
theorem mul_self_nonneg' (x : EReal) : 0 ≤ x * x := by
  induction x with
  | bot => simp
  | top => simp
  | coe r => rw [← EReal.coe_mul]; exact_mod_cast mul_self_nonneg r

/-- The reciprocal square root of something at least a positive number is finite and nonnegative. -/
theorem rsqrt_fin {x : EReal} {e : ℝ} (he : 0 < e) (hx : (e : EReal) ≤ x) :
    ∃ r : ℝ, 0 ≤ r ∧ Ideal.rsqrt x = (r : EReal) := by
  induction x with
  | bot => simp at hx
  | top => exact ⟨0, le_rfl, by simp⟩
  | coe y =>
    have hy : 0 < y := lt_of_lt_of_le he (by exact_mod_cast hx)
    refine ⟨(Real.sqrt y)⁻¹, inv_nonneg.mpr (Real.sqrt_nonneg y), ?_⟩
    rw [Ideal.rsqrt_coe, if_neg (not_lt.mpr hy.le), if_neg hy.ne']

/-- The root-mean-square factor is a finite nonnegative number, whatever the row. -/
theorem rinv_fin (x : Fin 1024 → EReal) : ∃ r : ℝ, 0 ≤ r ∧ rinv x = (r : EReal) := by
  obtain ⟨e, he, hE⟩ := ofBits_eps
  refine rsqrt_fin (e := e) he ?_
  rw [hE, ofBits_1024, Ideal.div_coe (by norm_num)]
  have h0 : (0 : EReal) ≤ ∑ k, x k * x k := Finset.sum_nonneg fun k _ => mul_self_nonneg' (x k)
  have h1 : (0 : EReal) ≤ (∑ k, x k * x k) * ((1 / 1024 : ℝ) : EReal) :=
    EReal.mul_nonneg h0 (by exact_mod_cast (by norm_num : (0 : ℝ) ≤ 1 / 1024))
  calc (e : EReal) = 0 + (e : EReal) := (zero_add _).symm
    _ ≤ _ := add_le_add_left h1 _

/-- A finite nonnegative factor moves into a sum. -/
theorem sum_mul_fin {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a t ha ih =>
    rw [Finset.sum_insert ha, Finset.sum_insert ha, ← ih,
      EReal.right_distrib_of_nonneg_of_ne_top (by exact_mod_cast hr) (EReal.coe_ne_top r)]

/-- The two places of the factor give one projection. -/
theorem upLate_eq (h g w : Fin 1024 → EReal) : upLate h g w = up h g w := by
  obtain ⟨r, hr, hR⟩ := rinv_fin h
  unfold upLate up
  rw [hR, sum_mul_fin _ _ hr]
  refine Finset.sum_congr rfl fun k _ => ?_
  rw [mul_right_comm, mul_right_comm (h k)]

/-- A sum over 2816 lanes, chunk by chunk. -/
theorem sum_chunks (f : Fin 2816 → EReal) :
    ∑ c, f c = (∑ c : Fin 1024, f ⟨0 + c.val, by omega⟩) + (∑ c : Fin 1024, f ⟨1024 + c.val, by omega⟩)
      + ∑ c : Fin 768, f ⟨2048 + c.val, by omega⟩ := by
  rw [show (∑ c, f c) = ∑ c : Fin (1024 + 1024 + 768), f c from rfl, Fin.sum_univ_add, Fin.sum_univ_add]
  refine congrArg₂ _ (congrArg₂ _ ?_ ?_) ?_ <;>
    exact Finset.sum_congr rfl fun c _ => congrArg f (Fin.ext (by simp <;> omega))

/-- The feed-forward row from its three chunks of hidden lanes, each with its own slices of the weights. -/
theorem ffnRow_chunks (h g gp : Fin 1024 → EReal) (w1 w3 : Fin 1024 → Fin 2816 → EReal) (w2 : Fin 2816 → Fin 1024 → EReal)
    (a1 a3 b1 b3 : Fin 1024 → Fin 1024 → EReal) (c1 c3 : Fin 1024 → Fin 768 → EReal)
    (a2 b2 : Fin 1024 → Fin 1024 → EReal) (c2 : Fin 768 → Fin 1024 → EReal)
    (ha1 : ∀ k (c : Fin 1024), a1 k c = w1 k ⟨0 + c.val, by omega⟩) (ha3 : ∀ k (c : Fin 1024), a3 k c = w3 k ⟨0 + c.val, by omega⟩)
    (ha2 : ∀ (c : Fin 1024) j, a2 c j = w2 ⟨0 + c.val, by omega⟩ j)
    (hb1 : ∀ k (c : Fin 1024), b1 k c = w1 k ⟨1024 + c.val, by omega⟩) (hb3 : ∀ k (c : Fin 1024), b3 k c = w3 k ⟨1024 + c.val, by omega⟩)
    (hb2 : ∀ (c : Fin 1024) j, b2 c j = w2 ⟨1024 + c.val, by omega⟩ j)
    (hc1 : ∀ k (c : Fin 768), c1 k c = w1 k ⟨2048 + c.val, by omega⟩) (hc3 : ∀ k (c : Fin 768), c3 k c = w3 k ⟨2048 + c.val, by omega⟩)
    (hc2 : ∀ (c : Fin 768) j, c2 c j = w2 ⟨2048 + c.val, by omega⟩ j) (j : Fin 1024) :
    addNorm h gp (fun k => mix (fun c => gate (upLate h g fun k => a1 k c) (upLate h g fun k => a3 k c)) a2 k
        + mix (fun c => gate (upLate h g fun k => b1 k c) (upLate h g fun k => b3 k c)) b2 k
        + mix (fun c => gate (upLate h g fun k => c1 k c) (upLate h g fun k => c3 k c)) c2 k) j
      = ffnRow h g gp w1 w3 w2 j := by
  unfold ffnRow
  refine congrArg (fun f => addNorm h gp f j) (funext fun k => ?_)
  unfold ffnMid mix
  rw [sum_chunks]
  simp only [upLate_eq, ha1, ha3, ha2, hb1, hb3, hb2, hc1, hc3, hc2]

/-- The projected update, from the projection given entry by entry. -/
theorem addProj_of (h o : Fin 1024 → EReal) (w : Fin 1024 → Fin 1024 → EReal) (g P : Fin 1024 → EReal)
    (hP : ∀ l, P l = ∑ k, o k * w k l) (j : Fin 1024) : addProj h o w g j = h j + P j * rinv P * g j := by
  obtain rfl : P = fun l => ∑ k, o k * w k l := funext hP
  rfl

/-- Two stores that between them hold an index decide what is left there, whatever was stored before them. -/
theorem canon_take {e : EltTy} {S : Shape} (p q : View.Piece (Elt Ideal) S e) (L : List (View.Piece (Elt Ideal) S e)) (y : S.Idx)
    (h : y ∈ p.1.set ∨ y ∈ q.1.set) : View.canon (p :: q :: L) y = View.canon [p, q] y := by
  by_cases hp : y ∈ p.1.set
  · obtain ⟨x, rfl⟩ : ∃ x, p.1.emb x = y := p.1.toLoadRect.exists_idx_of_mem hp
    exact (View.canon_cons_emb p.1 p.2 _ x).trans (View.canon_cons_emb p.1 p.2 _ x).symm
  · have hq := h.resolve_left hp
    rw [View.canon_cons_of_not_mem _ _ hp, View.canon_cons_of_not_mem _ _ hp]
    obtain ⟨x, rfl⟩ : ∃ x, q.1.emb x = y := q.1.toLoadRect.exists_idx_of_mem hq
    exact (View.canon_cons_emb q.1 q.2 _ x).trans (View.canon_cons_emb q.1 q.2 _ x).symm

end Cert.RowMath

end
-- ==== Proof.FfnBlock.lean ====
module
public import proofs.«01_k».proof.Proof.Gen.FfnIdeal.Value
public import proofs.«01_k».proof.Proof.RowMath
public import Idealize.ShloMosaic.Lib.Pipeline.ValueKit
public import Idealize.ShloMosaic.Lib.Pipeline.ReadBack
@[expose] public section
set_option maxRecDepth 16384
noncomputable section
namespace Cert.FfnIdeal.Block
open Cert.FfnIdeal Cert.FfnIdeal.Gen Idealize.ShloMosaic Idealize.ShloMosaic.TcCoe Idealize.SL.Sem
open Idealize.ShloMosaic.Pipeline (Dat)
open Cert.RowMath

/-- The first chunk of 1024 hidden lanes, rows 0 to 511. -/
theorem pay5_apply (H G a1 a3 a2) (i : Fin 512) (j : Fin 1024) : k0_pay5 (F := Ideal) H G a1 a3 a2 (ix2 i j)
    = mix (fun c => gate (upLate (fun k => H (ix2 i k)) (fun k => G (ix2 0 k)) fun k => a1 (ix4 0 0 k c))
        (upLate (fun k => H (ix2 i k)) (fun k => G (ix2 0 k)) fun k => a3 (ix4 0 0 k c))) (fun c j => a2 (ix4 0 0 c j)) j := by
  unfold k0_pay5 k0_pay3 k0_pay4
  dsimp only
  pointwise
  rfl

/-- The second chunk of 1024 hidden lanes, added to what the accumulator holds, rows 0 to 511. -/
theorem pay9_apply (H G a1 a3 a2 A) (i : Fin 512) (j : Fin 1024) : k0_pay9 (F := Ideal) (k0_pay3 H) (k0_pay4 H G) a1 a3 a2 A (ix2 i j)
    = A (ix2 i j) + mix (fun c => gate (upLate (fun k => H (ix2 i k)) (fun k => G (ix2 0 k)) fun k => a1 (ix4 0 0 k c))
        (upLate (fun k => H (ix2 i k)) (fun k => G (ix2 0 k)) fun k => a3 (ix4 0 0 k c))) (fun c j => a2 (ix4 0 0 c j)) j := by
  unfold k0_pay9 k0_pay3 k0_pay4
  dsimp only
  pointwise
  rfl

/-- A chunk added to the first half's partial sum, entry by entry. -/
theorem pay13_apply (H G a1 a3 a2 A) (i : Fin 512) (j : Fin 1024) : k0_pay13 (F := Ideal) (k0_pay3 H) (k0_pay4 H G) a1 a3 a2 A (ix2 i j)
    = A (ix2 i j) + mix (fun c => gate (upLate (fun k => H (ix2 i k)) (fun k => G (ix2 0 k)) fun k => a1 (ix4 0 0 k c))
        (upLate (fun k => H (ix2 i k)) (fun k => G (ix2 0 k)) fun k => a3 (ix4 0 0 k c))) (fun c j => a2 (ix4 0 0 c j)) j := by
  unfold k0_pay13 k0_pay3 k0_pay4
  dsimp only
  pointwise
  rfl

/-- The first chunk's partial sum, entry by entry. -/
theorem pay8_apply (H G a1 a3 a2) (i : Fin 512) (j : Fin 1024) : k0_pay8 (F := Ideal) H G a1 a3 a2 (ix2 i j)
    = mix (fun c => gate (upLate (fun k => H (ix2 i k)) (fun k => G (ix2 0 k)) fun k => a1 (ix4 0 0 k c))
        (upLate (fun k => H (ix2 i k)) (fun k => G (ix2 0 k)) fun k => a3 (ix4 0 0 k c))) (fun c j => a2 (ix4 0 0 c j)) j := by
  unfold k0_pay8 k0_pay6 k0_pay7
  dsimp only
  pointwise
  rfl

/-- The second chunk added to a partial sum, entry by entry. -/
theorem pay12_apply (H G a1 a3 a2 A) (i : Fin 512) (j : Fin 1024) :
    k0_pay12 (F := Ideal) (k0_pay6 H) (k0_pay10 (k0_pay6 H) (k0_pay7 H G) a1) (k0_pay11 (k0_pay7 H G) a3) a2 A (ix2 i j)
    = A (ix2 i j) + mix (fun c => gate (upLate (fun k => H (ix2 i k)) (fun k => G (ix2 0 k)) fun k => a1 (ix4 0 0 k c))
        (upLate (fun k => H (ix2 i k)) (fun k => G (ix2 0 k)) fun k => a3 (ix4 0 0 k c))) (fun c j => a2 (ix4 0 0 c j)) j := by
  unfold k0_pay12 k0_pay10 k0_pay11 k0_pay6 k0_pay7
  dsimp only
  pointwise
  rfl

/-- The last chunk added to a partial sum, entry by entry. -/
theorem pay15_apply (H G a1 a3 a2 A) (i : Fin 512) (j : Fin 1024) : k0_pay15 (F := Ideal) (k0_pay6 H) (k0_pay7 H G) a1 a3 a2 A (ix2 i j)
    = A (ix2 i j) + mix (fun c => gate (upLate (fun k => H (ix2 i k)) (fun k => G (ix2 0 k)) fun k => a1 (ix4 0 0 k c))
        (upLate (fun k => H (ix2 i k)) (fun k => G (ix2 0 k)) fun k => a3 (ix4 0 0 k c))) (fun c j => a2 (ix4 0 0 c j)) j := by
  unfold k0_pay15 k0_pay6 k0_pay7
  dsimp only
  pointwise
  rfl

/-- The closing norm and residual of the first half of the rows, entry by entry. -/
theorem pay1_apply (H A : FVec Ideal S512x1024 .f32) (GP) (i : Fin 512) (j : Fin 1024) :
    k0_pay1 (F := Ideal) H (k0_pay14 (F := Ideal) A) (k0_pay16 GP) (k0_pay17 (F := Ideal) (k0_pay14 (F := Ideal) A)) (FloatOps.ofBits FTy.f32 1149239296#32) (ix2 i j)
    = addNorm (fun k => H (ix2 i k)) (fun k => GP (ix2 0 k)) (fun k => A (ix2 i k)) j := by
  unfold k0_pay1 k0_pay14 k0_pay16 k0_pay17
  dsimp only
  pointwise
  rfl

/-- The closing norm and residual of the second half of the rows, entry by entry. -/
theorem pay2_apply (H A : Vec Ideal S512x1024 .f32) (GP) (i : Fin 512) (j : Fin 1024) : k0_pay2 (F := Ideal) H A GP (ix2 i j)
    = addNorm (fun k => H (ix2 i k)) (fun k => GP (ix2 0 k)) (fun k => A (ix2 i k)) j := by
  unfold k0_pay2
  dsimp only
  pointwise
  rfl

/-- What the body leaves in the result's block, entry by entry. -/
theorem out_apply (c : Dev nD) (i : grid0.Coords) (arg2 : Memref sig .tc .vmem S1024x1024 .f32) (h2 : arg2.IsWhole) (arg3 : Memref sig .tc .vmem S1x1024 .f32) (h3 : arg3.IsWhole) (arg4 : Memref sig .tc .vmem S1x1x1024x2816 .bf16) (h4 : arg4.IsWhole) (arg5 : Memref sig .tc .vmem S1x1x1024x2816 .bf16) (h5 : arg5.IsWhole) (arg6 : Memref sig .tc .vmem S1x1x2816x1024 .bf16) (h6 : arg6.IsWhole) (arg7 : Memref sig .tc .vmem S1x1024 .f32) (h7 : arg7.IsWhole) (arg8 : Memref sig .tc .vmem S1024x1024 .f32) (h8 : arg8.IsWhole) (arg9 : Memref sig .tc .vmem S1024x1024 .f32) (h9 : arg9.IsWhole)
    (x0 x1 x2 x3 x4 x5) (y : S1024x1024.Idx) :
    out0_A_6 (F := Ideal) c i arg2 h2 arg3 h3 arg4 h4 arg5 h5 arg6 h6 arg7 h7 arg8 h8 arg9 h9 x0 x1 x2 x3 x4 x5 y
      = ffnRow (fun k => x0 (ix2 (y 0) k)) (fun k => x1 (ix2 0 k)) (fun k => x5 (ix2 0 k)) (fun k c => x2 (ix4 0 0 k c))
          (fun k c => x3 (ix4 0 0 k c)) (fun c j => x4 (ix4 0 0 c j)) (y 1) := by
  frame_open
  simp (disch := decide) only [↓ View.readCov_skip, ↓ View.readCov_cons_toLoadRect, ↓ View.readCov_fill]
  frame_out
  canon_tiles x h
  · obtain ⟨a, b, rfl⟩ : ∃ (a : Fin 512) (b : Fin 1024), x = ix2 a b := ⟨x 0, x 1, eq_ix2 x⟩
    rw [pay2_apply]
    simp only [pay15_apply, pay12_apply, pay8_apply]
    have hr : ∀ k : Fin 1024, View.ld x0 (Rect.unit ![512, 0] ![512, 1024] inb_S1024x1024_S512x1024_512_0) (ix2 a k) = x0 (ix2 (y 0) k) := fun k =>
      View.ld_unit_apply_of _ _ _ _ _ _ (fun d => match d with | ⟨0, _⟩ => h0 | ⟨1, _⟩ => (Nat.zero_add _).symm)
    simp only [hr]
    rw [show y 1 = b from Fin.ext h1]
    apply ffnRow_chunks
    all_goals
      intro p q
      exact View.ld_unit_apply_of _ _ _ _ _ _ (fun d => match d with
        | ⟨0, _⟩ => rfl | ⟨1, _⟩ => rfl | ⟨2, _⟩ => by show _ = _ + _; simp | ⟨3, _⟩ => by show _ = _ + _; simp)
  · obtain ⟨a, b, rfl⟩ : ∃ (a : Fin 512) (b : Fin 1024), x = ix2 a b := ⟨x 0, x 1, eq_ix2 x⟩
    rw [pay1_apply]
    simp only [pay13_apply, pay9_apply, pay5_apply]
    have hr : ∀ k : Fin 1024, View.ld x0 (Rect.unit ![0, 0] ![512, 1024] inb_S1024x1024_S512x1024_0_0) (ix2 a k) = x0 (ix2 (y 0) k) := fun k =>
      View.ld_unit_apply_of _ _ _ _ _ _ (fun d => match d with | ⟨0, _⟩ => h0.trans (Nat.zero_add _).symm | ⟨1, _⟩ => (Nat.zero_add _).symm)
    simp only [hr]
    rw [show y 1 = b from Fin.ext h1]
    apply ffnRow_chunks
    all_goals
      intro p q
      exact View.ld_unit_apply_of _ _ _ _ _ _ (fun d => match d with
        | ⟨0, _⟩ => rfl | ⟨1, _⟩ => rfl | ⟨2, _⟩ => by show _ = _ + _; simp | ⟨3, _⟩ => by show _ = _ + _; simp)
end Cert.FfnIdeal.Block
-- ==== Proof.FfnValue.lean ====
module
public import proofs.«01_k».proof.Proof.FfnBlock
@[expose] public section
set_option maxRecDepth 16384
noncomputable section

/-! The result array of the feed-forward call: every row of it is one function of that row of the hidden state. -/

namespace Cert.FfnIdeal.Block
open Cert.FfnIdeal Cert.FfnIdeal.Gen Idealize.ShloMosaic Idealize.ShloMosaic.TcCoe Idealize.SL.Sem
open Idealize.ShloMosaic.Pipeline (Dat)
open Cert.RowMath
variable (m : (ℓ : Loc nD τ sig) → Buf (Elt Ideal) ℓ) (ρ : Dev nD → PrngReg)

/-! ## What the host leaves in the kernel's operands -/

/-- The up-projection weights are passed as they are. -/
theorem V_v0 (c : Dev nD) : V m c main_v0 = m ((c : Thread nD τ).loc main_arg3) := by
  unfold_abbrev_sides
  after_results
  rfl

/-- The gate weights are passed as they are. -/
theorem V_v1 (c : Dev nD) : V m c main_v1 = m ((c : Thread nD τ).loc main_arg4) := by
  unfold_abbrev_sides
  after_results
  rfl

/-- The down-projection weights are passed as they are. -/
theorem V_v2 (c : Dev nD) : V m c main_v2 = m ((c : Thread nD τ).loc main_arg5) := by
  unfold_abbrev_sides
  after_results
  rfl

/-- The scale before the feed-forward. -/
theorem V_v5 (c : Dev nD) (k : Fin 1024) : (V m c main_v5 : FVec Ideal S1x1024 .f32) (ix2 0 k) = m ((c : Thread nD τ).loc main_arg1) (ix3 0 0 k) := by
  unfold_abbrev_sides
  after_results
  pointwise

/-- The scale after the feed-forward. -/
theorem V_v8 (c : Dev nD) (k : Fin 1024) : (V m c main_v8 : FVec Ideal S1x1024 .f32) (ix2 0 k) = m ((c : Thread nD τ).loc main_arg2) (ix3 0 0 k) := by
  unfold_abbrev_sides
  after_results
  pointwise

/-! ## The windows' blocks at a grid point -/

/-- Window 0 moves one block of rows per grid point. -/
theorem idx0 : ∀ t : Fin cfg0.N, win0_0.index t 0 = t.val ∧ win0_0.index t 1 = 0 :=
  (by decide +kernel : ∀ t : Fin grid0.N, win0_0.index t 0 = t.val ∧ win0_0.index t 1 = 0)
/-- Window 6 moves one block of rows per grid point. -/
theorem idx6 : ∀ t : Fin cfg0.N, win0_6.index t 0 = t.val ∧ win0_6.index t 1 = 0 :=
  (by decide +kernel : ∀ t : Fin grid0.N, win0_6.index t 0 = t.val ∧ win0_6.index t 1 = 0)
/-- Window 1 stays at block zero. -/
theorem idx1 : ∀ t : Fin cfg0.N, ∀ a, win0_1.index t a = 0 := (by decide +kernel : ∀ t : Fin grid0.N, ∀ a, win0_1.index t a = 0)
/-- Window 2 stays at block zero. -/
theorem idx2 : ∀ t : Fin cfg0.N, ∀ a, win0_2.index t a = 0 := (by decide +kernel : ∀ t : Fin grid0.N, ∀ a, win0_2.index t a = 0)
/-- Window 3 stays at block zero. -/
theorem idx3 : ∀ t : Fin cfg0.N, ∀ a, win0_3.index t a = 0 := (by decide +kernel : ∀ t : Fin grid0.N, ∀ a, win0_3.index t a = 0)
/-- Window 4 stays at block zero. -/
theorem idx4 : ∀ t : Fin cfg0.N, ∀ a, win0_4.index t a = 0 := (by decide +kernel : ∀ t : Fin grid0.N, ∀ a, win0_4.index t a = 0)
/-- Window 5 stays at block zero. -/
theorem idx5 : ∀ t : Fin cfg0.N, ∀ a, win0_5.index t a = 0 := (by decide +kernel : ∀ t : Fin grid0.N, ∀ a, win0_5.index t a = 0)

/-- The hidden state's block, as rows of the argument. -/
theorem iblk0 (c : Dev nD) (t : Fin cfg0.N) (y : S1024x1024.Idx) (z : S16384x1024.Idx) (h0 : (z 0).val = t.val * 1024 + (y 0).val) (h1 : (z 1).val = (y 1).val) :
    iblk m c 0 t y = m ((c : Thread nD τ).loc main_arg0) z := by
  unfold iblk
  rw [View.read_apply]
  show V m c main_arg0 _ = _
  rw [V_main_arg0]
  refine congrArg _ (funext fun a => Fin.ext ?_)
  match a with
  | ⟨0, _⟩ => blk_simp [(idx0 t).1]; exact h0.symm
  | ⟨1, _⟩ => blk_simp [(idx0 t).2]; exact h1.symm

/-- What window 1 stages, read off the argument. -/
theorem iblk1 (c : Dev nD) (t : Fin cfg0.N) (k : Fin 1024) : iblk m c 1 t (ix2 0 k : S1x1024.Idx) = m ((c : Thread nD τ).loc main_arg1) (ix3 0 0 k) := by
  rw [← V_v5 m c k]
  unfold iblk
  rw [View.read_apply]
  show V m c main_v5 _ = _
  refine congrArg _ (funext fun a => Fin.ext ?_)
  match a with
  | ⟨0, _⟩ => blk_simp [idx1 t]
  | ⟨1, _⟩ => blk_simp [idx1 t]

/-- What window 5 stages, read off the argument. -/
theorem iblk5 (c : Dev nD) (t : Fin cfg0.N) (k : Fin 1024) : iblk m c 5 t (ix2 0 k : S1x1024.Idx) = m ((c : Thread nD τ).loc main_arg2) (ix3 0 0 k) := by
  rw [← V_v8 m c k]
  unfold iblk
  rw [View.read_apply]
  show V m c main_v8 _ = _
  refine congrArg _ (funext fun a => Fin.ext ?_)
  match a with
  | ⟨0, _⟩ => blk_simp [idx5 t]
  | ⟨1, _⟩ => blk_simp [idx5 t]

/-- What window 2 stages, read off the argument. -/
theorem iblk2 (c : Dev nD) (t : Fin cfg0.N) (k : Fin 1024) (d : Fin 2816) :
    iblk m c 2 t (ix4 0 0 k d : S1x1x1024x2816.Idx) = m ((c : Thread nD τ).loc main_arg3) (ix4 0 0 k d) := by
  rw [← V_v0 m c]
  unfold iblk
  rw [View.read_apply]
  show V m c main_v0 _ = _
  refine congrArg _ (funext fun a => Fin.ext ?_)
  match a with
  | ⟨0, _⟩ => blk_simp [idx2 t]; rfl
  | ⟨1, _⟩ => blk_simp [idx2 t]; rfl
  | ⟨2, _⟩ => blk_simp [idx2 t]
  | ⟨3, _⟩ => blk_simp [idx2 t]

/-- What window 3 stages, read off the argument. -/
theorem iblk3 (c : Dev nD) (t : Fin cfg0.N) (k : Fin 1024) (d : Fin 2816) :
    iblk m c 3 t (ix4 0 0 k d : S1x1x1024x2816.Idx) = m ((c : Thread nD τ).loc main_arg4) (ix4 0 0 k d) := by
  rw [← V_v1 m c]
  unfold iblk
  rw [View.read_apply]
  show V m c main_v1 _ = _
  refine congrArg _ (funext fun a => Fin.ext ?_)
  match a with
  | ⟨0, _⟩ => blk_simp [idx3 t]; rfl
  | ⟨1, _⟩ => blk_simp [idx3 t]; rfl
  | ⟨2, _⟩ => blk_simp [idx3 t]
  | ⟨3, _⟩ => blk_simp [idx3 t]

/-- What window 4 stages, read off the argument. -/
theorem iblk4 (c : Dev nD) (t : Fin cfg0.N) (d : Fin 2816) (k : Fin 1024) :
    iblk m c 4 t (ix4 0 0 d k : S1x1x2816x1024.Idx) = m ((c : Thread nD τ).loc main_arg5) (ix4 0 0 d k) := by
  rw [← V_v2 m c]
  unfold iblk
  rw [View.read_apply]
  show V m c main_v2 _ = _
  refine congrArg _ (funext fun a => Fin.ext ?_)
  match a with
  | ⟨0, _⟩ => blk_simp [idx4 t]; rfl
  | ⟨1, _⟩ => blk_simp [idx4 t]; rfl
  | ⟨2, _⟩ => blk_simp [idx4 t]
  | ⟨3, _⟩ => blk_simp [idx4 t]

/-! ## The result array -/

/-- What the kernel computes, as one array: each row is the feed-forward row of that row of the input. -/
def result (c : Dev nD) : Buf (Elt Ideal) ((c : Thread nD τ).loc main_v9) := fun z : S16384x1024.Idx =>
  ffnRow (fun k => m ((c : Thread nD τ).loc main_arg0) (ix2 (z 0) k)) (fun k => m ((c : Thread nD τ).loc main_arg1) (ix3 0 0 k))
    (fun k => m ((c : Thread nD τ).loc main_arg2) (ix3 0 0 k)) (fun k d => m ((c : Thread nD τ).loc main_arg3) (ix4 0 0 k d))
    (fun k d => m ((c : Thread nD τ).loc main_arg4) (ix4 0 0 k d)) (fun d k => m ((c : Thread nD τ).loc main_arg5) (ix4 0 0 d k)) (z 1)

/-- Every grid point writes its block of that array. -/
theorem flushed_eq (c : Dev nD) (t : Fin cfg0.N) : (dats m 0 c).flushed 6 t = ((cfg0.win 6).blk t).view.read (Elt Ideal) (result m c) := by
  rw [Value.flushed6_A]
  funext (y : S1024x1024.Idx)
  rw [View.read_apply]
  have e0 : ((((cfg0.win 6).blk t).view.emb y) 0 : ℕ) = t.val * 1024 + (y 0).val := by blk_simp [(idx6 t).1]
  have e1 : ((((cfg0.win 6).blk t).view.emb y) 1 : ℕ) = (y 1).val := by blk_simp [(idx6 t).2]
  refine (out_apply ..).trans ?_
  unfold result
  simp only [iblk1, iblk2, iblk3, iblk4, iblk5]
  rw [show (fun k : Fin 1024 => iblk m c 0 t (ix2 (y 0) k : S1024x1024.Idx)) = fun k => m ((c : Thread nD τ).loc main_arg0) (ix2 (((cfg0.win 6).blk t).view.emb y 0) k) from
    funext fun k => iblk0 m c t _ _ e0 rfl]
  exact congrArg _ (Fin.ext e1.symm)

/-- Every row is in some grid point's block. -/
theorem cover (i : S16384x1024.Idx) : ∃ t : Fin cfg0.N, (cfg0.win 6).flush t = true ∧ i ∈ ((cfg0.win 6).blk t).view.set := by
  have h0 : (i 0 : Nat) < 16384 := (i 0).isLt
  have h1 : (i 1 : Nat) < 1024 := (i 1).isLt
  have hN : cfg0.N = 16 := N_0
  refine ⟨⟨(i 0).val / 1024, by omega⟩, flush0_6 _, ?_⟩
  mem_blk [(idx6 _).1, (idx6 _).2]
  dsimp only
  omega

/-- The array the call ends with. -/
theorem final (c : Dev nD) : (dats m 0 c).arrAt 6 cfg0.N = result m c :=
  (dats m 0 c).arrAt_eq_of_cover 6 (result m c) (fun t _ => flushed_eq m c t) cover

end Cert.FfnIdeal.Block
-- ==== Proof.FfnRef.lean ====
module
public import proofs.«01_k».proof.Proof.RowMath
public import proofs.«01_k».proof.Proof.Gen.FfnRefIdeal.Run
@[expose] public section
set_option maxRecDepth 16384
noncomputable section

/-! The plain feed-forward, read one row at a time. -/

namespace Cert.FfnRefIdeal.Rows
open Cert.FfnRefIdeal Idealize.ShloMosaic Idealize.ShloMosaic.TcCoe Idealize.SL.Sem
open Cert.RowMath
variable (m : (ℓ : Loc nD τ sig) → Buf (Elt Ideal) ℓ)

/-- Each entry of the plain result is the feed-forward row of that row of the input. -/
theorem result_apply (c : Dev nD) (r : Fin 16384) (j : Fin 1024) : (Value.res_main_v43 m c : FVec Ideal S16384x1024 .f32) (ix2 r j)
  = ffnRow (fun k => m ((c : Thread nD τ).loc main_arg0) (ix2 r k)) (fun k => m ((c : Thread nD τ).loc main_arg1) (ix3 0 0 k))
    (fun k => m ((c : Thread nD τ).loc main_arg2) (ix3 0 0 k)) (fun k d => m ((c : Thread nD τ).loc main_arg3) (ix4 0 0 k d))
    (fun k d => m ((c : Thread nD τ).loc main_arg4) (ix4 0 0 k d)) (fun d k => m ((c : Thread nD τ).loc main_arg5) (ix4 0 0 d k)) j := by
  unfold Value.res_main_v43
  pointwise
  rfl
end Cert.FfnRefIdeal.Rows
-- ==== Proof.FfnClaims.lean ====
module
public import proofs.«01_k».proof.Defs
public import proofs.«01_k».proof.Proof.Gen.Ffn.Frame
public import proofs.«01_k».proof.Proof.Gen.FfnIdeal.Frame
public import proofs.«01_k».proof.Proof.FfnValue
public import proofs.«01_k».proof.Proof.FfnRef
@[expose] public section
set_option maxRecDepth 16384
noncomputable section

/-! The claims about the feed-forward call. -/

namespace Cert.FfnClaims
open Idealize.ShloMosaic Idealize.ShloMosaic.TcCoe Idealize.SL.Sem

/-- The kernel as printed runs to the end and leaves its arguments and the machine at rest. -/
theorem frameFfn : Cert.quiescent_Ffn := fun m ρ _ => Cert.Ffn.Gen.frame m ρ
/-- So does it at exact numbers. -/
theorem frameFfnIdeal : Cert.quiescent_FfnIdeal := fun m ρ _ => Cert.FfnIdeal.Gen.frame m ρ
/-- So does the plain program. -/
theorem frameFfnRefIdeal : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The kernel and the plain mathematics end with the same array. -/
theorem algebraicFfn : Cert.algebraic_FfnIdeal_FfnRefIdeal := by
  intro m ρ m' ρ' _ hag
  refine ⟨fun c => Cert.FfnIdeal.Block.result m c,
    (θ_run Cert.FfnIdeal.defs _ _).mono (fun _ h c => ⟨(h c).1.trans (Cert.FfnIdeal.Block.final m c), (h c).2⟩) (Cert.FfnIdeal.Value.run_blocks m ρ),
    (θ_run Cert.FfnRefIdeal.defs _ _).mono (fun _ h c => ⟨(h c).1.trans ?_, (h c).2⟩) (Cert.FfnRefIdeal.Value.run m' ρ')⟩
  funext (z : Cert.FfnRefIdeal.S16384x1024.Idx)
  obtain ⟨r, j, rfl⟩ : ∃ (r : Fin 16384) (j : Fin 1024), z = ix2 r j := ⟨z 0, z 1, eq_ix2 z⟩
  refine (Cert.FfnRefIdeal.Rows.result_apply m' c r j).trans ?_
  obtain ⟨e0, e1, e2, e3, e4, e5⟩ := hag c
  rw [e0, e1, e2, e3, e4, e5]
  rfl

end Cert.FfnClaims
-- ==== Proof.OutBlock.lean ====
module
public import proofs.«01_k».proof.Proof.Gen.OutIdeal.Value
public import proofs.«01_k».proof.Proof.RowMath
public import Idealize.ShloMosaic.Lib.Pipeline.ValueKit
public import Idealize.ShloMosaic.Lib.Pipeline.ReadBack
@[expose] public section
set_option maxRecDepth 16384
noncomputable section
namespace Cert.OutIdeal.Block
open Cert.OutIdeal Cert.OutIdeal.Gen Idealize.ShloMosaic Idealize.ShloMosaic.TcCoe Idealize.SL.Sem
open Idealize.ShloMosaic.Pipeline (Dat)
open Cert.RowMath

/-- The rows 0 to 511 with the out-projection of the attention's rows, normalized, added. -/
theorem mix_lo_apply (H : FVec Ideal S512x1024 .f32) (O W G) (i : Fin 512) (j : Fin 1024) :
    k0_pay1 (F := Ideal) H O W G (ix2 i j)
    = addProj (fun k => H (ix2 i k)) (fun k => O (ix2 i k)) (fun k l => W (ix2 k l)) (fun k => G (ix2 0 k)) j := by
  unfold k0_pay1
  dsimp only
  pointwise
  rfl

/-- The rows 512 to 1023 with the out-projection of the attention's rows, normalized, added. -/
theorem mix_hi_apply (H : FVec Ideal S512x1024 .f32) (O W G) (i : Fin 512) (j : Fin 1024) :
    k0_pay10 (F := Ideal) H (k0_pay6 O W) (k0_pay7 G) (k0_pay8 O W) k0_pay9 (ix2 i j)
    = addProj (fun k => H (ix2 i k)) (fun k => O (ix2 i k)) (fun k l => W (ix2 k l)) (fun k => G (ix2 0 k)) j := by
  unfold k0_pay10 k0_pay7 k0_pay8 k0_pay6 k0_pay9
  dsimp only
  pointwise
  rfl

/-- The first chunk of hidden lanes, rows 0 to 511. -/
theorem lo1_apply (H : FVec Ideal S512x1024 .f32) (G a1 a3 a2) (i : Fin 512) (j : Fin 1024) :
    k0_pay5 (F := Ideal) (k0_pay3 (F := Ideal) H) (k0_pay4 (F := Ideal) H G) a1 a3 a2 (ix2 i j)
    = mix (fun c => gate (upLate (fun k => H (ix2 i k)) (fun k => G (ix2 0 k)) fun k => a1 (ix4 0 0 k c))
        (upLate (fun k => H (ix2 i k)) (fun k => G (ix2 0 k)) fun k => a3 (ix4 0 0 k c))) (fun c j => a2 (ix4 0 0 c j)) j := by
  unfold k0_pay5 k0_pay3 k0_pay4 k0_pay2
  dsimp only
  pointwise
  rfl

/-- The second chunk of hidden lanes, rows 0 to 511. -/
theorem lo2_apply (H : FVec Ideal S512x1024 .f32) (G a1 a3 a2) (A : FVec Ideal S512x1024 .f32) (i : Fin 512) (j : Fin 1024) :
    k0_pay11 (F := Ideal) (k0_pay3 (F := Ideal) H) (k0_pay4 (F := Ideal) H G) a1 a3 a2 A (ix2 i j)
    = A (ix2 i j) + mix (fun c => gate (upLate (fun k => H (ix2 i k)) (fun k => G (ix2 0 k)) fun k => a1 (ix4 0 0 k c))
        (upLate (fun k => H (ix2 i k)) (fun k => G (ix2 0 k)) fun k => a3 (ix4 0 0 k c))) (fun c j => a2 (ix4 0 0 c j)) j := by
  unfold k0_pay11 k0_pay3 k0_pay4 k0_pay2
  dsimp only
  pointwise
  rfl

/-- The third chunk of hidden lanes, rows 0 to 511. -/
theorem lo3_apply (H : FVec Ideal S512x1024 .f32) (G a1 a3 a2) (A : FVec Ideal S512x1024 .f32) (i : Fin 512) (j : Fin 1024) :
    k0_pay12 (F := Ideal) (k0_pay3 (F := Ideal) H) (k0_pay4 (F := Ideal) H G) a1 a3 a2 A (ix2 i j)
    = A (ix2 i j) + mix (fun c => gate (upLate (fun k => H (ix2 i k)) (fun k => G (ix2 0 k)) fun k => a1 (ix4 0 0 k c))
        (upLate (fun k => H (ix2 i k)) (fun k => G (ix2 0 k)) fun k => a3 (ix4 0 0 k c))) (fun c j => a2 (ix4 0 0 c j)) j := by
  unfold k0_pay12 k0_pay3 k0_pay4 k0_pay2
  dsimp only
  pointwise
  rfl

/-- The residual update, rows 0 to 511. -/
theorem lo4_apply (H : FVec Ideal S512x1024 .f32) (A : FVec Ideal S512x1024 .f32) (GP) (i : Fin 512) (j : Fin 1024) :
    k0_pay14 (F := Ideal) (k0_pay2 (F := Ideal) H) (k0_pay13 (F := Ideal) A GP) (ix2 i j)
    = addNorm (fun k => H (ix2 i k)) (fun k => GP (ix2 0 k)) (fun k => A (ix2 i k)) j := by
  unfold k0_pay14 k0_pay13 k0_pay2
  dsimp only
  pointwise
  rfl

/-- The first chunk of hidden lanes, rows 512 to 1023. -/
theorem hi1_apply (H : FVec Ideal S512x1024 .f32) (G a1 a3 a2) (i : Fin 512) (j : Fin 1024) :
    k0_pay20 (F := Ideal) (k0_pay18 (F := Ideal) H G a1 a3) (k0_pay19 a2) (ix2 i j)
    = mix (fun c => gate (upLate (fun k => H (ix2 i k)) (fun k => G (ix2 0 k)) fun k => a1 (ix4 0 0 k c))
        (upLate (fun k => H (ix2 i k)) (fun k => G (ix2 0 k)) fun k => a3 (ix4 0 0 k c))) (fun c j => a2 (ix4 0 0 c j)) j := by
  unfold k0_pay20 k0_pay18 k0_pay19 k0_pay16 k0_pay17 k0_pay15
  dsimp only
  pointwise
  rfl

/-- The second chunk of hidden lanes, rows 512 to 1023. -/
theorem hi2_apply (H : FVec Ideal S512x1024 .f32) (G a1 a3 a2) (A : FVec Ideal S512x1024 .f32) (i : Fin 512) (j : Fin 1024) :
    k0_pay21 (F := Ideal) (k0_pay16 (F := Ideal) H) (k0_pay17 (F := Ideal) H G) a1 a3 a2 A (ix2 i j)
    = A (ix2 i j) + mix (fun c => gate (upLate (fun k => H (ix2 i k)) (fun k => G (ix2 0 k)) fun k => a1 (ix4 0 0 k c))
        (upLate (fun k => H (ix2 i k)) (fun k => G (ix2 0 k)) fun k => a3 (ix4 0 0 k c))) (fun c j => a2 (ix4 0 0 c j)) j := by
  unfold k0_pay21 k0_pay16 k0_pay17 k0_pay15
  dsimp only
  pointwise
  rfl

/-- The third chunk of hidden lanes, rows 512 to 1023. -/
theorem hi3_apply (H : FVec Ideal S512x1024 .f32) (G a1 a3 a2) (A : FVec Ideal S512x1024 .f32) (i : Fin 512) (j : Fin 1024) :
    k0_pay23 (F := Ideal) (k0_pay16 (F := Ideal) H) (k0_pay17 (F := Ideal) H G) (k0_pay22 (F := Ideal) (k0_pay16 (F := Ideal) H) (k0_pay17 (F := Ideal) H G) a1) a3 a2 A (ix2 i j)
    = A (ix2 i j) + mix (fun c => gate (upLate (fun k => H (ix2 i k)) (fun k => G (ix2 0 k)) fun k => a1 (ix4 0 0 k c))
        (upLate (fun k => H (ix2 i k)) (fun k => G (ix2 0 k)) fun k => a3 (ix4 0 0 k c))) (fun c j => a2 (ix4 0 0 c j)) j := by
  unfold k0_pay23 k0_pay22 k0_pay16 k0_pay17 k0_pay15
  dsimp only
  pointwise
  rfl

/-- The residual update, rows 512 to 1023. -/
theorem hi4_apply (H : FVec Ideal S512x1024 .f32) (A : FVec Ideal S512x1024 .f32) (GP) (i : Fin 512) (j : Fin 1024) :
    k0_pay24 (F := Ideal) (k0_pay15 (F := Ideal) H) A GP (ix2 i j)
    = addNorm (fun k => H (ix2 i k)) (fun k => GP (ix2 0 k)) (fun k => A (ix2 i k)) j := by
  unfold k0_pay24 k0_pay15
  dsimp only
  pointwise
  rfl

/-- What one grid point leaves in the output's staging buffer: the feed-forward row of each row, after the out-projection was added. -/
theorem out_apply (c : Dev nD) (i : grid0.Coords) (arg2 : Memref sig .tc .vmem S1024x1024 .bf16) (h2 : arg2.IsWhole) (arg3 : Memref sig .tc .vmem S1024x1024 .bf16) (h3 : arg3.IsWhole) (arg4 : Memref sig .tc .vmem S1x1024 .f32) (h4 : arg4.IsWhole) (arg5 : Memref sig .tc .vmem S1024x1024 .f32) (h5 : arg5.IsWhole) (arg6 : Memref sig .tc .vmem S1x1024 .f32) (h6 : arg6.IsWhole) (arg7 : Memref sig .tc .vmem S1x1x1024x2816 .bf16) (h7 : arg7.IsWhole) (arg8 : Memref sig .tc .vmem S1x1x1024x2816 .bf16) (h8 : arg8.IsWhole) (arg9 : Memref sig .tc .vmem S1x1x2816x1024 .bf16) (h9 : arg9.IsWhole) (arg10 : Memref sig .tc .vmem S1x1024 .f32) (h10 : arg10.IsWhole) (arg11 : Memref sig .tc .vmem S1024x1024 .f32) (h11 : arg11.IsWhole) (arg12 : Memref sig .tc .vmem S1024x1024 .f32) (h12 : arg12.IsWhole)
    (x0 x1 x2 x3 x4 x5 x6 x7 x8) (y : S1024x1024.Idx) :
    out0_A_9 (F := Ideal) c i arg2 h2 arg3 h3 arg4 h4 arg5 h5 arg6 h6 arg7 h7 arg8 h8 arg9 h9 arg10 h10 arg11 h11 arg12 h12 x0 x1 x2 x3 x4 x5 x6 x7 x8 y
      = ffnRow (addProj (fun k => x3 (ix2 (y 0) k)) (fun k => x0 (ix2 (y 0) k)) (fun k l => x1 (ix2 k l)) (fun k => x2 (ix2 0 k)))
          (fun k => x4 (ix2 0 k)) (fun k => x8 (ix2 0 k)) (fun k c => x5 (ix4 0 0 k c))
          (fun k c => x6 (ix4 0 0 k c)) (fun c j => x7 (ix4 0 0 c j)) (y 1) := by
  frame_open
  simp (disch := decide) only [↓ View.readCov_skip, ↓ View.readCov_cons_toLoadRect, ↓ View.readCov_fill]
  frame_out
  rw [canon_take]
  · canon_tiles x h
    · obtain ⟨a, b, rfl⟩ : ∃ (a : Fin 512) (b : Fin 1024), x = ix2 a b := ⟨x 0, x 1, eq_ix2 x⟩
      rw [hi4_apply]
      simp only [hi3_apply, hi2_apply, hi1_apply, mix_hi_apply]
      have hr : ∀ k : Fin 1024, View.ld x3 (Rect.unit ![512, 0] ![512, 1024] inb_S1024x1024_S512x1024_512_0) (ix2 a k) = x3 (ix2 (y 0) k) := fun k =>
        View.ld_unit_apply_of _ _ _ _ _ _ (fun d => match d with | ⟨0, _⟩ => h0 | ⟨1, _⟩ => (Nat.zero_add _).symm)
      have ho : ∀ k : Fin 1024, View.ld x0 (Rect.unit ![512, 0] ![512, 1024] inb_S1024x1024_S512x1024_512_0) (ix2 a k) = x0 (ix2 (y 0) k) := fun k =>
        View.ld_unit_apply_of _ _ _ _ _ _ (fun d => match d with | ⟨0, _⟩ => h0 | ⟨1, _⟩ => (Nat.zero_add _).symm)
      simp only [hr, ho]
      rw [show y 1 = b from Fin.ext h1]
      apply ffnRow_chunks
      all_goals
        intro p q
        exact View.ld_unit_apply_of _ _ _ _ _ _ (fun d => match d with
          | ⟨0, _⟩ => rfl | ⟨1, _⟩ => rfl | ⟨2, _⟩ => by show _ = _ + _; simp | ⟨3, _⟩ => by show _ = _ + _; simp)
    · obtain ⟨a, b, rfl⟩ : ∃ (a : Fin 512) (b : Fin 1024), x = ix2 a b := ⟨x 0, x 1, eq_ix2 x⟩
      rw [lo4_apply]
      simp only [lo3_apply, lo2_apply, lo1_apply, mix_lo_apply]
      have hr : ∀ k : Fin 1024, View.ld x3 (Rect.unit ![0, 0] ![512, 1024] inb_S1024x1024_S512x1024_0_0) (ix2 a k) = x3 (ix2 (y 0) k) := fun k =>
        View.ld_unit_apply_of _ _ _ _ _ _ (fun d => match d with | ⟨0, _⟩ => h0.trans (Nat.zero_add _).symm | ⟨1, _⟩ => (Nat.zero_add _).symm)
      have ho : ∀ k : Fin 1024, View.ld x0 (Rect.unit ![0, 0] ![512, 1024] inb_S1024x1024_S512x1024_0_0) (ix2 a k) = x0 (ix2 (y 0) k) := fun k =>
        View.ld_unit_apply_of _ _ _ _ _ _ (fun d => match d with | ⟨0, _⟩ => h0.trans (Nat.zero_add _).symm | ⟨1, _⟩ => (Nat.zero_add _).symm)
      simp only [hr, ho]
      rw [show y 1 = b from Fin.ext h1]
      apply ffnRow_chunks
      all_goals
        intro p q
        exact View.ld_unit_apply_of _ _ _ _ _ _ (fun d => match d with
          | ⟨0, _⟩ => rfl | ⟨1, _⟩ => rfl | ⟨2, _⟩ => by show _ = _ + _; simp | ⟨3, _⟩ => by show _ = _ + _; simp)

  · rw [Rect.mem_set_unit, Rect.mem_set_unit]
    have h0 : (y 0 : Nat) < 1024 := (y 0).isLt
    have h1 : (y 1 : Nat) < 1024 := (y 1).isLt
    by_cases h : (y 0 : Nat) < 512
    · right
      intro a
      match a with
      | ⟨0, _⟩ => exact ⟨Nat.zero_le _, by show (y 0 : Nat) < 0 + 512; omega⟩
      | ⟨1, _⟩ => exact ⟨Nat.zero_le _, by show (y 1 : Nat) < 0 + 1024; omega⟩
    · left
      intro a
      match a with
      | ⟨0, _⟩ => exact ⟨by show 512 ≤ (y 0 : Nat); omega, by show (y 0 : Nat) < 512 + 512; omega⟩
      | ⟨1, _⟩ => exact ⟨Nat.zero_le _, by show (y 1 : Nat) < 0 + 1024; omega⟩

end Cert.OutIdeal.Block
-- ==== Proof.OutValue.lean ====
module
public import proofs.«01_k».proof.Proof.OutBlock
@[expose] public section
set_option maxRecDepth 16384
noncomputable section

/-! The result array of the out-projection and feed-forward call: every row of it is one function of that row of the
hidden state and of the attention's output. -/

namespace Cert.OutIdeal.Block
open Cert.OutIdeal Cert.OutIdeal.Gen Idealize.ShloMosaic Idealize.ShloMosaic.TcCoe Idealize.SL.Sem
open Idealize.ShloMosaic.Pipeline (Dat)
open Cert.RowMath
variable (m : (ℓ : Loc nD τ sig) → Buf (Elt Ideal) ℓ) (ρ : Dev nD → PrngReg)

/-! ## What the host leaves in the kernel's operands -/

/-- The up-projection weights are passed as they are. -/
theorem V_v0 (c : Dev nD) : V m c main_v0 = m ((c : Thread nD τ).loc main_arg6) := by
  unfold_abbrev_sides
  after_results
  rfl

/-- The gate weights are passed as they are. -/
theorem V_v1 (c : Dev nD) : V m c main_v1 = m ((c : Thread nD τ).loc main_arg7) := by
  unfold_abbrev_sides
  after_results
  rfl

/-- The down-projection weights are passed as they are. -/
theorem V_v2 (c : Dev nD) : V m c main_v2 = m ((c : Thread nD τ).loc main_arg8) := by
  unfold_abbrev_sides
  after_results
  rfl

/-- The scale before the feed-forward. -/
theorem V_v5 (c : Dev nD) (k : Fin 1024) : (V m c main_v5 : FVec Ideal S1x1024 .f32) (ix2 0 k) = m ((c : Thread nD τ).loc main_arg4) (ix3 1 1 k) := by
  unfold_abbrev_sides
  after_results
  pointwise

/-- The scale after the feed-forward. -/
theorem V_v8 (c : Dev nD) (k : Fin 1024) : (V m c main_v8 : FVec Ideal S1x1024 .f32) (ix2 0 k) = m ((c : Thread nD τ).loc main_arg5) (ix3 1 1 k) := by
  unfold_abbrev_sides
  after_results
  pointwise

/-- The scale after the mixer. -/
theorem V_v13 (c : Dev nD) (k : Fin 1024) : (V m c main_v13 : FVec Ideal S1x1024 .f32) (ix2 0 k) = m ((c : Thread nD τ).loc main_arg3) (ix2 1 k) := by
  unfold_abbrev_sides
  after_results
  pointwise

/-- The out-projection's weights. -/
theorem V_v10 (c : Dev nD) (k l : Fin 1024) : (V m c main_v10 : FVec Ideal S1024x1024 .bf16) (ix2 k l) = m ((c : Thread nD τ).loc main_arg2) (ix3 0 k l) := by
  unfold_abbrev_sides
  after_results
  pointwise

/-! ## The windows' blocks at a grid point -/

/-- Window 0 moves one block of rows per grid point. -/
theorem idx0 : ∀ t : Fin cfg0.N, win0_0.index t 0 = t.val ∧ win0_0.index t 1 = 0 :=
  (by decide +kernel : ∀ t : Fin grid0.N, win0_0.index t 0 = t.val ∧ win0_0.index t 1 = 0)
/-- Window 3 moves one block of rows per grid point. -/
theorem idx3 : ∀ t : Fin cfg0.N, win0_3.index t 0 = t.val ∧ win0_3.index t 1 = 0 :=
  (by decide +kernel : ∀ t : Fin grid0.N, win0_3.index t 0 = t.val ∧ win0_3.index t 1 = 0)
/-- Window 9 moves one block of rows per grid point. -/
theorem idx9 : ∀ t : Fin cfg0.N, win0_9.index t 0 = t.val ∧ win0_9.index t 1 = 0 :=
  (by decide +kernel : ∀ t : Fin grid0.N, win0_9.index t 0 = t.val ∧ win0_9.index t 1 = 0)
/-- Window 1 stays at block zero. -/
theorem idx1 : ∀ t : Fin cfg0.N, ∀ a, win0_1.index t a = 0 := (by decide +kernel : ∀ t : Fin grid0.N, ∀ a, win0_1.index t a = 0)
/-- Window 2 stays at block zero. -/
theorem idx2 : ∀ t : Fin cfg0.N, ∀ a, win0_2.index t a = 0 := (by decide +kernel : ∀ t : Fin grid0.N, ∀ a, win0_2.index t a = 0)
/-- Window 4 stays at block zero. -/
theorem idx4 : ∀ t : Fin cfg0.N, ∀ a, win0_4.index t a = 0 := (by decide +kernel : ∀ t : Fin grid0.N, ∀ a, win0_4.index t a = 0)
/-- Window 8 stays at block zero. -/
theorem idx8 : ∀ t : Fin cfg0.N, ∀ a, win0_8.index t a = 0 := (by decide +kernel : ∀ t : Fin grid0.N, ∀ a, win0_8.index t a = 0)
/-- Window 5 stays at the weights of layer 1, slot 1. -/
theorem idx5 : ∀ t : Fin cfg0.N, win0_5.index t 0 = 1 ∧ win0_5.index t 1 = 1 ∧ win0_5.index t 2 = 0 ∧ win0_5.index t 3 = 0 := (by decide +kernel : ∀ t : Fin grid0.N, win0_5.index t 0 = 1 ∧ win0_5.index t 1 = 1 ∧ win0_5.index t 2 = 0 ∧ win0_5.index t 3 = 0)
/-- Window 6 stays at the weights of layer 1, slot 1. -/
theorem idx6 : ∀ t : Fin cfg0.N, win0_6.index t 0 = 1 ∧ win0_6.index t 1 = 1 ∧ win0_6.index t 2 = 0 ∧ win0_6.index t 3 = 0 := (by decide +kernel : ∀ t : Fin grid0.N, win0_6.index t 0 = 1 ∧ win0_6.index t 1 = 1 ∧ win0_6.index t 2 = 0 ∧ win0_6.index t 3 = 0)
/-- Window 7 stays at the weights of layer 1, slot 1. -/
theorem idx7 : ∀ t : Fin cfg0.N, win0_7.index t 0 = 1 ∧ win0_7.index t 1 = 1 ∧ win0_7.index t 2 = 0 ∧ win0_7.index t 3 = 0 := (by decide +kernel : ∀ t : Fin grid0.N, win0_7.index t 0 = 1 ∧ win0_7.index t 1 = 1 ∧ win0_7.index t 2 = 0 ∧ win0_7.index t 3 = 0)

/-- The attention output's block, as rows of the argument. -/
theorem iblk0 (c : Dev nD) (t : Fin cfg0.N) (y : S1024x1024.Idx) (z : S16384x1024.Idx) (h0 : (z 0).val = t.val * 1024 + (y 0).val) (h1 : (z 1).val = (y 1).val) :
    iblk m c 0 t y = m ((c : Thread nD τ).loc main_arg1) z := by
  unfold iblk
  rw [View.read_apply]
  show V m c main_arg1 _ = _
  rw [V_main_arg1]
  refine congrArg _ (funext fun a => Fin.ext ?_)
  match a with
  | ⟨0, _⟩ => blk_simp [(idx0 t).1]; exact h0.symm
  | ⟨1, _⟩ => blk_simp [(idx0 t).2]; exact h1.symm

/-- The hidden state's block, as rows of the argument. -/
theorem iblk3 (c : Dev nD) (t : Fin cfg0.N) (y : S1024x1024.Idx) (z : S16384x1024.Idx) (h0 : (z 0).val = t.val * 1024 + (y 0).val) (h1 : (z 1).val = (y 1).val) :
    iblk m c 3 t y = m ((c : Thread nD τ).loc main_arg0) z := by
  unfold iblk
  rw [View.read_apply]
  show V m c main_arg0 _ = _
  rw [V_main_arg0]
  refine congrArg _ (funext fun a => Fin.ext ?_)
  match a with
  | ⟨0, _⟩ => blk_simp [(idx3 t).1]; exact h0.symm
  | ⟨1, _⟩ => blk_simp [(idx3 t).2]; exact h1.symm

/-- The row of scales window 2 stages. -/
theorem iblk2 (c : Dev nD) (t : Fin cfg0.N) (k : Fin 1024) : iblk m c 2 t (ix2 0 k : S1x1024.Idx) = m ((c : Thread nD τ).loc main_arg3) (ix2 1 k) := by
  rw [← V_v13 m c k]
  unfold iblk
  rw [View.read_apply]
  show V m c main_v13 _ = _
  refine congrArg _ (funext fun a => Fin.ext ?_)
  match a with
  | ⟨0, _⟩ => blk_simp [idx2 t]
  | ⟨1, _⟩ => blk_simp [idx2 t]

/-- The row of scales window 4 stages. -/
theorem iblk4 (c : Dev nD) (t : Fin cfg0.N) (k : Fin 1024) : iblk m c 4 t (ix2 0 k : S1x1024.Idx) = m ((c : Thread nD τ).loc main_arg4) (ix3 1 1 k) := by
  rw [← V_v5 m c k]
  unfold iblk
  rw [View.read_apply]
  show V m c main_v5 _ = _
  refine congrArg _ (funext fun a => Fin.ext ?_)
  match a with
  | ⟨0, _⟩ => blk_simp [idx4 t]
  | ⟨1, _⟩ => blk_simp [idx4 t]

/-- The row of scales window 8 stages. -/
theorem iblk8 (c : Dev nD) (t : Fin cfg0.N) (k : Fin 1024) : iblk m c 8 t (ix2 0 k : S1x1024.Idx) = m ((c : Thread nD τ).loc main_arg5) (ix3 1 1 k) := by
  rw [← V_v8 m c k]
  unfold iblk
  rw [View.read_apply]
  show V m c main_v8 _ = _
  refine congrArg _ (funext fun a => Fin.ext ?_)
  match a with
  | ⟨0, _⟩ => blk_simp [idx8 t]
  | ⟨1, _⟩ => blk_simp [idx8 t]

/-- The out-projection's weights as window 1 stages them. -/
theorem iblk1 (c : Dev nD) (t : Fin cfg0.N) (k l : Fin 1024) : iblk m c 1 t (ix2 k l : S1024x1024.Idx) = m ((c : Thread nD τ).loc main_arg2) (ix3 0 k l) := by
  rw [← V_v10 m c k l]
  unfold iblk
  rw [View.read_apply]
  show V m c main_v10 _ = _
  refine congrArg _ (funext fun a => Fin.ext ?_)
  match a with
  | ⟨0, _⟩ => blk_simp [idx1 t]
  | ⟨1, _⟩ => blk_simp [idx1 t]

/-- The weights window 5 stages. -/
theorem iblk5 (c : Dev nD) (t : Fin cfg0.N) (k : Fin 1024) (d : Fin 2816) :
    iblk m c 5 t (ix4 0 0 k d : S1x1x1024x2816.Idx) = m ((c : Thread nD τ).loc main_arg6) (ix4 1 1 k d) := by
  rw [← V_v0 m c]
  unfold iblk
  rw [View.read_apply]
  show V m c main_v0 _ = _
  refine congrArg _ (funext fun a => Fin.ext ?_)
  match a with
  | ⟨0, _⟩ => blk_simp [(idx5 t).1]; rfl
  | ⟨1, _⟩ => blk_simp [(idx5 t).2.1]; rfl
  | ⟨2, _⟩ => blk_simp [(idx5 t).2.2.1]
  | ⟨3, _⟩ => blk_simp [(idx5 t).2.2.2]

/-- The weights window 6 stages. -/
theorem iblk6 (c : Dev nD) (t : Fin cfg0.N) (k : Fin 1024) (d : Fin 2816) :
    iblk m c 6 t (ix4 0 0 k d : S1x1x1024x2816.Idx) = m ((c : Thread nD τ).loc main_arg7) (ix4 1 1 k d) := by
  rw [← V_v1 m c]
  unfold iblk
  rw [View.read_apply]
  show V m c main_v1 _ = _
  refine congrArg _ (funext fun a => Fin.ext ?_)
  match a with
  | ⟨0, _⟩ => blk_simp [(idx6 t).1]; rfl
  | ⟨1, _⟩ => blk_simp [(idx6 t).2.1]; rfl
  | ⟨2, _⟩ => blk_simp [(idx6 t).2.2.1]
  | ⟨3, _⟩ => blk_simp [(idx6 t).2.2.2]

/-- The weights window 7 stages. -/
theorem iblk7 (c : Dev nD) (t : Fin cfg0.N) (d : Fin 2816) (k : Fin 1024) :
    iblk m c 7 t (ix4 0 0 d k : S1x1x2816x1024.Idx) = m ((c : Thread nD τ).loc main_arg8) (ix4 1 1 d k) := by
  rw [← V_v2 m c]
  unfold iblk
  rw [View.read_apply]
  show V m c main_v2 _ = _
  refine congrArg _ (funext fun a => Fin.ext ?_)
  match a with
  | ⟨0, _⟩ => blk_simp [(idx7 t).1]; rfl
  | ⟨1, _⟩ => blk_simp [(idx7 t).2.1]; rfl
  | ⟨2, _⟩ => blk_simp [(idx7 t).2.2.1]
  | ⟨3, _⟩ => blk_simp [(idx7 t).2.2.2]

/-! ## The result array -/

/-- What the kernel computes, as one array: each row is the feed-forward row of that row of the input, after the
attention's output, projected and normalized, was added. -/
def result (c : Dev nD) : Buf (Elt Ideal) ((c : Thread nD τ).loc main_v14) := fun z : S16384x1024.Idx =>
  ffnRow (addProj (fun k => m ((c : Thread nD τ).loc main_arg0) (ix2 (z 0) k)) (fun k => m ((c : Thread nD τ).loc main_arg1) (ix2 (z 0) k))
      (fun k l => m ((c : Thread nD τ).loc main_arg2) (ix3 0 k l)) (fun k => m ((c : Thread nD τ).loc main_arg3) (ix2 1 k)))
    (fun k => m ((c : Thread nD τ).loc main_arg4) (ix3 1 1 k)) (fun k => m ((c : Thread nD τ).loc main_arg5) (ix3 1 1 k))
    (fun k d => m ((c : Thread nD τ).loc main_arg6) (ix4 1 1 k d)) (fun k d => m ((c : Thread nD τ).loc main_arg7) (ix4 1 1 k d)) (fun d k => m ((c : Thread nD τ).loc main_arg8) (ix4 1 1 d k)) (z 1)

/-- Every grid point writes its block of that array. -/
theorem flushed_eq (c : Dev nD) (t : Fin cfg0.N) : (dats m 0 c).flushed 9 t = ((cfg0.win 9).blk t).view.read (Elt Ideal) (result m c) := by
  rw [Value.flushed9_A]
  funext (y : S1024x1024.Idx)
  rw [View.read_apply]
  have e0 : ((((cfg0.win 9).blk t).view.emb y) 0 : ℕ) = t.val * 1024 + (y 0).val := by blk_simp [(idx9 t).1]
  have e1 : ((((cfg0.win 9).blk t).view.emb y) 1 : ℕ) = (y 1).val := by blk_simp [(idx9 t).2]
  refine (out_apply ..).trans ?_
  unfold result
  simp only [iblk1, iblk2, iblk4, iblk5, iblk6, iblk7, iblk8]
  rw [show (fun k : Fin 1024 => iblk m c 0 t (ix2 (y 0) k : S1024x1024.Idx)) = fun k => m ((c : Thread nD τ).loc main_arg1) (ix2 (((cfg0.win 9).blk t).view.emb y 0) k) from
    funext fun k => iblk0 m c t _ _ e0 rfl,
    show (fun k : Fin 1024 => iblk m c 3 t (ix2 (y 0) k : S1024x1024.Idx)) = fun k => m ((c : Thread nD τ).loc main_arg0) (ix2 (((cfg0.win 9).blk t).view.emb y 0) k) from
    funext fun k => iblk3 m c t _ _ e0 rfl]
  exact congrArg _ (Fin.ext e1.symm)

/-- Every row is in some grid point's block. -/
theorem cover (i : S16384x1024.Idx) : ∃ t : Fin cfg0.N, (cfg0.win 9).flush t = true ∧ i ∈ ((cfg0.win 9).blk t).view.set := by
  have h0 : (i 0 : Nat) < 16384 := (i 0).isLt
  have h1 : (i 1 : Nat) < 1024 := (i 1).isLt
  have hN : cfg0.N = 16 := N_0
  refine ⟨⟨(i 0).val / 1024, by omega⟩, flush0_9 _, ?_⟩
  mem_blk [(idx9 _).1, (idx9 _).2]
  dsimp only
  omega

/-- The array the call ends with. -/
theorem final (c : Dev nD) : (dats m 0 c).arrAt 9 cfg0.N = result m c :=
  (dats m 0 c).arrAt_eq_of_cover 9 (result m c) (fun t _ => flushed_eq m c t) cover

end Cert.OutIdeal.Block
-- ==== Proof.OutRef.lean ====
module
public import proofs.«01_k».proof.Proof.RowMath
public import proofs.«01_k».proof.Proof.Gen.OutRefIdeal.Run
@[expose] public section
set_option maxRecDepth 16384
noncomputable section

/-! The plain out-projection and feed-forward, read one row at a time. -/

namespace Cert.OutRefIdeal.Rows
open Cert.OutRefIdeal Cert.OutRefIdeal.Gen Idealize.ShloMosaic Idealize.ShloMosaic.TcCoe Idealize.SL.Sem
open Cert.RowMath
variable {F : FTy → Type} [FloatOps F]

/-- The attention output times the out-projection's weights. -/
def proj (m : (ℓ : Loc nD τ sig) → Buf (Elt F) ℓ) (c : Dev nD) : FVec F S16384x1024 .f32 :=
  (Host.dotGeneral dot_S16384x1024_S1024x1024_S16384x1024_1_0_0_1_n_n none (extf .f32 (m ((c.tc : Thread nD τ).loc main_arg1)) bitsLt_bf16_f32) (shapeCast _ (m ((c.tc : Thread nD τ).loc main_arg2)) shapeCasts_S1x1024x1024_S1024x1024))

/-- The hidden state once the projected, normalized attention output was added to it. -/
def mixed (m : (ℓ : Loc nD τ sig) → Buf (Elt F) ℓ) (c : Dev nD) : FVec F S16384x1024 .f32 :=
  (addf (m ((c.tc : Thread nD τ).loc main_arg0)) (mulf (mulf (proj m c) (broadcastInDim S16384x1024 ![0, 1] bcast_S16384x1_S16384x1024_0_1 (Host.rsqrt (addf (Host.divf (broadcastInDim S16384x1 ![0] bcast_S16384_S16384x1_0 (Host.reduceAdd (mulf (proj m c) (proj m c)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ (extractStridedSlice S1x1024 ![1, 0] (m ((c.tc : Thread nD τ).loc main_arg3)) slices_S2x1024_S1x1024_1_0) shapeCasts_S1x1024_S1024)))))

/-- The plain result in terms of that hidden state. -/
def res (m : (ℓ : Loc nD τ sig) → Buf (Elt F) ℓ) (c : Dev nD) : Buf (Elt F) ((c.tc : Thread nD τ).loc main_v62) :=
  addf (mixed m c) (mulf (broadcastInDim S16384x1024 ![] bcast_S_S16384x1024 (constant S_ .f32 0x3F000000#32)) (mulf (mulf (Host.dotGeneral dot_S16384x2816_S2816x1024_S16384x1024_1_0_0_1_n_n none (mulf (mulf (Host.dotGeneral dot_S16384x1024_S1024x2816_S16384x2816_1_0_0_1_n_n none (mulf (mulf (mixed m c) (broadcastInDim S16384x1024 ![0, 1] bcast_S16384x1_S16384x1024_0_1 (Host.rsqrt (addf (Host.divf (broadcastInDim S16384x1 ![0] bcast_S16384_S16384x1_0 (Host.reduceAdd (mulf (mixed m c) (mixed m c)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ (extractStridedSlice S1x1x1024 ![1, 1, 0] (m ((c.tc : Thread nD τ).loc main_arg4)) slices_S2x2x1024_S1x1x1024_1_1_0) shapeCasts_S1x1x1024_S1024)))) (shapeCast _ (extractStridedSlice S1x1x1024x2816 ![1, 1, 0, 0] (m ((c.tc : Thread nD τ).loc main_arg6)) slices_S2x2x1024x2816_S1x1x1024x2816_1_1_0_0) shapeCasts_S1x1x1024x2816_S1024x2816)) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (Host.dotGeneral dot_S16384x1024_S1024x2816_S16384x2816_1_0_0_1_n_n none (mulf (mulf (mixed m c) (broadcastInDim S16384x1024 ![0, 1] bcast_S16384x1_S16384x1024_0_1 (Host.rsqrt (addf (Host.divf (broadcastInDim S16384x1 ![0] bcast_S16384_S16384x1_0 (Host.reduceAdd (mulf (mixed m c) (mixed m c)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ (extractStridedSlice S1x1x1024 ![1, 1, 0] (m ((c.tc : Thread nD τ).loc main_arg4)) slices_S2x2x1024_S1x1x1024_1_1_0) shapeCasts_S1x1x1024_S1024)))) (shapeCast _ (extractStridedSlice S1x1x1024x2816 ![1, 1, 0, 0] (m ((c.tc : Thread nD τ).loc main_arg6)) slices_S2x2x1024x2816_S1x1x1024x2816_1_1_0_0) shapeCasts_S1x1x1024x2816_S1024x2816))))))) (Host.dotGeneral dot_S16384x1024_S1024x2816_S16384x2816_1_0_0_1_n_n none (mulf (mulf (mixed m c) (broadcastInDim S16384x1024 ![0, 1] bcast_S16384x1_S16384x1024_0_1 (Host.rsqrt (addf (Host.divf (broadcastInDim S16384x1 ![0] bcast_S16384_S16384x1_0 (Host.reduceAdd (mulf (mixed m c) (mixed m c)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ (extractStridedSlice S1x1x1024 ![1, 1, 0] (m ((c.tc : Thread nD τ).loc main_arg4)) slices_S2x2x1024_S1x1x1024_1_1_0) shapeCasts_S1x1x1024_S1024)))) (shapeCast _ (extractStridedSlice S1x1x1024x2816 ![1, 1, 0, 0] (m ((c.tc : Thread nD τ).loc main_arg7)) slices_S2x2x1024x2816_S1x1x1024x2816_1_1_0_0) shapeCasts_S1x1x1024x2816_S1024x2816))) (shapeCast _ (extractStridedSlice S1x1x2816x1024 ![1, 1, 0, 0] (m ((c.tc : Thread nD τ).loc main_arg8)) slices_S2x2x2816x1024_S1x1x2816x1024_1_1_0_0) shapeCasts_S1x1x2816x1024_S2816x1024)) (broadcastInDim S16384x1024 ![0, 1] bcast_S16384x1_S16384x1024_0_1 (Host.rsqrt (addf (Host.divf (broadcastInDim S16384x1 ![0] bcast_S16384_S16384x1_0 (Host.reduceAdd (mulf (Host.dotGeneral dot_S16384x2816_S2816x1024_S16384x1024_1_0_0_1_n_n none (mulf (mulf (Host.dotGeneral dot_S16384x1024_S1024x2816_S16384x2816_1_0_0_1_n_n none (mulf (mulf (mixed m c) (broadcastInDim S16384x1024 ![0, 1] bcast_S16384x1_S16384x1024_0_1 (Host.rsqrt (addf (Host.divf (broadcastInDim S16384x1 ![0] bcast_S16384_S16384x1_0 (Host.reduceAdd (mulf (mixed m c) (mixed m c)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ (extractStridedSlice S1x1x1024 ![1, 1, 0] (m ((c.tc : Thread nD τ).loc main_arg4)) slices_S2x2x1024_S1x1x1024_1_1_0) shapeCasts_S1x1x1024_S1024)))) (shapeCast _ (extractStridedSlice S1x1x1024x2816 ![1, 1, 0, 0] (m ((c.tc : Thread nD τ).loc main_arg6)) slices_S2x2x1024x2816_S1x1x1024x2816_1_1_0_0) shapeCasts_S1x1x1024x2816_S1024x2816)) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (Host.dotGeneral dot_S16384x1024_S1024x2816_S16384x2816_1_0_0_1_n_n none (mulf (mulf (mixed m c) (broadcastInDim S16384x1024 ![0, 1] bcast_S16384x1_S16384x1024_0_1 (Host.rsqrt (addf (Host.divf (broadcastInDim S16384x1 ![0] bcast_S16384_S16384x1_0 (Host.reduceAdd (mulf (mixed m c) (mixed m c)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ (extractStridedSlice S1x1x1024 ![1, 1, 0] (m ((c.tc : Thread nD τ).loc main_arg4)) slices_S2x2x1024_S1x1x1024_1_1_0) shapeCasts_S1x1x1024_S1024)))) (shapeCast _ (extractStridedSlice S1x1x1024x2816 ![1, 1, 0, 0] (m ((c.tc : Thread nD τ).loc main_arg6)) slices_S2x2x1024x2816_S1x1x1024x2816_1_1_0_0) shapeCasts_S1x1x1024x2816_S1024x2816))))))) (Host.dotGeneral dot_S16384x1024_S1024x2816_S16384x2816_1_0_0_1_n_n none (mulf (mulf (mixed m c) (broadcastInDim S16384x1024 ![0, 1] bcast_S16384x1_S16384x1024_0_1 (Host.rsqrt (addf (Host.divf (broadcastInDim S16384x1 ![0] bcast_S16384_S16384x1_0 (Host.reduceAdd (mulf (mixed m c) (mixed m c)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ (extractStridedSlice S1x1x1024 ![1, 1, 0] (m ((c.tc : Thread nD τ).loc main_arg4)) slices_S2x2x1024_S1x1x1024_1_1_0) shapeCasts_S1x1x1024_S1024)))) (shapeCast _ (extractStridedSlice S1x1x1024x2816 ![1, 1, 0, 0] (m ((c.tc : Thread nD τ).loc main_arg7)) slices_S2x2x1024x2816_S1x1x1024x2816_1_1_0_0) shapeCasts_S1x1x1024x2816_S1024x2816))) (shapeCast _ (extractStridedSlice S1x1x2816x1024 ![1, 1, 0, 0] (m ((c.tc : Thread nD τ).loc main_arg8)) slices_S2x2x2816x1024_S1x1x2816x1024_1_1_0_0) shapeCasts_S1x1x2816x1024_S2816x1024)) (Host.dotGeneral dot_S16384x2816_S2816x1024_S16384x1024_1_0_0_1_n_n none (mulf (mulf (Host.dotGeneral dot_S16384x1024_S1024x2816_S16384x2816_1_0_0_1_n_n none (mulf (mulf (mixed m c) (broadcastInDim S16384x1024 ![0, 1] bcast_S16384x1_S16384x1024_0_1 (Host.rsqrt (addf (Host.divf (broadcastInDim S16384x1 ![0] bcast_S16384_S16384x1_0 (Host.reduceAdd (mulf (mixed m c) (mixed m c)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ (extractStridedSlice S1x1x1024 ![1, 1, 0] (m ((c.tc : Thread nD τ).loc main_arg4)) slices_S2x2x1024_S1x1x1024_1_1_0) shapeCasts_S1x1x1024_S1024)))) (shapeCast _ (extractStridedSlice S1x1x1024x2816 ![1, 1, 0, 0] (m ((c.tc : Thread nD τ).loc main_arg6)) slices_S2x2x1024x2816_S1x1x1024x2816_1_1_0_0) shapeCasts_S1x1x1024x2816_S1024x2816)) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (Host.dotGeneral dot_S16384x1024_S1024x2816_S16384x2816_1_0_0_1_n_n none (mulf (mulf (mixed m c) (broadcastInDim S16384x1024 ![0, 1] bcast_S16384x1_S16384x1024_0_1 (Host.rsqrt (addf (Host.divf (broadcastInDim S16384x1 ![0] bcast_S16384_S16384x1_0 (Host.reduceAdd (mulf (mixed m c) (mixed m c)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ (extractStridedSlice S1x1x1024 ![1, 1, 0] (m ((c.tc : Thread nD τ).loc main_arg4)) slices_S2x2x1024_S1x1x1024_1_1_0) shapeCasts_S1x1x1024_S1024)))) (shapeCast _ (extractStridedSlice S1x1x1024x2816 ![1, 1, 0, 0] (m ((c.tc : Thread nD τ).loc main_arg6)) slices_S2x2x1024x2816_S1x1x1024x2816_1_1_0_0) shapeCasts_S1x1x1024x2816_S1024x2816))))))) (Host.dotGeneral dot_S16384x1024_S1024x2816_S16384x2816_1_0_0_1_n_n none (mulf (mulf (mixed m c) (broadcastInDim S16384x1024 ![0, 1] bcast_S16384x1_S16384x1024_0_1 (Host.rsqrt (addf (Host.divf (broadcastInDim S16384x1 ![0] bcast_S16384_S16384x1_0 (Host.reduceAdd (mulf (mixed m c) (mixed m c)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ (extractStridedSlice S1x1x1024 ![1, 1, 0] (m ((c.tc : Thread nD τ).loc main_arg4)) slices_S2x2x1024_S1x1x1024_1_1_0) shapeCasts_S1x1x1024_S1024)))) (shapeCast _ (extractStridedSlice S1x1x1024x2816 ![1, 1, 0, 0] (m ((c.tc : Thread nD τ).loc main_arg7)) slices_S2x2x1024x2816_S1x1x1024x2816_1_1_0_0) shapeCasts_S1x1x1024x2816_S1024x2816))) (shapeCast _ (extractStridedSlice S1x1x2816x1024 ![1, 1, 0, 0] (m ((c.tc : Thread nD τ).loc main_arg8)) slices_S2x2x2816x1024_S1x1x2816x1024_1_1_0_0) shapeCasts_S1x1x2816x1024_S2816x1024))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ (extractStridedSlice S1x1x1024 ![1, 1, 0] (m ((c.tc : Thread nD τ).loc main_arg5)) slices_S2x2x1024_S1x1x1024_1_1_0) shapeCasts_S1x1x1024_S1024)))))

/-- It is the printed one. -/
theorem res_eq (m : (ℓ : Loc nD τ sig) → Buf (Elt F) ℓ) (c : Dev nD) : Value.res_main_v62 m c = res m c := by
  unfold Value.res_main_v62 res mixed proj
  rfl

variable (m : (ℓ : Loc nD τ sig) → Buf (Elt Ideal) ℓ)

/-- That product, entry by entry. -/
theorem prod_apply (O : FVec Ideal S16384x1024 .bf16) (A : FVec Ideal S1x1024x1024 .f32) (r : Fin 16384) (j : Fin 1024) :
    Host.dotGeneral dot_S16384x1024_S1024x1024_S16384x1024_1_0_0_1_n_n none (extf .f32 O bitsLt_bf16_f32) (shapeCast _ A shapeCasts_S1x1024x1024_S1024x1024) (ix2 r j)
      = ∑ k : Fin 1024, O (ix2 r k) * A (ix3 0 k j) := by
  pointwise

/-- That hidden state, entry by entry. -/
theorem mixed_apply (c : Dev nD) (r : Fin 16384) (j : Fin 1024) : mixed m c (ix2 r j)
  = addProj (fun k => m ((c : Thread nD τ).loc main_arg0) (ix2 r k)) (fun k => m ((c : Thread nD τ).loc main_arg1) (ix2 r k))
      (fun k l => m ((c : Thread nD τ).loc main_arg2) (ix3 0 k l)) (fun k => m ((c : Thread nD τ).loc main_arg3) (ix2 1 k)) j := by
  rw [addProj_of _ _ _ _ (fun l => proj m c (ix2 r l)) (fun l => prod_apply (m ((c : Thread nD τ).loc main_arg1)) (m ((c : Thread nD τ).loc main_arg2)) r l)]
  unfold mixed rinv
  generalize proj m c = P
  pointwise

/-- Each entry of the plain result is the feed-forward row of the row with the projected attention output added. -/
theorem result_apply (c : Dev nD) (r : Fin 16384) (j : Fin 1024) : (Value.res_main_v62 m c : FVec Ideal S16384x1024 .f32) (ix2 r j)
  = ffnRow (addProj (fun k => m ((c : Thread nD τ).loc main_arg0) (ix2 r k)) (fun k => m ((c : Thread nD τ).loc main_arg1) (ix2 r k))
      (fun k l => m ((c : Thread nD τ).loc main_arg2) (ix3 0 k l)) (fun k => m ((c : Thread nD τ).loc main_arg3) (ix2 1 k)))
    (fun k => m ((c : Thread nD τ).loc main_arg4) (ix3 1 1 k)) (fun k => m ((c : Thread nD τ).loc main_arg5) (ix3 1 1 k))
    (fun k d => m ((c : Thread nD τ).loc main_arg6) (ix4 1 1 k d)) (fun k d => m ((c : Thread nD τ).loc main_arg7) (ix4 1 1 k d)) (fun d k => m ((c : Thread nD τ).loc main_arg8) (ix4 1 1 d k)) j := by
  rw [res_eq, res]
  rw [show addProj (fun k => m ((c : Thread nD τ).loc main_arg0) (ix2 r k)) (fun k => m ((c : Thread nD τ).loc main_arg1) (ix2 r k))
      (fun k l => m ((c : Thread nD τ).loc main_arg2) (ix3 0 k l)) (fun k => m ((c : Thread nD τ).loc main_arg3) (ix2 1 k))
    = fun k => mixed m c (ix2 r k) from funext fun k => (mixed_apply m c r k).symm]
  generalize mixed m c = X
  pointwise
  rfl

end Cert.OutRefIdeal.Rows
-- ==== Proof.OutClaims.lean ====
module
public import proofs.«01_k».proof.Defs
public import proofs.«01_k».proof.Proof.Gen.Out.Frame
public import proofs.«01_k».proof.Proof.Gen.OutIdeal.Frame
public import proofs.«01_k».proof.Proof.OutValue
public import proofs.«01_k».proof.Proof.OutRef
@[expose] public section
set_option maxRecDepth 16384
noncomputable section

/-! The claims about the out-projection and feed-forward call. -/

namespace Cert.OutClaims
open Idealize.ShloMosaic Idealize.ShloMosaic.TcCoe Idealize.SL.Sem

/-- The kernel as printed runs to the end and leaves its arguments and the machine at rest. -/
theorem frameOut : Cert.quiescent_Out := fun m ρ _ => Cert.Out.Gen.frame m ρ
/-- So does it at exact numbers. -/
theorem frameOutIdeal : Cert.quiescent_OutIdeal := fun m ρ _ => Cert.OutIdeal.Gen.frame m ρ
/-- So does the plain program. -/
theorem frameOutRefIdeal : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

/-- The kernel and the plain mathematics end with the same array. -/
theorem algebraicOut : Cert.algebraic_OutIdeal_OutRefIdeal := by
  intro m ρ m' ρ' _ hag
  refine ⟨fun c => Cert.OutIdeal.Block.result m c,
    (θ_run Cert.OutIdeal.defs _ _).mono (fun _ h c => ⟨(h c).1.trans (Cert.OutIdeal.Block.final m c), (h c).2⟩) (Cert.OutIdeal.Value.run_blocks m ρ),
    (θ_run Cert.OutRefIdeal.defs _ _).mono (fun _ h c => ⟨(h c).1.trans ?_, (h c).2⟩) (Cert.OutRefIdeal.Value.run m' ρ')⟩
  funext (z : Cert.OutRefIdeal.S16384x1024.Idx)
  obtain ⟨r, j, rfl⟩ : ∃ (r : Fin 16384) (j : Fin 1024), z = ix2 r j := ⟨z 0, z 1, eq_ix2 z⟩
  refine (Cert.OutRefIdeal.Rows.result_apply m' c r j).trans ?_
  obtain ⟨e0, e1, e2, e3, e4, e5, e6, e7, e8⟩ := hag c
  rw [e0, e1, e2, e3, e4, e5, e6, e7, e8]
  rfl

end Cert.OutClaims
-- ==== Proof.PoolRow.lean ====
/-
  One row of the pooling layer's mixer, written over the extended reals: the row and the rows before it
  are normalized, averaged over trailing windows of 2, 4, 8 and 16 rows (one window per group of 256
  lanes), the row itself subtracted, each group sent through its own linear map, and the result,
  normalized, added to the row. Also the feed-forward row from six chunks of hidden lanes.
-/
module

public import proofs.«01_k».proof.Proof.RowMath

@[expose] public section

noncomputable section

namespace Cert.RowMath

open Idealize.ShloMosaic

/-- A normalized row: each lane times the root-mean-square factor times the gain. -/
def nrm (x g : Fin 1024 → EReal) (j : Fin 1024) : EReal := x j * rinv x * g j

/-- Lane `c` of group `q`. -/
def col (q : Fin 4) (c : Fin 256) : Fin 1024 := ⟨256 * q.val + c.val, by omega⟩

/-- The group that a lane belongs to. -/
def grp (j : Fin 1024) : Fin 4 := ⟨j.val / 256, by omega⟩

/-- A lane's place in its group. -/
def lane (j : Fin 1024) : Fin 256 := ⟨j.val % 256, by omega⟩

/-- A column is made from its group and its lane. -/
theorem col_grp (j : Fin 1024) : col (grp j) (lane j) = j := Fin.ext (by show 256 * (j.val / 256) + j.val % 256 = j.val; omega)

/-- One group of the linear map on the difference between the trailing mean over `n` rows (`r` is one over `n`) and the row itself. -/
def poolGrp (n : ℕ) (r : EReal) (E : ℕ → Fin 256 → EReal) (W : Fin 256 → Fin 256 → EReal) (b s : Fin 256 → EReal) (d : Fin 256) : EReal :=
  ((∑ c : Fin 256, ((∑ t ∈ Finset.range n, E t c) * r - E 0 c) * W c d) + b d) * s d

/-- The length of a group's trailing window. -/
def winOf (q : Fin 4) : ℕ := 2 ^ (q.val + 1)

/-- The mixer's row: `X t` is the row `t` places back. -/
def poolRow (X : ℕ → Fin 1024 → EReal) (g : Fin 1024 → EReal) (W : Fin 4 → Fin 256 → Fin 256 → EReal) (b s : Fin 1024 → EReal)
    (j : Fin 1024) : EReal :=
  poolGrp (winOf (grp j)) (((1 / (winOf (grp j) : ℝ) : ℝ) : EReal)) (fun t c => nrm (X t) g (col (grp j) c)) (W (grp j))
    (fun d => b (col (grp j) d)) (fun d => s (col (grp j) d)) (lane j)

/-- A row with the mixer's row, normalized, added. -/
def poolMix (X : ℕ → Fin 1024 → EReal) (g : Fin 1024 → EReal) (W : Fin 4 → Fin 256 → Fin 256 → EReal) (b s gp : Fin 1024 → EReal)
    (j : Fin 1024) : EReal :=
  X 0 j + nrm (poolRow X g W b s) gp j

/-- Row `a` of sequence `b` with the sixteen meta rows in front (zero past the end). -/
def seqRow (P : Fin 16 → Fin 1024 → EReal) (H : Fin 16384 → Fin 1024 → EReal) (b a : ℕ) : Fin 1024 → EReal :=
  if h : a < 16 then P ⟨a, h⟩ else if h' : b * 4096 + (a - 16) < 16384 then H ⟨b * 4096 + (a - 16), h'⟩ else 0

/-- One half, the first window's weight. -/
theorem ofBits_half : Ideal.ofBits FTy.f32 1056964608#32 = ((1 / (winOf 0 : ℝ) : ℝ) : EReal) := by
  simp [Ideal.ofBits, Ideal.ieee, -EReal.coe_mul, winOf]; norm_num

/-- One quarter, the second window's weight. -/
theorem ofBits_quarter : Ideal.ofBits FTy.f32 1048576000#32 = ((1 / (winOf 1 : ℝ) : ℝ) : EReal) := by
  simp [Ideal.ofBits, Ideal.ieee, -EReal.coe_mul, winOf]; norm_num

/-- One eighth, the third window's weight. -/
theorem ofBits_eighth : Ideal.ofBits FTy.f32 1040187392#32 = ((1 / (winOf 2 : ℝ) : ℝ) : EReal) := by
  simp [Ideal.ofBits, Ideal.ieee, -EReal.coe_mul, winOf]; norm_num

/-- One sixteenth, the last window's weight. -/
theorem ofBits_sixteenth : Ideal.ofBits FTy.f32 1031798784#32 = ((1 / (winOf 3 : ℝ) : ℝ) : EReal) := by
  simp [Ideal.ofBits, Ideal.ieee, -EReal.coe_mul, winOf]; norm_num

/-- A sum over 2816 lanes, in six chunks. -/
theorem sum_chunks6 (f : Fin 2816 → EReal) :
    ∑ c, f c = (∑ c : Fin 512, f ⟨0 + c.val, by omega⟩) + (∑ c : Fin 512, f ⟨512 + c.val, by omega⟩)
      + (∑ c : Fin 512, f ⟨1024 + c.val, by omega⟩) + (∑ c : Fin 512, f ⟨1536 + c.val, by omega⟩)
      + (∑ c : Fin 512, f ⟨2048 + c.val, by omega⟩) + ∑ c : Fin 256, f ⟨2560 + c.val, by omega⟩ := by
  rw [show (∑ c, f c) = ∑ c : Fin (512 + 512 + 512 + 512 + 512 + 256), f c from rfl, Fin.sum_univ_add, Fin.sum_univ_add,
    Fin.sum_univ_add, Fin.sum_univ_add, Fin.sum_univ_add]
  refine congrArg₂ _ (congrArg₂ _ (congrArg₂ _ (congrArg₂ _ (congrArg₂ _ ?_ ?_) ?_) ?_) ?_) ?_ <;>
    exact Finset.sum_congr rfl fun c _ => congrArg f (Fin.ext (by simp <;> omega))

/-- One chunk of hidden lanes' contribution to output lane `j`, the factor applied late. -/
def chunk {n : ℕ} (h g : Fin 1024 → EReal) (a1 a3 : Fin 1024 → Fin n → EReal) (a2 : Fin n → Fin 1024 → EReal) (j : Fin 1024) : EReal :=
  mix (fun c => gate (upLate h g fun k => a1 k c) (upLate h g fun k => a3 k c)) a2 j

/-- A chunk cut out of the whole weights. -/
theorem chunk_eq {n : ℕ} (o : ℕ) (ho : o + n ≤ 2816) (h g : Fin 1024 → EReal) (w1 w3 : Fin 1024 → Fin 2816 → EReal) (w2 : Fin 2816 → Fin 1024 → EReal)
    (a1 a3 : Fin 1024 → Fin n → EReal) (a2 : Fin n → Fin 1024 → EReal)
    (h1 : ∀ k (c : Fin n), a1 k c = w1 k ⟨o + c.val, by omega⟩) (h3 : ∀ k (c : Fin n), a3 k c = w3 k ⟨o + c.val, by omega⟩)
    (h2 : ∀ (c : Fin n) j, a2 c j = w2 ⟨o + c.val, by omega⟩ j) (j : Fin 1024) :
    chunk h g a1 a3 a2 j = ∑ c : Fin n, (fun c : Fin 2816 => gate (up h g fun k => w1 k c) (up h g fun k => w3 k c) * w2 c j) ⟨o + c.val, by omega⟩ := by
  unfold chunk mix
  simp only [upLate_eq, h1, h3, h2]

/-- The feed-forward row from its six chunks. -/
theorem ffnRow_six (h g gp : Fin 1024 → EReal) (w1 w3 : Fin 1024 → Fin 2816 → EReal) (w2 : Fin 2816 → Fin 1024 → EReal)
    (C0 C1 C2 C3 C4 C5 : Fin 1024 → EReal)
    (h0 : ∀ k, C0 k = ∑ c : Fin 512, (fun c : Fin 2816 => gate (up h g fun k => w1 k c) (up h g fun k => w3 k c) * w2 c k) ⟨0 + c.val, by omega⟩)
    (h1 : ∀ k, C1 k = ∑ c : Fin 512, (fun c : Fin 2816 => gate (up h g fun k => w1 k c) (up h g fun k => w3 k c) * w2 c k) ⟨512 + c.val, by omega⟩)
    (h2 : ∀ k, C2 k = ∑ c : Fin 512, (fun c : Fin 2816 => gate (up h g fun k => w1 k c) (up h g fun k => w3 k c) * w2 c k) ⟨1024 + c.val, by omega⟩)
    (h3 : ∀ k, C3 k = ∑ c : Fin 512, (fun c : Fin 2816 => gate (up h g fun k => w1 k c) (up h g fun k => w3 k c) * w2 c k) ⟨1536 + c.val, by omega⟩)
    (h4 : ∀ k, C4 k = ∑ c : Fin 512, (fun c : Fin 2816 => gate (up h g fun k => w1 k c) (up h g fun k => w3 k c) * w2 c k) ⟨2048 + c.val, by omega⟩)
    (h5 : ∀ k, C5 k = ∑ c : Fin 256, (fun c : Fin 2816 => gate (up h g fun k => w1 k c) (up h g fun k => w3 k c) * w2 c k) ⟨2560 + c.val, by omega⟩)
    (j : Fin 1024) :
    addNorm h gp (fun k => C0 k + C1 k + C2 k + C3 k + C4 k + C5 k) j = ffnRow h g gp w1 w3 w2 j := by
  unfold ffnRow
  refine congrArg (fun f => addNorm h gp f j) (funext fun k => ?_)
  unfold ffnMid mix
  rw [sum_chunks6, h0, h1, h2, h3, h4, h5]

/-- Sums of 2, 4, 8 and 16 terms, as a doubling sum takes them. -/
theorem sum_two (f : ℕ → EReal) : ∑ t ∈ Finset.range 2, f t = f 0 + f 1 := by simp [Finset.sum_range_succ]

/-- Four terms, added in pairs. -/
theorem sum_four (f : ℕ → EReal) : ∑ t ∈ Finset.range 4, f t = f 0 + f 1 + (f 2 + f 3) := by
  simp [Finset.sum_range_succ, add_assoc]

/-- Eight terms, added in pairs. -/
theorem sum_eight (f : ℕ → EReal) :
    ∑ t ∈ Finset.range 8, f t = f 0 + f 1 + (f 2 + f 3) + (f 4 + f 5 + (f 6 + f 7)) := by
  simp [Finset.sum_range_succ, add_assoc]

/-- Sixteen terms, added in pairs. -/
theorem sum_sixteen (f : ℕ → EReal) :
    ∑ t ∈ Finset.range 16, f t = f 0 + f 1 + (f 2 + f 3) + (f 4 + f 5 + (f 6 + f 7))
      + (f 8 + f 9 + (f 10 + f 11) + (f 12 + f 13 + (f 14 + f 15))) := by
  simp [Finset.sum_range_succ, add_assoc]

end Cert.RowMath

end
-- ==== Proof.PoolGroups.lean ====
/-
  The pooling layer's feed-forward kernel, one grid point: one group of the mixer, entry by entry.
-/
module
public import proofs.«01_k».proof.Proof.Gen.PoolIdeal.Value
public import proofs.«01_k».proof.Proof.PoolRow
public import Idealize.ShloMosaic.Lib.Pipeline.ValueKit
public import Idealize.ShloMosaic.Lib.Pipeline.ReadBack
@[expose] public section
set_option maxRecDepth 16384
noncomputable section
namespace Cert.PoolIdeal.Block
open Cert.PoolIdeal Cert.PoolIdeal.Gen Idealize.ShloMosaic Idealize.ShloMosaic.TcCoe Idealize.SL.Sem
open Idealize.ShloMosaic.Pipeline (Dat)
open Cert.RowMath

/-- A rotation by `m` rows added to its operand, away from the end it wraps around. -/
theorem rot_apply (X : FVec Ideal S528x256 .f32) (m : ℕ) (n : BitVec 32) (hn : n.toNat = m) (f : ℕ → Fin 256 → EReal) (o : ℕ)
    (hX : ∀ (a : Fin 528) c, o ≤ a.val → X (ix2 a c) = f a.val c) (a : Fin 528) (c : Fin 256) (ha : o + m ≤ a.val) :
    addf X (dynamicRotate 0 n none X rotates_S528x256_d0) (ix2 a c) = f a.val c + f (a.val - m) c := by
  subst hn
  have h2 : a.val < 528 := a.isLt
  have e : dynamicRotate 0 n none X rotates_S528x256_d0 (ix2 a c) = X (ix2 ⟨a.val - n.toNat, by omega⟩ c) := by
    unfold dynamicRotate
    refine congrArg X (funext fun b => ?_)
    match b with
    | ⟨0, _⟩ =>
      refine Fin.ext ?_
      show (a.val + 528 - (n.toNat + 0) % 528) % 528 = a.val - n.toNat
      have : (n.toNat + 0) % 528 = n.toNat := Nat.mod_eq_of_lt (by omega)
      omega
    | ⟨1, _⟩ => rfl
  show X (ix2 a c) + dynamicRotate 0 n none X rotates_S528x256_d0 (ix2 a c) = _
  rw [e, hX a c (by omega), hX _ c (by show o ≤ a.val - n.toNat; omega)]

/-- A group's 256 lanes of an array of rows. -/
theorem cut_apply {n : ℕ} (E : FVec Ideal ⟨2, ![n, 1024]⟩ .f32) (q : Fin 4) (h : Shape.Slices ⟨2, ![n, 1024]⟩ ![0, 256 * q.val] ⟨2, ![n, 256]⟩) (a : Fin n) (c : Fin 256) :
    extractStridedSlice ⟨2, ![n, 256]⟩ ![0, 256 * q.val] E h (ix2 a c) = E (ix2 a (col q c)) :=
  congrArg E (funext fun b => match b with | ⟨0, _⟩ => Fin.ext (Nat.zero_add _) | ⟨1, _⟩ => rfl)

/-- The rows after the first sixteen. -/
theorem low_apply (Z : FVec Ideal S528x256 .f32) (i : Fin 512) (c : Fin 256) :
    extractStridedSlice S512x256 ![16, 0] Z slices_S528x256_o16_0_S512x256 (ix2 i c) = Z (ix2 ⟨16 + i.val, by omega⟩ c) :=
  congrArg Z (funext fun b => match b with | ⟨0, _⟩ => rfl | ⟨1, _⟩ => Fin.ext (Nat.zero_add _))

/-- An array added to itself rotated by `n` rows. -/
def dbl {F : FTy → Type} [FloatOps F] (n : BitVec 32) (X : FVec F S528x256 .f32) : FVec F S528x256 .f32 :=
  addf X (dynamicRotate 0 n none X rotates_S528x256_d0)

/-- The sums over 2 rows, by doubling. -/
theorem win2_apply (E : FVec Ideal S528x1024 .f32) (e : ℕ → Fin 1024 → EReal) (hE : ∀ a k, E (ix2 a k) = e a.val k) (i : Fin 512) (c : Fin 256) :
    extractStridedSlice S512x256 ![16, 0] (dbl 1#32 (extractStridedSlice S528x256 ![0, 0] E slices_S528x1024_o0_0_S528x256)) slices_S528x256_o16_0_S512x256 (ix2 i c) = ∑ t ∈ Finset.range 2, e (16 + i.val - t) (col 0 c) := by
  have hi : i.val < 512 := i.isLt
  have h0 := fun (a : Fin 528) (c : Fin 256) (_ : 0 ≤ a.val) => (cut_apply E 0 slices_S528x1024_o0_0_S528x256 a c).trans (hE a (col 0 c))
  have h1 := rot_apply (extractStridedSlice S528x256 ![0, 0] E slices_S528x1024_o0_0_S528x256) 1 1#32 rfl (fun a c => e a (col 0 c)) 0 h0
  refine (low_apply _ i c).trans ((h1 ⟨16 + i.val, by omega⟩ c (by show 0 + 1 ≤ 16 + i.val; omega)).trans ?_)
  rw [sum_two]
  simp only [Nat.sub_sub, Nat.reduceAdd, Nat.sub_zero]

/-- The sums over 4 rows, by doubling. -/
theorem win4_apply (E : FVec Ideal S528x1024 .f32) (e : ℕ → Fin 1024 → EReal) (hE : ∀ a k, E (ix2 a k) = e a.val k) (i : Fin 512) (c : Fin 256) :
    extractStridedSlice S512x256 ![16, 0] (dbl 2#32 (dbl 1#32 (extractStridedSlice S528x256 ![0, 256] E slices_S528x1024_o0_256_S528x256))) slices_S528x256_o16_0_S512x256 (ix2 i c) = ∑ t ∈ Finset.range 4, e (16 + i.val - t) (col 1 c) := by
  have hi : i.val < 512 := i.isLt
  have h0 := fun (a : Fin 528) (c : Fin 256) (_ : 0 ≤ a.val) => (cut_apply E 1 slices_S528x1024_o0_256_S528x256 a c).trans (hE a (col 1 c))
  have h1 := rot_apply (extractStridedSlice S528x256 ![0, 256] E slices_S528x1024_o0_256_S528x256) 1 1#32 rfl (fun a c => e a (col 1 c)) 0 h0
  have h2 := rot_apply (dbl 1#32 (extractStridedSlice S528x256 ![0, 256] E slices_S528x1024_o0_256_S528x256)) 2 2#32 rfl (fun a c => (fun a c => e a (col 1 c)) a c + (fun a c => e a (col 1 c)) (a - 1) c) 1 h1
  refine (low_apply _ i c).trans ((h2 ⟨16 + i.val, by omega⟩ c (by show 0 + 1 + 2 ≤ 16 + i.val; omega)).trans ?_)
  rw [sum_four]
  simp only [Nat.sub_sub, Nat.reduceAdd, Nat.sub_zero]

/-- The sums over 8 rows, by doubling. -/
theorem win8_apply (E : FVec Ideal S528x1024 .f32) (e : ℕ → Fin 1024 → EReal) (hE : ∀ a k, E (ix2 a k) = e a.val k) (i : Fin 512) (c : Fin 256) :
    extractStridedSlice S512x256 ![16, 0] (dbl 4#32 (dbl 2#32 (dbl 1#32 (extractStridedSlice S528x256 ![0, 512] E slices_S528x1024_o0_512_S528x256)))) slices_S528x256_o16_0_S512x256 (ix2 i c) = ∑ t ∈ Finset.range 8, e (16 + i.val - t) (col 2 c) := by
  have hi : i.val < 512 := i.isLt
  have h0 := fun (a : Fin 528) (c : Fin 256) (_ : 0 ≤ a.val) => (cut_apply E 2 slices_S528x1024_o0_512_S528x256 a c).trans (hE a (col 2 c))
  have h1 := rot_apply (extractStridedSlice S528x256 ![0, 512] E slices_S528x1024_o0_512_S528x256) 1 1#32 rfl (fun a c => e a (col 2 c)) 0 h0
  have h2 := rot_apply (dbl 1#32 (extractStridedSlice S528x256 ![0, 512] E slices_S528x1024_o0_512_S528x256)) 2 2#32 rfl (fun a c => (fun a c => e a (col 2 c)) a c + (fun a c => e a (col 2 c)) (a - 1) c) 1 h1
  have h3 := rot_apply (dbl 2#32 (dbl 1#32 (extractStridedSlice S528x256 ![0, 512] E slices_S528x1024_o0_512_S528x256))) 4 4#32 rfl (fun a c => (fun a c => (fun a c => e a (col 2 c)) a c + (fun a c => e a (col 2 c)) (a - 1) c) a c + (fun a c => (fun a c => e a (col 2 c)) a c + (fun a c => e a (col 2 c)) (a - 1) c) (a - 2) c) 3 h2
  refine (low_apply _ i c).trans ((h3 ⟨16 + i.val, by omega⟩ c (by show 0 + 1 + 2 + 4 ≤ 16 + i.val; omega)).trans ?_)
  rw [sum_eight]
  simp only [Nat.sub_sub, Nat.reduceAdd, Nat.sub_zero]

/-- The sums over 16 rows, by doubling. -/
theorem win16_apply (E : FVec Ideal S528x1024 .f32) (e : ℕ → Fin 1024 → EReal) (hE : ∀ a k, E (ix2 a k) = e a.val k) (i : Fin 512) (c : Fin 256) :
    extractStridedSlice S512x256 ![16, 0] (dbl 8#32 (dbl 4#32 (dbl 2#32 (dbl 1#32 (extractStridedSlice S528x256 ![0, 768] E slices_S528x1024_o0_768_S528x256))))) slices_S528x256_o16_0_S512x256 (ix2 i c) = ∑ t ∈ Finset.range 16, e (16 + i.val - t) (col 3 c) := by
  have hi : i.val < 512 := i.isLt
  have h0 := fun (a : Fin 528) (c : Fin 256) (_ : 0 ≤ a.val) => (cut_apply E 3 slices_S528x1024_o0_768_S528x256 a c).trans (hE a (col 3 c))
  have h1 := rot_apply (extractStridedSlice S528x256 ![0, 768] E slices_S528x1024_o0_768_S528x256) 1 1#32 rfl (fun a c => e a (col 3 c)) 0 h0
  have h2 := rot_apply (dbl 1#32 (extractStridedSlice S528x256 ![0, 768] E slices_S528x1024_o0_768_S528x256)) 2 2#32 rfl (fun a c => (fun a c => e a (col 3 c)) a c + (fun a c => e a (col 3 c)) (a - 1) c) 1 h1
  have h3 := rot_apply (dbl 2#32 (dbl 1#32 (extractStridedSlice S528x256 ![0, 768] E slices_S528x1024_o0_768_S528x256))) 4 4#32 rfl (fun a c => (fun a c => (fun a c => e a (col 3 c)) a c + (fun a c => e a (col 3 c)) (a - 1) c) a c + (fun a c => (fun a c => e a (col 3 c)) a c + (fun a c => e a (col 3 c)) (a - 1) c) (a - 2) c) 3 h2
  have h4 := rot_apply (dbl 4#32 (dbl 2#32 (dbl 1#32 (extractStridedSlice S528x256 ![0, 768] E slices_S528x1024_o0_768_S528x256)))) 8 8#32 rfl (fun a c => (fun a c => (fun a c => (fun a c => e a (col 3 c)) a c + (fun a c => e a (col 3 c)) (a - 1) c) a c + (fun a c => (fun a c => e a (col 3 c)) a c + (fun a c => e a (col 3 c)) (a - 1) c) (a - 2) c) a c + (fun a c => (fun a c => (fun a c => e a (col 3 c)) a c + (fun a c => e a (col 3 c)) (a - 1) c) a c + (fun a c => (fun a c => e a (col 3 c)) a c + (fun a c => e a (col 3 c)) (a - 1) c) (a - 2) c) (a - 4) c) 7 h3
  refine (low_apply _ i c).trans ((h4 ⟨16 + i.val, by omega⟩ c (by show 0 + 1 + 2 + 4 + 8 ≤ 16 + i.val; omega)).trans ?_)
  rw [sum_sixteen]
  simp only [Nat.sub_sub, Nat.reduceAdd, Nat.sub_zero]

/-- One group of the mixer from its window sums `S` and its own lanes `D`. -/
def grpPay {F : FTy → Type} [FloatOps F] (r : BitVec 32) (S D : FVec F S512x256 .f32) (w : FVec F S1x256x256 .bf16) (b s : FVec F S1x256 .f32) :
    FVec F S512x256 .f32 :=
  mulf (addf (matmul dot_S512x256_S256x256_S512x256_1_0_0_1_n_n none
      (truncf .bf16 (subf (mulf S (broadcast S512x256 (Scalar.ofBits .f32 r))) D) bitsLt_bf16_f32)
      (shapeCast S256x256 w shapeCasts_S1x256x256_S256x256) (constant S512x256 .f32 0x00000000#32))
    (broadcastTo S512x256 (shapeCast S1x256 b shapeCasts_S1x256_S1x256) broadcasts_S1x256_S512x256))
    (broadcastTo S512x256 (shapeCast S1x256 s shapeCasts_S1x256_S1x256) broadcasts_S1x256_S512x256)

/-- That group, entry by entry. -/
theorem grpPay_apply (r : BitVec 32) (S D : FVec Ideal S512x256 .f32) (w : FVec Ideal S1x256x256 .bf16) (b s : FVec Ideal S1x256 .f32)
    (i : Fin 512) (d : Fin 256) :
    grpPay r S D w b s (ix2 i d)
    = ((∑ c : Fin 256, (S (ix2 i c) * Ideal.ofBits FTy.f32 r - D (ix2 i c)) * w (ix3 0 c d)) + b (ix2 0 d)) * s (ix2 0 d) := by
  unfold grpPay
  pointwise

/-- Group 0, from the normalized rows and the sixteen before them. -/
theorem grp0_apply (N : FVec Ideal S512x1024 .f32) (E : FVec Ideal S528x1024 .f32) (w : FVec Ideal S1x256x256 .bf16) (b s : FVec Ideal S1x256 .f32)
    (e : ℕ → Fin 1024 → EReal) (hE : ∀ a k, E (ix2 a k) = e a.val k) (hN : ∀ a k, N (ix2 a k) = e (16 + a.val) k) (i : Fin 512) (d : Fin 256) :
    grpPay (F := Ideal) 0x3f000000#32 (extractStridedSlice S512x256 ![16, 0] (dbl 1#32 (extractStridedSlice S528x256 ![0, 0] E slices_S528x1024_o0_0_S528x256)) slices_S528x256_o16_0_S512x256)
      (extractStridedSlice S512x256 ![0, 0] N slices_S512x1024_o0_0_S512x256) w b s (ix2 i d)
    = poolGrp (winOf 0) ((1 / (winOf 0 : ℝ) : ℝ) : EReal) (fun t c => e (16 + i.val - t) (col 0 c)) (fun c d => w (ix3 0 c d))
        (fun d => b (ix2 0 d)) (fun d => s (ix2 0 d)) d := by
  rw [grpPay_apply]
  have hD : ∀ c, extractStridedSlice S512x256 ![0, 0] N slices_S512x1024_o0_0_S512x256 (ix2 i c) = e (16 + i.val) (col 0 c) :=
    fun c => (cut_apply N 0 slices_S512x1024_o0_0_S512x256 i c).trans (hN i _)
  have hR : Ideal.ofBits FTy.f32 0x3f000000#32 = ((1 / (winOf 0 : ℝ) : ℝ) : EReal) := ofBits_half
  simp only [win2_apply E e hE, hD, hR]
  rfl

/-- Group 1, from the normalized rows and the sixteen before them. -/
theorem grp1_apply (N : FVec Ideal S512x1024 .f32) (E : FVec Ideal S528x1024 .f32) (w : FVec Ideal S1x256x256 .bf16) (b s : FVec Ideal S1x256 .f32)
    (e : ℕ → Fin 1024 → EReal) (hE : ∀ a k, E (ix2 a k) = e a.val k) (hN : ∀ a k, N (ix2 a k) = e (16 + a.val) k) (i : Fin 512) (d : Fin 256) :
    grpPay (F := Ideal) 0x3e800000#32 (extractStridedSlice S512x256 ![16, 0] (dbl 2#32 (dbl 1#32 (extractStridedSlice S528x256 ![0, 256] E slices_S528x1024_o0_256_S528x256))) slices_S528x256_o16_0_S512x256)
      (extractStridedSlice S512x256 ![0, 256] N slices_S512x1024_o0_256_S512x256) w b s (ix2 i d)
    = poolGrp (winOf 1) ((1 / (winOf 1 : ℝ) : ℝ) : EReal) (fun t c => e (16 + i.val - t) (col 1 c)) (fun c d => w (ix3 0 c d))
        (fun d => b (ix2 0 d)) (fun d => s (ix2 0 d)) d := by
  rw [grpPay_apply]
  have hD : ∀ c, extractStridedSlice S512x256 ![0, 256] N slices_S512x1024_o0_256_S512x256 (ix2 i c) = e (16 + i.val) (col 1 c) :=
    fun c => (cut_apply N 1 slices_S512x1024_o0_256_S512x256 i c).trans (hN i _)
  have hR : Ideal.ofBits FTy.f32 0x3e800000#32 = ((1 / (winOf 1 : ℝ) : ℝ) : EReal) := ofBits_quarter
  simp only [win4_apply E e hE, hD, hR]
  rfl

/-- Group 2, from the normalized rows and the sixteen before them. -/
theorem grp2_apply (N : FVec Ideal S512x1024 .f32) (E : FVec Ideal S528x1024 .f32) (w : FVec Ideal S1x256x256 .bf16) (b s : FVec Ideal S1x256 .f32)
    (e : ℕ → Fin 1024 → EReal) (hE : ∀ a k, E (ix2 a k) = e a.val k) (hN : ∀ a k, N (ix2 a k) = e (16 + a.val) k) (i : Fin 512) (d : Fin 256) :
    grpPay (F := Ideal) 0x3e000000#32 (extractStridedSlice S512x256 ![16, 0] (dbl 4#32 (dbl 2#32 (dbl 1#32 (extractStridedSlice S528x256 ![0, 512] E slices_S528x1024_o0_512_S528x256)))) slices_S528x256_o16_0_S512x256)
      (extractStridedSlice S512x256 ![0, 512] N slices_S512x1024_o0_512_S512x256) w b s (ix2 i d)
    = poolGrp (winOf 2) ((1 / (winOf 2 : ℝ) : ℝ) : EReal) (fun t c => e (16 + i.val - t) (col 2 c)) (fun c d => w (ix3 0 c d))
        (fun d => b (ix2 0 d)) (fun d => s (ix2 0 d)) d := by
  rw [grpPay_apply]
  have hD : ∀ c, extractStridedSlice S512x256 ![0, 512] N slices_S512x1024_o0_512_S512x256 (ix2 i c) = e (16 + i.val) (col 2 c) :=
    fun c => (cut_apply N 2 slices_S512x1024_o0_512_S512x256 i c).trans (hN i _)
  have hR : Ideal.ofBits FTy.f32 0x3e000000#32 = ((1 / (winOf 2 : ℝ) : ℝ) : EReal) := ofBits_eighth
  simp only [win8_apply E e hE, hD, hR]
  rfl

/-- Group 3, from the normalized rows and the sixteen before them. -/
theorem grp3_apply (N : FVec Ideal S512x1024 .f32) (E : FVec Ideal S528x1024 .f32) (w : FVec Ideal S1x256x256 .bf16) (b s : FVec Ideal S1x256 .f32)
    (e : ℕ → Fin 1024 → EReal) (hE : ∀ a k, E (ix2 a k) = e a.val k) (hN : ∀ a k, N (ix2 a k) = e (16 + a.val) k) (i : Fin 512) (d : Fin 256) :
    grpPay (F := Ideal) 0x3d800000#32 (extractStridedSlice S512x256 ![16, 0] (dbl 8#32 (dbl 4#32 (dbl 2#32 (dbl 1#32 (extractStridedSlice S528x256 ![0, 768] E slices_S528x1024_o0_768_S528x256))))) slices_S528x256_o16_0_S512x256)
      (extractStridedSlice S512x256 ![0, 768] N slices_S512x1024_o0_768_S512x256) w b s (ix2 i d)
    = poolGrp (winOf 3) ((1 / (winOf 3 : ℝ) : ℝ) : EReal) (fun t c => e (16 + i.val - t) (col 3 c)) (fun c d => w (ix3 0 c d))
        (fun d => b (ix2 0 d)) (fun d => s (ix2 0 d)) d := by
  rw [grpPay_apply]
  have hD : ∀ c, extractStridedSlice S512x256 ![0, 768] N slices_S512x1024_o0_768_S512x256 (ix2 i c) = e (16 + i.val) (col 3 c) :=
    fun c => (cut_apply N 3 slices_S512x1024_o0_768_S512x256 i c).trans (hN i _)
  have hR : Ideal.ofBits FTy.f32 0x3d800000#32 = ((1 / (winOf 3 : ℝ) : ℝ) : EReal) := ofBits_sixteenth
  simp only [win16_apply E e hE, hD, hR]
  rfl

end Cert.PoolIdeal.Block

end
-- ==== Proof.PoolMix.lean ====
/-
  The pooling layer's feed-forward kernel, one grid point: the rows with their mixer row added.
-/
module
public import proofs.«01_k».proof.Proof.Gen.PoolIdeal.Value
public import proofs.«01_k».proof.Proof.PoolGroups
public import Idealize.ShloMosaic.Lib.Pipeline.ValueKit
public import Idealize.ShloMosaic.Lib.Pipeline.ReadBack
@[expose] public section
set_option maxRecDepth 16384
noncomputable section
namespace Cert.PoolIdeal.Block
open Cert.PoolIdeal Cert.PoolIdeal.Gen Idealize.ShloMosaic Idealize.ShloMosaic.TcCoe Idealize.SL.Sem
open Idealize.ShloMosaic.Pipeline (Dat)
open Cert.RowMath

/-- The sixteen rows before a block and the block's 512 rows, one after the other (zero beyond them). -/
def extRow (P : Fin 16 → Fin 1024 → EReal) (H : Fin 512 → Fin 1024 → EReal) (a : ℕ) : Fin 1024 → EReal :=
  if h : a < 16 then P ⟨a, h⟩ else if h' : a - 16 < 512 then H ⟨a - 16, h'⟩ else 0

/-- The block's own rows. -/
theorem extRow_own (P : Fin 16 → Fin 1024 → EReal) (H : Fin 512 → Fin 1024 → EReal) (a : Fin 512) : extRow P H (16 + a.val) = H a := by
  unfold extRow
  rw [dif_neg (by omega), dif_pos (by omega)]
  exact congrArg H (Fin.ext (by show 16 + a.val - 16 = a.val; omega))

/-- A row block put together from the sixteen rows before it and its own. -/
theorem ext_apply (P : FVec Ideal S16x1024 .f32) (N : FVec Ideal S512x1024 .f32) (p : Fin 16 → Fin 1024 → EReal) (h : Fin 512 → Fin 1024 → EReal)
    (g : Fin 1024 → EReal) (hP : ∀ a k, P (ix2 a k) = nrm (p a) g k) (hN : ∀ a k, N (ix2 a k) = nrm (h a) g k) (a : Fin 528) (k : Fin 1024) :
    concatenate S528x1024 0 [⟨S16x1024, P⟩, ⟨S512x1024, N⟩] concatenates_S16x1024_S512x1024_S528x1024_d0 (ix2 a k)
      = nrm (extRow p h a.val) g k := by
  have ha : a.val < 528 := a.isLt
  unfold extRow
  pointwise
  by_cases h16 : a.val < 16
  · simp only [h16, dif_pos, dite_true, hP]
  · simp only [h16, dif_neg, dite_false, not_false_iff, hN]
    rw [dif_pos (show a.val - 16 < 512 by omega)]

/-- The block's own rows, normalized (rows 0 to 511). -/
theorem own_lo_apply (H : FVec Ideal S512x1024 .f32) (G : FVec Ideal S1x1024 .f32) (a : Fin 512) (k : Fin 1024) :
    k0_pay4 (F := Ideal) H G (ix2 a k) = nrm (fun k => H (ix2 a k)) (fun k => G (ix2 0 k)) k := by
  unfold k0_pay4 k0_pay2
  dsimp only
  pointwise
  rfl

/-- The block's own rows, normalized (rows 512 to 1023). -/
theorem own_hi_apply (H : FVec Ideal S512x1024 .f32) (G : FVec Ideal S1x1024 .f32) (a : Fin 512) (k : Fin 1024) :
    k0_pay23 (F := Ideal) (k0_pay21 H) (k0_pay22 G) (ix2 a k) = nrm (fun k => H (ix2 a k)) (fun k => G (ix2 0 k)) k := by
  unfold k0_pay23 k0_pay21 k0_pay22 k0_pay19
  dsimp only
  pointwise
  rfl

/-- Sixteen rows, normalized. -/
def sixteen {F : FTy → Type} [FloatOps F] (v4 : FVec F S16x1024 .f32) (v6 : FVec F S1x1024 .f32) : FVec F S16x1024 .f32 :=
  mulf (mulf v4 (broadcastTo S16x1024 (rsqrt (addf (divf (shapeCast S16x1
    (multiReduction .add [1] S16 (mulf v4 v4) 0x00000000#32 reduces_S16x1024_S16 (.inl rfl) rfl) shapeCasts_S16_S16x1)
    (broadcast S16x1 (Scalar.ofBits .f32 0x44800000#32))) (broadcast S16x1 (Scalar.ofBits .f32 0x358637BD#32)))) broadcasts_S16x1_S16x1024))
    (broadcastTo S16x1024 v6 broadcasts_S1x1024_S16x1024)

/-- Sixteen normalized rows, entry by entry. -/
theorem sixteen_apply (P : FVec Ideal S16x1024 .f32) (G : FVec Ideal S1x1024 .f32) (a : Fin 16) (k : Fin 1024) :
    sixteen P (shapeCast S1x1024 G shapeCasts_S1x1024_S1x1024) (ix2 a k) = nrm (fun k => P (ix2 a k)) (fun k => G (ix2 0 k)) k := by
  unfold sixteen
  pointwise
  rfl

/-- The sixteen rows before the block: the given ones at a sequence's start, else the ones staged. -/
def halo (i : grid0.Coords) (A B : FVec Ideal S16x1024 .f32) : FVec Ideal S16x1024 .f32 :=
  Scalar.select (Scalar.cmpi .eq (BitVec.ofNat 32 (i 1).val) 0#32) A B

/-- The first sixteen rows of the extended block. -/
theorem ext_lo_apply (i : grid0.Coords) (H : FVec Ideal S512x1024 .f32) (A B : FVec Ideal S16x1024 .f32) (G : FVec Ideal S1x1024 .f32)
    (a : Fin 528) (k : Fin 1024) :
    k0_pay5 (F := Ideal) i H A B G (ix2 a k)
      = nrm (extRow (fun a k => halo i A B (ix2 a k)) (fun a k => H (ix2 a k)) a.val) (fun k => G (ix2 0 k)) k :=
  ext_apply (sixteen (halo i A B) (shapeCast S1x1024 G shapeCasts_S1x1024_S1x1024)) _ _ _ _ (sixteen_apply _ G) (own_lo_apply H G) a k

/-- The other rows of the extended block. -/
theorem ext_hi_apply (P : FVec Ideal S16x1024 .f32) (H : FVec Ideal S512x1024 .f32) (G : FVec Ideal S1x1024 .f32)
    (a : Fin 528) (k : Fin 1024) :
    k0_pay24 (F := Ideal) P (k0_pay19 G) (k0_pay21 H) (k0_pay22 G) (ix2 a k)
      = nrm (extRow (fun a k => P (ix2 a k)) (fun a k => H (ix2 a k)) a.val) (fun k => G (ix2 0 k)) k :=
  ext_apply (sixteen P (shapeCast S1x1024 G shapeCasts_S1x1024_S1x1024)) _ _ _ _ (sixteen_apply _ G) (own_hi_apply H G) a k

/-- The four groups side by side, normalized, added to the rows. -/
def mixPay {F : FTy → Type} [FloatOps F] (H : FVec F S512x1024 .f32) (M : FVec F S512x1024 .f32) (G : FVec F S1x1024 .f32) : FVec F S512x1024 .f32 :=
  addf H (mulf (mulf M (broadcastTo S512x1024 (rsqrt (addf (divf (shapeCast S512x1
    (multiReduction .add [1] S512 (mulf M M) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024))
    (broadcastTo S512x1024 (shapeCast S1x1024 G shapeCasts_S1x1024_S1x1024) broadcasts_S1x1024_S512x1024))

/-- The mixer's norm and residual, entry by entry. -/
theorem mixPay_apply (H M : FVec Ideal S512x1024 .f32) (G : FVec Ideal S1x1024 .f32) (i : Fin 512) (j : Fin 1024) :
    mixPay H M G (ix2 i j) = H (ix2 i j) + nrm (fun k => M (ix2 i k)) (fun k => G (ix2 0 k)) j := by
  unfold mixPay
  pointwise
  rfl

/-- The four groups side by side. -/
def four {F : FTy → Type} (A B C D : FVec F S512x256 .f32) : FVec F S512x1024 .f32 :=
  concatenate S512x1024 1 [⟨S512x256, A⟩, ⟨S512x256, B⟩, ⟨S512x256, C⟩, ⟨S512x256, D⟩] concatenates_S512x256_S512x256_S512x256_S512x256_S512x1024_d1

/-- The four groups' results side by side, read at one column. -/
theorem four_apply (A B C D : FVec Ideal S512x256 .f32) (i : Fin 512) (P : Fin 1024 → EReal)
    (hA : ∀ d, A (ix2 i d) = P (col 0 d)) (hB : ∀ d, B (ix2 i d) = P (col 1 d)) (hC : ∀ d, C (ix2 i d) = P (col 2 d))
    (hD : ∀ d, D (ix2 i d) = P (col 3 d)) (j : Fin 1024) : four A B C D (ix2 i j) = P j := by
  have hj : j.val < 1024 := j.isLt
  unfold four
  pointwise
  simp only [hA, hB, hC, hD]
  split_ifs <;> refine congrArg P (Fin.ext ?_) <;> (unfold col; dsimp only [ValueIdx.ix2]) <;> simp <;> omega

/-- The group of a column made from a group and a lane. -/
theorem grp_col (q : Fin 4) (d : Fin 256) : grp (col q d) = q := Fin.ext (by show (256 * q.val + d.val) / 256 = q.val; omega)

/-- The lane of a column made from a group and a lane. -/
theorem lane_col (q : Fin 4) (d : Fin 256) : lane (col q d) = d := Fin.ext (by show (256 * q.val + d.val) % 256 = d.val; omega)

/-- The mixer's row on one group's lanes. -/
theorem poolRow_col (X : ℕ → Fin 1024 → EReal) (g : Fin 1024 → EReal) (W : Fin 4 → Fin 256 → Fin 256 → EReal) (b s : Fin 1024 → EReal)
    (q : Fin 4) (d : Fin 256) :
    poolRow X g W b s (col q d) = poolGrp (winOf q) (((1 / (winOf q : ℝ) : ℝ) : EReal)) (fun t c => nrm (X t) g (col q c)) (W q)
      (fun d => b (col q d)) (fun d => s (col q d)) d := by
  unfold poolRow
  rw [grp_col, lane_col]

/-- The four groups side by side are the mixer's row. -/
theorem row_apply (N : FVec Ideal S512x1024 .f32) (E : FVec Ideal S528x1024 .f32) (p : Fin 16 → Fin 1024 → EReal) (H : FVec Ideal S512x1024 .f32)
    (g : Fin 1024 → EReal) (hE : ∀ a k, E (ix2 a k) = nrm (extRow p (fun a k => H (ix2 a k)) a.val) g k)
    (hN : ∀ a k, N (ix2 a k) = nrm (fun k => H (ix2 a k)) g k)
    (W : Fin 4 → Fin 256 → Fin 256 → EReal) (bb ss : Fin 1024 → EReal) (w0 w1 w2 w3 : FVec Ideal S1x256x256 .bf16) (b0 s0 b1 s1 b2 s2 b3 s3 : FVec Ideal S1x256 .f32)
    (hw0 : ∀ c d, w0 (ix3 0 c d) = W 0 c d) (hb0 : ∀ d, b0 (ix2 0 d) = bb (col 0 d)) (hs0 : ∀ d, s0 (ix2 0 d) = ss (col 0 d))
    (hw1 : ∀ c d, w1 (ix3 0 c d) = W 1 c d) (hb1 : ∀ d, b1 (ix2 0 d) = bb (col 1 d)) (hs1 : ∀ d, s1 (ix2 0 d) = ss (col 1 d))
    (hw2 : ∀ c d, w2 (ix3 0 c d) = W 2 c d) (hb2 : ∀ d, b2 (ix2 0 d) = bb (col 2 d)) (hs2 : ∀ d, s2 (ix2 0 d) = ss (col 2 d))
    (hw3 : ∀ c d, w3 (ix3 0 c d) = W 3 c d) (hb3 : ∀ d, b3 (ix2 0 d) = bb (col 3 d)) (hs3 : ∀ d, s3 (ix2 0 d) = ss (col 3 d))
    (i : Fin 512) (j : Fin 1024) :
    four (grpPay (F := Ideal) 0x3f000000#32 (extractStridedSlice S512x256 ![16, 0] (dbl 1#32 (extractStridedSlice S528x256 ![0, 0] E slices_S528x1024_o0_0_S528x256)) slices_S528x256_o16_0_S512x256) (extractStridedSlice S512x256 ![0, 0] N slices_S512x1024_o0_0_S512x256) w0 b0 s0)
      (grpPay (F := Ideal) 0x3e800000#32 (extractStridedSlice S512x256 ![16, 0] (dbl 2#32 (dbl 1#32 (extractStridedSlice S528x256 ![0, 256] E slices_S528x1024_o0_256_S528x256))) slices_S528x256_o16_0_S512x256) (extractStridedSlice S512x256 ![0, 256] N slices_S512x1024_o0_256_S512x256) w1 b1 s1)
      (grpPay (F := Ideal) 0x3e000000#32 (extractStridedSlice S512x256 ![16, 0] (dbl 4#32 (dbl 2#32 (dbl 1#32 (extractStridedSlice S528x256 ![0, 512] E slices_S528x1024_o0_512_S528x256)))) slices_S528x256_o16_0_S512x256) (extractStridedSlice S512x256 ![0, 512] N slices_S512x1024_o0_512_S512x256) w2 b2 s2)
      (grpPay (F := Ideal) 0x3d800000#32 (extractStridedSlice S512x256 ![16, 0] (dbl 8#32 (dbl 4#32 (dbl 2#32 (dbl 1#32 (extractStridedSlice S528x256 ![0, 768] E slices_S528x1024_o0_768_S528x256))))) slices_S528x256_o16_0_S512x256) (extractStridedSlice S512x256 ![0, 768] N slices_S512x1024_o0_768_S512x256) w3 b3 s3) (ix2 i j)
      = poolRow (fun t => extRow p (fun a k => H (ix2 a k)) (16 + i.val - t)) g W bb ss j := by
  have hN' : ∀ (a : Fin 512) k, N (ix2 a k) = nrm (extRow p (fun a k => H (ix2 a k)) (16 + a.val)) g k := fun a k => by
    rw [hN, extRow_own]
  refine four_apply _ _ _ _ i (poolRow (fun t => extRow p (fun a k => H (ix2 a k)) (16 + i.val - t)) g W bb ss) ?_ ?_ ?_ ?_ j
  · intro d
    rw [poolRow_col]
    refine (grp0_apply N E w0 b0 s0 (fun a => nrm (extRow p (fun a k => H (ix2 a k)) a) g) hE hN' i d).trans ?_
    simp only [hw0, hb0, hs0]
  · intro d
    rw [poolRow_col]
    refine (grp1_apply N E w1 b1 s1 (fun a => nrm (extRow p (fun a k => H (ix2 a k)) a) g) hE hN' i d).trans ?_
    simp only [hw1, hb1, hs1]
  · intro d
    rw [poolRow_col]
    refine (grp2_apply N E w2 b2 s2 (fun a => nrm (extRow p (fun a k => H (ix2 a k)) a) g) hE hN' i d).trans ?_
    simp only [hw2, hb2, hs2]
  · intro d
    rw [poolRow_col]
    refine (grp3_apply N E w3 b3 s3 (fun a => nrm (extRow p (fun a k => H (ix2 a k)) a) g) hE hN' i d).trans ?_
    simp only [hw3, hb3, hs3]

/-- Rows 0 to 511 with their mixer row added. -/
theorem mix_lo_apply (ci : grid0.Coords) (H : FVec Ideal S512x1024 .f32) (A B : FVec Ideal S16x1024 .f32) (G GP : FVec Ideal S1x1024 .f32)
    (W : Fin 4 → Fin 256 → Fin 256 → EReal) (bb ss : Fin 1024 → EReal) (w0 w1 w2 w3 : FVec Ideal S1x256x256 .bf16) (b0 s0 b1 s1 b2 s2 b3 s3 : FVec Ideal S1x256 .f32)
    (hw0 : ∀ c d, w0 (ix3 0 c d) = W 0 c d) (hb0 : ∀ d, b0 (ix2 0 d) = bb (col 0 d)) (hs0 : ∀ d, s0 (ix2 0 d) = ss (col 0 d))
    (hw1 : ∀ c d, w1 (ix3 0 c d) = W 1 c d) (hb1 : ∀ d, b1 (ix2 0 d) = bb (col 1 d)) (hs1 : ∀ d, s1 (ix2 0 d) = ss (col 1 d))
    (hw2 : ∀ c d, w2 (ix3 0 c d) = W 2 c d) (hb2 : ∀ d, b2 (ix2 0 d) = bb (col 2 d)) (hs2 : ∀ d, s2 (ix2 0 d) = ss (col 2 d))
    (hw3 : ∀ c d, w3 (ix3 0 c d) = W 3 c d) (hb3 : ∀ d, b3 (ix2 0 d) = bb (col 3 d)) (hs3 : ∀ d, s3 (ix2 0 d) = ss (col 3 d))
    (i : Fin 512) (j : Fin 1024) :
    k0_pay13 (F := Ideal) H (k0_pay3 GP) (k0_pay8 (k0_pay4 H G) (k0_pay6 ci H A B G) k0_pay7 w0 b0 s0)
      (k0_pay9 (k0_pay4 H G) (k0_pay5 ci H A B G) w1 b1 s1) (k0_pay11 (k0_pay4 H G) (k0_pay10 (k0_pay5 ci H A B G)) w2 b2 s2)
      (k0_pay12 (k0_pay4 H G) (k0_pay5 ci H A B G) w3) b3 s3 (ix2 i j)
      = poolMix (fun t => extRow (fun a k => halo ci A B (ix2 a k)) (fun a k => H (ix2 a k)) (16 + i.val - t)) (fun k => G (ix2 0 k))
          W bb ss (fun k => GP (ix2 0 k)) j := by
  refine (mixPay_apply H _ GP i j).trans ?_
  unfold poolMix
  refine congrArg₂ (· + ·) (congrFun (extRow_own (fun a k => halo ci A B (ix2 a k)) (fun a k => H (ix2 a k)) i).symm j) (congrArg (fun M => nrm M (fun k => GP (ix2 0 k)) j) (funext fun k => ?_))
  exact row_apply _ _ _ H _ (ext_lo_apply ci H A B G) (own_lo_apply H G) W bb ss w0 w1 w2 w3 b0 s0 b1 s1 b2 s2 b3 s3 hw0 hb0 hs0 hw1 hb1 hs1 hw2 hb2 hs2 hw3 hb3 hs3 i k

/-- Rows 512 to 1023 with their mixer row added. -/
theorem mix_hi_apply (H : FVec Ideal S512x1024 .f32) (P : FVec Ideal S16x1024 .f32) (G GP : FVec Ideal S1x1024 .f32)
    (W : Fin 4 → Fin 256 → Fin 256 → EReal) (bb ss : Fin 1024 → EReal) (w0 w1 w2 w3 : FVec Ideal S1x256x256 .bf16) (b0 s0 b1 s1 b2 s2 b3 s3 : FVec Ideal S1x256 .f32)
    (hw0 : ∀ c d, w0 (ix3 0 c d) = W 0 c d) (hb0 : ∀ d, b0 (ix2 0 d) = bb (col 0 d)) (hs0 : ∀ d, s0 (ix2 0 d) = ss (col 0 d))
    (hw1 : ∀ c d, w1 (ix3 0 c d) = W 1 c d) (hb1 : ∀ d, b1 (ix2 0 d) = bb (col 1 d)) (hs1 : ∀ d, s1 (ix2 0 d) = ss (col 1 d))
    (hw2 : ∀ c d, w2 (ix3 0 c d) = W 2 c d) (hb2 : ∀ d, b2 (ix2 0 d) = bb (col 2 d)) (hs2 : ∀ d, s2 (ix2 0 d) = ss (col 2 d))
    (hw3 : ∀ c d, w3 (ix3 0 c d) = W 3 c d) (hb3 : ∀ d, b3 (ix2 0 d) = bb (col 3 d)) (hs3 : ∀ d, s3 (ix2 0 d) = ss (col 3 d))
    (i : Fin 512) (j : Fin 1024) :
    k0_pay44 (F := Ideal) H (k0_pay20 GP) (k0_pay27 (k0_pay23 (k0_pay21 H) (k0_pay22 G)) (k0_pay26 P (k0_pay19 G) (k0_pay21 H) (k0_pay22 G)) w0 b0 s0)
      (k0_pay31 (k0_pay23 (k0_pay21 H) (k0_pay22 G)) (k0_pay24 P (k0_pay19 G) (k0_pay21 H) (k0_pay22 G)) w1 b1 s1)
      (k0_pay37 (k0_pay35 (k0_pay23 (k0_pay21 H) (k0_pay22 G)) (k0_pay24 P (k0_pay19 G) (k0_pay21 H) (k0_pay22 G)) w2 b2) (k0_pay36 s2))
      (k0_pay41 (k0_pay23 (k0_pay21 H) (k0_pay22 G)) (k0_pay39 (k0_pay24 P (k0_pay19 G) (k0_pay21 H) (k0_pay22 G))) k0_pay40 w3 b3 s3) (ix2 i j)
      = poolMix (fun t => extRow (fun a k => P (ix2 a k)) (fun a k => H (ix2 a k)) (16 + i.val - t)) (fun k => G (ix2 0 k))
          W bb ss (fun k => GP (ix2 0 k)) j := by
  refine (mixPay_apply H _ GP i j).trans ?_
  unfold poolMix
  refine congrArg₂ (· + ·) (congrFun (extRow_own (fun a k => P (ix2 a k)) (fun a k => H (ix2 a k)) i).symm j) (congrArg (fun M => nrm M (fun k => GP (ix2 0 k)) j) (funext fun k => ?_))
  exact row_apply _ _ _ H _ (ext_hi_apply P H G) (own_hi_apply H G) W bb ss w0 w1 w2 w3 b0 s0 b1 s1 b2 s2 b3 s3 hw0 hb0 hs0 hw1 hb1 hs1 hw2 hb2 hs2 hw3 hb3 hs3 i k

end Cert.PoolIdeal.Block

end
-- ==== Proof.PoolFfn.lean ====
/-
  The pooling layer's feed-forward kernel, one grid point: the feed-forward chunks, entry by entry.
-/
module
public import proofs.«01_k».proof.Proof.Gen.PoolIdeal.Value
public import proofs.«01_k».proof.Proof.PoolRow
public import Idealize.ShloMosaic.Lib.Pipeline.ValueKit
public import Idealize.ShloMosaic.Lib.Pipeline.ReadBack
@[expose] public section
set_option maxRecDepth 16384
noncomputable section
namespace Cert.PoolIdeal.Block
open Cert.PoolIdeal Cert.PoolIdeal.Gen Idealize.ShloMosaic Idealize.ShloMosaic.TcCoe Idealize.SL.Sem
open Idealize.ShloMosaic.Pipeline (Dat)
open Cert.RowMath

/-- The first chunk of hidden lanes, rows 0 to 511. -/
theorem lo0_apply (H : FVec Ideal S512x1024 .f32) (G a1 a3 a2) (i : Fin 512) (j : Fin 1024) :
    k0_pay18 (F := Ideal) (k0_pay15 (F := Ideal) H) (k0_pay16 (F := Ideal) H G) (k0_pay17 a1) a3 a2 (ix2 i j)
    = chunk (fun k => H (ix2 i k)) (fun k => G (ix2 0 k)) (fun k c => a1 (ix4 0 0 k c)) (fun k c => a3 (ix4 0 0 k c)) (fun c j => a2 (ix4 0 0 c j)) j := by
  unfold k0_pay18 k0_pay17 k0_pay15 k0_pay16 k0_pay14
  dsimp only
  pointwise
  rfl

/-- The second chunk of hidden lanes, rows 0 to 511. -/
theorem lo1_apply (H : FVec Ideal S512x1024 .f32) (G a1 a3 a2) (A : FVec Ideal S512x1024 .f32) (i : Fin 512) (j : Fin 1024) :
    k0_pay25 (F := Ideal) (k0_pay15 (F := Ideal) H) (k0_pay16 (F := Ideal) H G) a1 a3 a2 A (ix2 i j)
    = A (ix2 i j) + chunk (fun k => H (ix2 i k)) (fun k => G (ix2 0 k)) (fun k c => a1 (ix4 0 0 k c)) (fun k c => a3 (ix4 0 0 k c)) (fun c j => a2 (ix4 0 0 c j)) j := by
  unfold k0_pay25 k0_pay15 k0_pay16 k0_pay14
  dsimp only
  pointwise
  rfl

/-- The third chunk of hidden lanes, rows 0 to 511. -/
theorem lo2_apply (H : FVec Ideal S512x1024 .f32) (G a1 a3 a2) (A : FVec Ideal S512x1024 .f32) (i : Fin 512) (j : Fin 1024) :
    k0_pay30 (F := Ideal) (k0_pay28 (F := Ideal) (k0_pay15 (F := Ideal) H) (k0_pay16 (F := Ideal) H G) a1 a3) (k0_pay29 a2) (constant S512x1024 .f32 0x00000000#32) A (ix2 i j)
    = A (ix2 i j) + chunk (fun k => H (ix2 i k)) (fun k => G (ix2 0 k)) (fun k c => a1 (ix4 0 0 k c)) (fun k c => a3 (ix4 0 0 k c)) (fun c j => a2 (ix4 0 0 c j)) j := by
  unfold k0_pay30 k0_pay28 k0_pay29 k0_pay15 k0_pay16 k0_pay14
  dsimp only
  pointwise
  rfl

/-- The fourth chunk of hidden lanes, rows 0 to 511. -/
theorem lo3_apply (H : FVec Ideal S512x1024 .f32) (G a1 a3 a2) (A : FVec Ideal S512x1024 .f32) (i : Fin 512) (j : Fin 1024) :
    k0_pay34 (F := Ideal) (k0_pay15 (F := Ideal) H) (k0_pay16 (F := Ideal) H G) (k0_pay32 (F := Ideal) (k0_pay15 (F := Ideal) H) (k0_pay16 (F := Ideal) H G) a1) (k0_pay33 a3) a2 A (ix2 i j)
    = A (ix2 i j) + chunk (fun k => H (ix2 i k)) (fun k => G (ix2 0 k)) (fun k c => a1 (ix4 0 0 k c)) (fun k c => a3 (ix4 0 0 k c)) (fun c j => a2 (ix4 0 0 c j)) j := by
  unfold k0_pay34 k0_pay32 k0_pay33 k0_pay15 k0_pay16 k0_pay14
  dsimp only
  pointwise
  rfl

/-- The fifth chunk of hidden lanes, rows 0 to 511. -/
theorem lo4_apply (H : FVec Ideal S512x1024 .f32) (G a1 a3 a2) (A : FVec Ideal S512x1024 .f32) (i : Fin 512) (j : Fin 1024) :
    k0_pay38 (F := Ideal) (k0_pay15 (F := Ideal) H) (k0_pay16 (F := Ideal) H G) a1 a3 a2 A (ix2 i j)
    = A (ix2 i j) + chunk (fun k => H (ix2 i k)) (fun k => G (ix2 0 k)) (fun k c => a1 (ix4 0 0 k c)) (fun k c => a3 (ix4 0 0 k c)) (fun c j => a2 (ix4 0 0 c j)) j := by
  unfold k0_pay38 k0_pay15 k0_pay16 k0_pay14
  dsimp only
  pointwise
  rfl

/-- The sixth chunk of hidden lanes, rows 0 to 511. -/
theorem lo5_apply (H : FVec Ideal S512x1024 .f32) (G a1 a3 a2) (A : FVec Ideal S512x1024 .f32) (i : Fin 512) (j : Fin 1024) :
    k0_pay43 (F := Ideal) (k0_pay42 (F := Ideal) (k0_pay15 (F := Ideal) H) (k0_pay16 (F := Ideal) H G) a1 a3 a2 A) (ix2 i j)
    = A (ix2 i j) + chunk (fun k => H (ix2 i k)) (fun k => G (ix2 0 k)) (fun k c => a1 (ix4 0 0 k c)) (fun k c => a3 (ix4 0 0 k c)) (fun c j => a2 (ix4 0 0 c j)) j := by
  unfold k0_pay43 k0_pay42 k0_pay15 k0_pay16 k0_pay14
  dsimp only
  pointwise
  rfl

/-- The residual update, rows 0 to 511. -/
theorem lo_fin_apply (H : FVec Ideal S512x1024 .f32) (A : FVec Ideal S512x1024 .f32) (GP) (i : Fin 512) (j : Fin 1024) :
    k0_pay45 (F := Ideal) (k0_pay14 (F := Ideal) H) A GP (ix2 i j)
    = addNorm (fun k => H (ix2 i k)) (fun k => GP (ix2 0 k)) (fun k => A (ix2 i k)) j := by
  unfold k0_pay45 k0_pay14
  dsimp only
  pointwise
  rfl

/-- The first chunk of hidden lanes, rows 512 to 1023. -/
theorem hi0_apply (H : FVec Ideal S512x1024 .f32) (G a1 a3 a2) (i : Fin 512) (j : Fin 1024) :
    k0_pay49 (F := Ideal) (k0_pay46 (F := Ideal) H) G a1 a3 a2 (ix2 i j)
    = chunk (fun k => H (ix2 i k)) (fun k => G (ix2 0 k)) (fun k c => a1 (ix4 0 0 k c)) (fun k c => a3 (ix4 0 0 k c)) (fun c j => a2 (ix4 0 0 c j)) j := by
  unfold k0_pay49 k0_pay47 k0_pay48 k0_pay46
  dsimp only
  pointwise
  rfl

/-- The second chunk of hidden lanes, rows 512 to 1023. -/
theorem hi1_apply (H : FVec Ideal S512x1024 .f32) (G a1 a3 a2) (A : FVec Ideal S512x1024 .f32) (i : Fin 512) (j : Fin 1024) :
    k0_pay50 (F := Ideal) (k0_pay47 (F := Ideal) (k0_pay46 (F := Ideal) H)) (k0_pay48 (F := Ideal) (k0_pay46 (F := Ideal) H) G) a1 a3 a2 A (ix2 i j)
    = A (ix2 i j) + chunk (fun k => H (ix2 i k)) (fun k => G (ix2 0 k)) (fun k c => a1 (ix4 0 0 k c)) (fun k c => a3 (ix4 0 0 k c)) (fun c j => a2 (ix4 0 0 c j)) j := by
  unfold k0_pay50 k0_pay47 k0_pay48 k0_pay46
  dsimp only
  pointwise
  rfl

/-- The third chunk of hidden lanes, rows 512 to 1023. -/
theorem hi2_apply (H : FVec Ideal S512x1024 .f32) (G a1 a3 a2) (A : FVec Ideal S512x1024 .f32) (i : Fin 512) (j : Fin 1024) :
    k0_pay53 (F := Ideal) (k0_pay51 (F := Ideal) (k0_pay47 (F := Ideal) (k0_pay46 (F := Ideal) H)) (k0_pay48 (F := Ideal) (k0_pay46 (F := Ideal) H) G) a3) (k0_pay52 (F := Ideal) (k0_pay47 (F := Ideal) (k0_pay46 (F := Ideal) H)) (k0_pay48 (F := Ideal) (k0_pay46 (F := Ideal) H) G) a1) a2 A (ix2 i j)
    = A (ix2 i j) + chunk (fun k => H (ix2 i k)) (fun k => G (ix2 0 k)) (fun k c => a1 (ix4 0 0 k c)) (fun k c => a3 (ix4 0 0 k c)) (fun c j => a2 (ix4 0 0 c j)) j := by
  unfold k0_pay53 k0_pay51 k0_pay52 k0_pay47 k0_pay48 k0_pay46
  dsimp only
  pointwise
  rfl

/-- The fourth chunk of hidden lanes, rows 512 to 1023. -/
theorem hi3_apply (H : FVec Ideal S512x1024 .f32) (G a1 a3 a2) (A : FVec Ideal S512x1024 .f32) (i : Fin 512) (j : Fin 1024) :
    k0_pay55 (F := Ideal) (k0_pay54 (F := Ideal) (k0_pay47 (F := Ideal) (k0_pay46 (F := Ideal) H)) (k0_pay48 (F := Ideal) (k0_pay46 (F := Ideal) H) G) a1 a3 a2 A) (ix2 i j)
    = A (ix2 i j) + chunk (fun k => H (ix2 i k)) (fun k => G (ix2 0 k)) (fun k c => a1 (ix4 0 0 k c)) (fun k c => a3 (ix4 0 0 k c)) (fun c j => a2 (ix4 0 0 c j)) j := by
  unfold k0_pay55 k0_pay54 k0_pay47 k0_pay48 k0_pay46
  dsimp only
  pointwise
  rfl

/-- The fifth chunk of hidden lanes, rows 512 to 1023. -/
theorem hi4_apply (H : FVec Ideal S512x1024 .f32) (G a1 a3 a2) (A : FVec Ideal S512x1024 .f32) (i : Fin 512) (j : Fin 1024) :
    k0_pay56 (F := Ideal) (k0_pay47 (F := Ideal) (k0_pay46 (F := Ideal) H)) (k0_pay48 (F := Ideal) (k0_pay46 (F := Ideal) H) G) a1 a3 a2 A (ix2 i j)
    = A (ix2 i j) + chunk (fun k => H (ix2 i k)) (fun k => G (ix2 0 k)) (fun k c => a1 (ix4 0 0 k c)) (fun k c => a3 (ix4 0 0 k c)) (fun c j => a2 (ix4 0 0 c j)) j := by
  unfold k0_pay56 k0_pay47 k0_pay48 k0_pay46
  dsimp only
  pointwise
  rfl

/-- The sixth chunk of hidden lanes, rows 512 to 1023. -/
theorem hi5_apply (H : FVec Ideal S512x1024 .f32) (G a1 a3 a2) (A : FVec Ideal S512x1024 .f32) (i : Fin 512) (j : Fin 1024) :
    k0_pay59 (F := Ideal) (k0_pay47 (F := Ideal) (k0_pay46 (F := Ideal) H)) (k0_pay48 (F := Ideal) (k0_pay46 (F := Ideal) H) G) (k0_pay57 (F := Ideal) (k0_pay47 (F := Ideal) (k0_pay46 (F := Ideal) H)) (k0_pay48 (F := Ideal) (k0_pay46 (F := Ideal) H) G) a1) (k0_pay58 a3) a2 A (ix2 i j)
    = A (ix2 i j) + chunk (fun k => H (ix2 i k)) (fun k => G (ix2 0 k)) (fun k c => a1 (ix4 0 0 k c)) (fun k c => a3 (ix4 0 0 k c)) (fun c j => a2 (ix4 0 0 c j)) j := by
  unfold k0_pay59 k0_pay57 k0_pay58 k0_pay47 k0_pay48 k0_pay46
  dsimp only
  pointwise
  rfl

/-- The residual update, rows 512 to 1023. -/
theorem hi_fin_apply (H : FVec Ideal S512x1024 .f32) (A : FVec Ideal S512x1024 .f32) (GP) (i : Fin 512) (j : Fin 1024) :
    k0_pay1 (F := Ideal) (k0_pay46 (F := Ideal) H) A (k0_pay60 GP) (k0_pay61 (F := Ideal) A) (ix2 i j)
    = addNorm (fun k => H (ix2 i k)) (fun k => GP (ix2 0 k)) (fun k => A (ix2 i k)) j := by
  unfold k0_pay1 k0_pay60 k0_pay61 k0_pay46
  dsimp only
  pointwise
  rfl

end Cert.PoolIdeal.Block

end
-- ==== Proof.PoolBlock.lean ====
/-
  The pooling layer's feed-forward kernel, one grid point: what it leaves in the output block.
-/
module
public import proofs.«01_k».proof.Proof.Gen.PoolIdeal.Value
public import proofs.«01_k».proof.Proof.PoolMix
public import proofs.«01_k».proof.Proof.PoolFfn
public import Idealize.ShloMosaic.Lib.Pipeline.ValueKit
public import Idealize.ShloMosaic.Lib.Pipeline.ReadBack
@[expose] public section
set_option maxRecDepth 16384
noncomputable section
namespace Cert.PoolIdeal.Block
open Cert.PoolIdeal Cert.PoolIdeal.Gen Idealize.ShloMosaic Idealize.ShloMosaic.TcCoe Idealize.SL.Sem
open Idealize.ShloMosaic.Pipeline (Dat)
open Cert.RowMath

/-- One of four, by the group. -/
def pick {α : Type} (a0 a1 a2 a3 : α) (q : Fin 4) : α := match q with | 0 => a0 | 1 => a1 | 2 => a2 | 3 => a3

/-- The rows with their mixer row added, the four groups' weights as they were loaded. -/
theorem mix_lo (ci : grid0.Coords) (H : FVec Ideal S512x1024 .f32) (A B : FVec Ideal S16x1024 .f32) (G GP : FVec Ideal S1x1024 .f32)
    (w0 w1 w2 w3 : FVec Ideal S1x256x256 .bf16) (b0 s0 b1 s1 b2 s2 b3 s3 : FVec Ideal S1x256 .f32) (i : Fin 512) (j : Fin 1024) :
    k0_pay13 (F := Ideal) H (k0_pay3 GP) (k0_pay8 (k0_pay4 H G) (k0_pay6 ci H A B G) k0_pay7 w0 b0 s0)
      (k0_pay9 (k0_pay4 H G) (k0_pay5 ci H A B G) w1 b1 s1) (k0_pay11 (k0_pay4 H G) (k0_pay10 (k0_pay5 ci H A B G)) w2 b2 s2)
      (k0_pay12 (k0_pay4 H G) (k0_pay5 ci H A B G) w3) b3 s3 (ix2 i j)
      = poolMix (fun t => extRow (fun a k => halo ci A B (ix2 a k)) (fun a k => H (ix2 a k)) (16 + i.val - t)) (fun k => G (ix2 0 k))
          (fun q c d => pick w0 w1 w2 w3 q (ix3 0 c d))
          (fun k => pick b0 b1 b2 b3 (grp k) (ix2 0 (lane k)))
          (fun k => pick s0 s1 s2 s3 (grp k) (ix2 0 (lane k))) (fun k => GP (ix2 0 k)) j :=
  mix_lo_apply ci H A B G GP (fun q c d => pick w0 w1 w2 w3 q (ix3 0 c d)) (fun k => pick b0 b1 b2 b3 (grp k) (ix2 0 (lane k))) (fun k => pick s0 s1 s2 s3 (grp k) (ix2 0 (lane k))) w0 w1 w2 w3 b0 s0 b1 s1 b2 s2 b3 s3 (fun _ _ => rfl) (fun d => by rw [grp_col, lane_col]; rfl) (fun d => by rw [grp_col, lane_col]; rfl) (fun _ _ => rfl) (fun d => by rw [grp_col, lane_col]; rfl) (fun d => by rw [grp_col, lane_col]; rfl) (fun _ _ => rfl) (fun d => by rw [grp_col, lane_col]; rfl) (fun d => by rw [grp_col, lane_col]; rfl) (fun _ _ => rfl) (fun d => by rw [grp_col, lane_col]; rfl) (fun d => by rw [grp_col, lane_col]; rfl) i j

/-- The rows with their mixer row added, the four groups' weights as they were loaded. -/
theorem mix_hi (H : FVec Ideal S512x1024 .f32) (P : FVec Ideal S16x1024 .f32) (G GP : FVec Ideal S1x1024 .f32)
    (w0 w1 w2 w3 : FVec Ideal S1x256x256 .bf16) (b0 s0 b1 s1 b2 s2 b3 s3 : FVec Ideal S1x256 .f32) (i : Fin 512) (j : Fin 1024) :
    k0_pay44 (F := Ideal) H (k0_pay20 GP) (k0_pay27 (k0_pay23 (k0_pay21 H) (k0_pay22 G)) (k0_pay26 P (k0_pay19 G) (k0_pay21 H) (k0_pay22 G)) w0 b0 s0)
      (k0_pay31 (k0_pay23 (k0_pay21 H) (k0_pay22 G)) (k0_pay24 P (k0_pay19 G) (k0_pay21 H) (k0_pay22 G)) w1 b1 s1)
      (k0_pay37 (k0_pay35 (k0_pay23 (k0_pay21 H) (k0_pay22 G)) (k0_pay24 P (k0_pay19 G) (k0_pay21 H) (k0_pay22 G)) w2 b2) (k0_pay36 s2))
      (k0_pay41 (k0_pay23 (k0_pay21 H) (k0_pay22 G)) (k0_pay39 (k0_pay24 P (k0_pay19 G) (k0_pay21 H) (k0_pay22 G))) k0_pay40 w3 b3 s3) (ix2 i j)
      = poolMix (fun t => extRow (fun a k => P (ix2 a k)) (fun a k => H (ix2 a k)) (16 + i.val - t)) (fun k => G (ix2 0 k))
          (fun q c d => pick w0 w1 w2 w3 q (ix3 0 c d))
          (fun k => pick b0 b1 b2 b3 (grp k) (ix2 0 (lane k)))
          (fun k => pick s0 s1 s2 s3 (grp k) (ix2 0 (lane k))) (fun k => GP (ix2 0 k)) j :=
  mix_hi_apply H P G GP (fun q c d => pick w0 w1 w2 w3 q (ix3 0 c d)) (fun k => pick b0 b1 b2 b3 (grp k) (ix2 0 (lane k))) (fun k => pick s0 s1 s2 s3 (grp k) (ix2 0 (lane k))) w0 w1 w2 w3 b0 s0 b1 s1 b2 s2 b3 s3 (fun _ _ => rfl) (fun d => by rw [grp_col, lane_col]; rfl) (fun d => by rw [grp_col, lane_col]; rfl) (fun _ _ => rfl) (fun d => by rw [grp_col, lane_col]; rfl) (fun d => by rw [grp_col, lane_col]; rfl) (fun _ _ => rfl) (fun d => by rw [grp_col, lane_col]; rfl) (fun d => by rw [grp_col, lane_col]; rfl) (fun _ _ => rfl) (fun d => by rw [grp_col, lane_col]; rfl) (fun d => by rw [grp_col, lane_col]; rfl) i j

/-- The mixer looks at sixteen rows only. -/
theorem poolMix_ext {X X' : ℕ → Fin 1024 → EReal} {g : Fin 1024 → EReal} {W W' : Fin 4 → Fin 256 → Fin 256 → EReal} {b b' s s' gp : Fin 1024 → EReal}
    (hX : ∀ t, t < 16 → X t = X' t) (hW : ∀ q c d, W q c d = W' q c d) (hb : ∀ k, b k = b' k) (hs : ∀ k, s k = s' k) :
    poolMix X g W b s gp = poolMix X' g W' b' s' gp := by
  obtain rfl : W = W' := funext fun q => funext fun c => funext fun d => hW q c d
  obtain rfl : b = b' := funext hb
  obtain rfl : s = s' := funext hs
  have hR : poolRow X g W b s = poolRow X' g W b s := funext fun j => by
    unfold poolRow poolGrp
    have hw : winOf (grp j) ≤ 16 := by
      unfold winOf
      exact (Nat.pow_le_pow_right (by norm_num) (by have := (grp j).isLt; omega)).trans (by norm_num : 2 ^ 4 ≤ 16)
    refine congrArg (fun z => (z + b (col (grp j) (lane j))) * s (col (grp j) (lane j))) (Finset.sum_congr rfl fun c _ => ?_)
    refine congrArg (fun z => z * W (grp j) c (lane j)) ?_
    simp only
    rw [hX 0 (by norm_num), Finset.sum_congr rfl fun t ht => by rw [hX t (lt_of_lt_of_le (Finset.mem_range.mp ht) hw)]]
  funext j
  unfold poolMix
  rw [hR, hX 0 (by norm_num)]

/-- The sixteen rows before a block and the block's 1024 rows, one after the other (zero beyond them). -/
def extBlk (P : Fin 16 → Fin 1024 → EReal) (H : Fin 1024 → Fin 1024 → EReal) (a : ℕ) : Fin 1024 → EReal :=
  if h : a < 16 then P ⟨a, h⟩ else if h' : a - 16 < 1024 then H ⟨a - 16, h'⟩ else 0

/-- The first half of the block sees the rows before the block. -/
theorem extBlk_lo (P : Fin 16 → Fin 1024 → EReal) (H : Fin 1024 → Fin 1024 → EReal) (H' : Fin 512 → Fin 1024 → EReal)
    (hH : ∀ (a : Fin 512), H' a = H ⟨a.val, by omega⟩) (i : Fin 512) (t : ℕ) :
    extRow P H' (16 + i.val - t) = extBlk P H (16 + i.val - t) := by
  have hi : i.val < 512 := i.isLt
  have ha := Nat.sub_le (16 + i.val) t
  generalize 16 + i.val - t = a at ha
  unfold extRow extBlk
  by_cases h : a < 16
  · rw [dif_pos h, dif_pos h]
  · rw [dif_neg h, dif_neg h, dif_pos (by omega), dif_pos (by omega), hH]

/-- The second half of the block sees the first half's last sixteen rows. -/
theorem extBlk_hi (P : Fin 16 → Fin 1024 → EReal) (H : Fin 1024 → Fin 1024 → EReal) (P' : Fin 16 → Fin 1024 → EReal) (H' : Fin 512 → Fin 1024 → EReal)
    (hP : ∀ (a : Fin 16), P' a = H ⟨496 + a.val, by omega⟩) (hH : ∀ (a : Fin 512), H' a = H ⟨512 + a.val, by omega⟩) (i : Fin 512) (t : ℕ) (ht : t < 16) :
    extRow P' H' (16 + i.val - t) = extBlk P H (16 + (512 + i.val) - t) := by
  have hi : i.val < 512 := i.isLt
  unfold extRow extBlk
  rw [dif_neg (show ¬ 16 + (512 + i.val) - t < 16 by omega), dif_pos (show 16 + (512 + i.val) - t - 16 < 1024 by omega)]
  by_cases h : 16 + i.val - t < 16
  · rw [dif_pos h, hP]
    exact congrArg H (Fin.ext (by show 496 + (16 + i.val - t) = 16 + (512 + i.val) - t - 16; omega))
  · rw [dif_neg h, dif_pos (by omega), hH]
    exact congrArg H (Fin.ext (by show 512 + (16 + i.val - t - 16) = 16 + (512 + i.val) - t - 16; omega))

/-- The four groups' lanes of a row of 1024, loaded one group at a time. -/
theorem lane_ld (x : FVec Ideal S1x1024 .f32) (k : Fin 1024) (l0 l1 l2 l3 : FVec Ideal S1x256 .f32) (h0 : ∀ d, l0 (ix2 0 d) = x (ix2 0 (col 0 d)))
    (h1 : ∀ d, l1 (ix2 0 d) = x (ix2 0 (col 1 d))) (h2 : ∀ d, l2 (ix2 0 d) = x (ix2 0 (col 2 d))) (h3 : ∀ d, l3 (ix2 0 d) = x (ix2 0 (col 3 d))) :
    pick l0 l1 l2 l3 (grp k) (ix2 0 (lane k)) = x (ix2 0 k) := by
  have e : ∀ q d, pick l0 l1 l2 l3 q (ix2 0 d) = x (ix2 0 (col q d)) := by
    intro q d
    match q with
    | 0 => exact h0 d
    | 1 => exact h1 d
    | 2 => exact h2 d
    | 3 => exact h3 d
  rw [e, col_grp]

set_option maxHeartbeats 1000000 in
/-- What one grid point leaves in the output's staging buffer: the feed-forward row of each row, after its mixer row was added. -/
theorem out_apply (c : Dev nD) (i : grid0.Coords) (arg2 : Memref sig .tc .vmem S16x1024 .f32) (h2 : arg2.IsWhole) (arg3 : Memref sig .tc .vmem S16x1024 .f32) (h3 : arg3.IsWhole) (arg4 : Memref sig .tc .vmem S1x1024 .f32) (h4 : arg4.IsWhole) (arg5 : Memref sig .tc .vmem S4x256x256 .bf16) (h5 : arg5.IsWhole) (arg6 : Memref sig .tc .vmem S1x1024 .f32) (h6 : arg6.IsWhole) (arg7 : Memref sig .tc .vmem S1x1024 .f32) (h7 : arg7.IsWhole) (arg8 : Memref sig .tc .vmem S1x1024 .f32) (h8 : arg8.IsWhole) (arg9 : Memref sig .tc .vmem S1024x1024 .f32) (h9 : arg9.IsWhole) (arg10 : Memref sig .tc .vmem S1x1024 .f32) (h10 : arg10.IsWhole) (arg11 : Memref sig .tc .vmem S1x1x1024x2816 .bf16) (h11 : arg11.IsWhole) (arg12 : Memref sig .tc .vmem S1x1x1024x2816 .bf16) (h12 : arg12.IsWhole) (arg13 : Memref sig .tc .vmem S1x1x2816x1024 .bf16) (h13 : arg13.IsWhole) (arg14 : Memref sig .tc .vmem S1x1024 .f32) (h14 : arg14.IsWhole) (arg15 : Memref sig .tc .vmem S1024x1024 .f32) (h15 : arg15.IsWhole) (arg16 : Memref sig .tc .vmem S1024x1024 .f32) (h16 : arg16.IsWhole)
    (x0 x1 x2 x3 x4 x5 x6 x7 x8 x9 x10 x11 x12) (y : S1024x1024.Idx) :
    out0_A_13 (F := Ideal) c i arg2 h2 arg3 h3 arg4 h4 arg5 h5 arg6 h6 arg7 h7 arg8 h8 arg9 h9 arg10 h10 arg11 h11 arg12 h12 arg13 h13 arg14 h14 arg15 h15 arg16 h16 x0 x1 x2 x3 x4 x5 x6 x7 x8 x9 x10 x11 x12 y
      = ffnRow (poolMix (fun t => extBlk (fun a k => halo i x1 x0 (ix2 a k)) (fun a k => x7 (ix2 a k)) (16 + (y 0).val - t)) (fun k => x2 (ix2 0 k))
            (fun q c d => x3 (ix3 q c d)) (fun k => x4 (ix2 0 k)) (fun k => x5 (ix2 0 k)) (fun k => x6 (ix2 0 k)))
          (fun k => x8 (ix2 0 k)) (fun k => x12 (ix2 0 k)) (fun k c => x9 (ix4 0 0 k c))
          (fun k c => x10 (ix4 0 0 k c)) (fun c j => x11 (ix4 0 0 c j)) (y 1) := by
  frame_open
  simp (disch := decide) only [↓ View.readCov_skip, ↓ View.readCov_cons_toLoadRect, ↓ View.readCov_fill]
  frame_out
  rw [canon_take]
  · canon_tiles x h
    · obtain ⟨a, b, rfl⟩ : ∃ (a : Fin 512) (b : Fin 1024), x = ix2 a b := ⟨x 0, x 1, eq_ix2 x⟩
      rw [hi_fin_apply]
      simp only [hi5_apply, hi4_apply, hi3_apply, hi2_apply, hi1_apply, hi0_apply, mix_hi]
      rw [show y 1 = b from Fin.ext h1, show y 0 = (⟨512 + a.val, by omega⟩ : Fin 1024) from Fin.ext h0]
      refine (ffnRow_six _ _ _ (fun k c => x9 (ix4 0 0 k c)) (fun k c => x10 (ix4 0 0 k c)) (fun c j => x11 (ix4 0 0 c j)) _ _ _ _ _ _ ?_ ?_ ?_ ?_ ?_ ?_ b).trans
        (congrArg (fun h => ffnRow h (fun k => x8 (ix2 0 k)) (fun k => x12 (ix2 0 k)) (fun k c => x9 (ix4 0 0 k c)) (fun k c => x10 (ix4 0 0 k c)) (fun c j => x11 (ix4 0 0 c j)) b) ?_)
      · intro k
        refine chunk_eq 0 (by norm_num) _ _ (fun k c => x9 (ix4 0 0 k c)) (fun k c => x10 (ix4 0 0 k c)) (fun c j => x11 (ix4 0 0 c j)) _ _ _ ?_ ?_ ?_ k
        all_goals
          intro p q
          exact View.ld_unit_apply_of _ _ _ _ _ _ (fun d => match d with
            | ⟨0, _⟩ => rfl | ⟨1, _⟩ => rfl | ⟨2, _⟩ => by show _ = _ + _; simp | ⟨3, _⟩ => by show _ = _ + _; simp)
      · intro k
        refine chunk_eq 512 (by norm_num) _ _ (fun k c => x9 (ix4 0 0 k c)) (fun k c => x10 (ix4 0 0 k c)) (fun c j => x11 (ix4 0 0 c j)) _ _ _ ?_ ?_ ?_ k
        all_goals
          intro p q
          exact View.ld_unit_apply_of _ _ _ _ _ _ (fun d => match d with
            | ⟨0, _⟩ => rfl | ⟨1, _⟩ => rfl | ⟨2, _⟩ => by show _ = _ + _; simp | ⟨3, _⟩ => by show _ = _ + _; simp)
      · intro k
        refine chunk_eq 1024 (by norm_num) _ _ (fun k c => x9 (ix4 0 0 k c)) (fun k c => x10 (ix4 0 0 k c)) (fun c j => x11 (ix4 0 0 c j)) _ _ _ ?_ ?_ ?_ k
        all_goals
          intro p q
          exact View.ld_unit_apply_of _ _ _ _ _ _ (fun d => match d with
            | ⟨0, _⟩ => rfl | ⟨1, _⟩ => rfl | ⟨2, _⟩ => by show _ = _ + _; simp | ⟨3, _⟩ => by show _ = _ + _; simp)
      · intro k
        refine chunk_eq 1536 (by norm_num) _ _ (fun k c => x9 (ix4 0 0 k c)) (fun k c => x10 (ix4 0 0 k c)) (fun c j => x11 (ix4 0 0 c j)) _ _ _ ?_ ?_ ?_ k
        all_goals
          intro p q
          exact View.ld_unit_apply_of _ _ _ _ _ _ (fun d => match d with
            | ⟨0, _⟩ => rfl | ⟨1, _⟩ => rfl | ⟨2, _⟩ => by show _ = _ + _; simp | ⟨3, _⟩ => by show _ = _ + _; simp)
      · intro k
        refine chunk_eq 2048 (by norm_num) _ _ (fun k c => x9 (ix4 0 0 k c)) (fun k c => x10 (ix4 0 0 k c)) (fun c j => x11 (ix4 0 0 c j)) _ _ _ ?_ ?_ ?_ k
        all_goals
          intro p q
          exact View.ld_unit_apply_of _ _ _ _ _ _ (fun d => match d with
            | ⟨0, _⟩ => rfl | ⟨1, _⟩ => rfl | ⟨2, _⟩ => by show _ = _ + _; simp | ⟨3, _⟩ => by show _ = _ + _; simp)
      · intro k
        refine chunk_eq 2560 (by norm_num) _ _ (fun k c => x9 (ix4 0 0 k c)) (fun k c => x10 (ix4 0 0 k c)) (fun c j => x11 (ix4 0 0 c j)) _ _ _ ?_ ?_ ?_ k
        all_goals
          intro p q
          exact View.ld_unit_apply_of _ _ _ _ _ _ (fun d => match d with
            | ⟨0, _⟩ => rfl | ⟨1, _⟩ => rfl | ⟨2, _⟩ => by show _ = _ + _; simp | ⟨3, _⟩ => by show _ = _ + _; simp)
      · refine poolMix_ext (fun t ht => (extBlk_hi _ (fun a k => x7 (ix2 a k)) _ _ (fun r => funext fun k => View.ld_unit_apply_of _ _ _ _ _ _ (fun d => match d with | ⟨0, _⟩ => rfl | ⟨1, _⟩ => (Nat.zero_add _).symm))
          (fun r => funext fun k => View.ld_unit_apply_of _ _ _ _ _ _ (fun d => match d with | ⟨0, _⟩ => rfl | ⟨1, _⟩ => (Nat.zero_add _).symm)) a t ht)) (fun q c d => ?_) (fun k => ?_) (fun k => ?_)
        · match q with
          | 0 | 1 | 2 | 3 => exact View.ld_unit_apply_of _ _ _ _ _ _ (fun d => match d with
            | ⟨0, _⟩ => rfl | ⟨1, _⟩ => (Nat.zero_add _).symm | ⟨2, _⟩ => (Nat.zero_add _).symm)
        · exact lane_ld x4 k _ _ _ _ (fun d => View.ld_unit_apply_of _ _ _ _ _ _ (fun d => match d with | ⟨0, _⟩ => rfl | ⟨1, _⟩ => rfl)) (fun d => View.ld_unit_apply_of _ _ _ _ _ _ (fun d => match d with | ⟨0, _⟩ => rfl | ⟨1, _⟩ => rfl)) (fun d => View.ld_unit_apply_of _ _ _ _ _ _ (fun d => match d with | ⟨0, _⟩ => rfl | ⟨1, _⟩ => rfl)) (fun d => View.ld_unit_apply_of _ _ _ _ _ _ (fun d => match d with | ⟨0, _⟩ => rfl | ⟨1, _⟩ => rfl))
        · exact lane_ld x5 k _ _ _ _ (fun d => View.ld_unit_apply_of _ _ _ _ _ _ (fun d => match d with | ⟨0, _⟩ => rfl | ⟨1, _⟩ => rfl)) (fun d => View.ld_unit_apply_of _ _ _ _ _ _ (fun d => match d with | ⟨0, _⟩ => rfl | ⟨1, _⟩ => rfl)) (fun d => View.ld_unit_apply_of _ _ _ _ _ _ (fun d => match d with | ⟨0, _⟩ => rfl | ⟨1, _⟩ => rfl)) (fun d => View.ld_unit_apply_of _ _ _ _ _ _ (fun d => match d with | ⟨0, _⟩ => rfl | ⟨1, _⟩ => rfl))
    · obtain ⟨a, b, rfl⟩ : ∃ (a : Fin 512) (b : Fin 1024), x = ix2 a b := ⟨x 0, x 1, eq_ix2 x⟩
      rw [lo_fin_apply]
      simp only [lo5_apply, lo4_apply, lo3_apply, lo2_apply, lo1_apply, lo0_apply, mix_lo]
      rw [show y 1 = b from Fin.ext h1, show y 0 = (⟨a.val, by omega⟩ : Fin 1024) from Fin.ext (h0.trans (by simp))]
      refine (ffnRow_six _ _ _ (fun k c => x9 (ix4 0 0 k c)) (fun k c => x10 (ix4 0 0 k c)) (fun c j => x11 (ix4 0 0 c j)) _ _ _ _ _ _ ?_ ?_ ?_ ?_ ?_ ?_ b).trans
        (congrArg (fun h => ffnRow h (fun k => x8 (ix2 0 k)) (fun k => x12 (ix2 0 k)) (fun k c => x9 (ix4 0 0 k c)) (fun k c => x10 (ix4 0 0 k c)) (fun c j => x11 (ix4 0 0 c j)) b) ?_)
      · intro k
        refine chunk_eq 0 (by norm_num) _ _ (fun k c => x9 (ix4 0 0 k c)) (fun k c => x10 (ix4 0 0 k c)) (fun c j => x11 (ix4 0 0 c j)) _ _ _ ?_ ?_ ?_ k
        all_goals
          intro p q
          exact View.ld_unit_apply_of _ _ _ _ _ _ (fun d => match d with
            | ⟨0, _⟩ => rfl | ⟨1, _⟩ => rfl | ⟨2, _⟩ => by show _ = _ + _; simp | ⟨3, _⟩ => by show _ = _ + _; simp)
      · intro k
        refine chunk_eq 512 (by norm_num) _ _ (fun k c => x9 (ix4 0 0 k c)) (fun k c => x10 (ix4 0 0 k c)) (fun c j => x11 (ix4 0 0 c j)) _ _ _ ?_ ?_ ?_ k
        all_goals
          intro p q
          exact View.ld_unit_apply_of _ _ _ _ _ _ (fun d => match d with
            | ⟨0, _⟩ => rfl | ⟨1, _⟩ => rfl | ⟨2, _⟩ => by show _ = _ + _; simp | ⟨3, _⟩ => by show _ = _ + _; simp)
      · intro k
        refine chunk_eq 1024 (by norm_num) _ _ (fun k c => x9 (ix4 0 0 k c)) (fun k c => x10 (ix4 0 0 k c)) (fun c j => x11 (ix4 0 0 c j)) _ _ _ ?_ ?_ ?_ k
        all_goals
          intro p q
          exact View.ld_unit_apply_of _ _ _ _ _ _ (fun d => match d with
            | ⟨0, _⟩ => rfl | ⟨1, _⟩ => rfl | ⟨2, _⟩ => by show _ = _ + _; simp | ⟨3, _⟩ => by show _ = _ + _; simp)
      · intro k
        refine chunk_eq 1536 (by norm_num) _ _ (fun k c => x9 (ix4 0 0 k c)) (fun k c => x10 (ix4 0 0 k c)) (fun c j => x11 (ix4 0 0 c j)) _ _ _ ?_ ?_ ?_ k
        all_goals
          intro p q
          exact View.ld_unit_apply_of _ _ _ _ _ _ (fun d => match d with
            | ⟨0, _⟩ => rfl | ⟨1, _⟩ => rfl | ⟨2, _⟩ => by show _ = _ + _; simp | ⟨3, _⟩ => by show _ = _ + _; simp)
      · intro k
        refine chunk_eq 2048 (by norm_num) _ _ (fun k c => x9 (ix4 0 0 k c)) (fun k c => x10 (ix4 0 0 k c)) (fun c j => x11 (ix4 0 0 c j)) _ _ _ ?_ ?_ ?_ k
        all_goals
          intro p q
          exact View.ld_unit_apply_of _ _ _ _ _ _ (fun d => match d with
            | ⟨0, _⟩ => rfl | ⟨1, _⟩ => rfl | ⟨2, _⟩ => by show _ = _ + _; simp | ⟨3, _⟩ => by show _ = _ + _; simp)
      · intro k
        refine chunk_eq 2560 (by norm_num) _ _ (fun k c => x9 (ix4 0 0 k c)) (fun k c => x10 (ix4 0 0 k c)) (fun c j => x11 (ix4 0 0 c j)) _ _ _ ?_ ?_ ?_ k
        all_goals
          intro p q
          exact View.ld_unit_apply_of _ _ _ _ _ _ (fun d => match d with
            | ⟨0, _⟩ => rfl | ⟨1, _⟩ => rfl | ⟨2, _⟩ => by show _ = _ + _; simp | ⟨3, _⟩ => by show _ = _ + _; simp)
      · refine poolMix_ext (fun t ht => (extBlk_lo _ (fun a k => x7 (ix2 a k)) _ (fun r => funext fun k => View.ld_unit_apply_of _ _ _ _ _ _ (fun d => match d with | ⟨0, _⟩ => (Nat.zero_add _).symm | ⟨1, _⟩ => (Nat.zero_add _).symm)) a t)) (fun q c d => ?_) (fun k => ?_) (fun k => ?_)
        · match q with
          | 0 | 1 | 2 | 3 => exact View.ld_unit_apply_of _ _ _ _ _ _ (fun d => match d with
            | ⟨0, _⟩ => rfl | ⟨1, _⟩ => (Nat.zero_add _).symm | ⟨2, _⟩ => (Nat.zero_add _).symm)
        · exact lane_ld x4 k _ _ _ _ (fun d => View.ld_unit_apply_of _ _ _ _ _ _ (fun d => match d with | ⟨0, _⟩ => rfl | ⟨1, _⟩ => rfl)) (fun d => View.ld_unit_apply_of _ _ _ _ _ _ (fun d => match d with | ⟨0, _⟩ => rfl | ⟨1, _⟩ => rfl)) (fun d => View.ld_unit_apply_of _ _ _ _ _ _ (fun d => match d with | ⟨0, _⟩ => rfl | ⟨1, _⟩ => rfl)) (fun d => View.ld_unit_apply_of _ _ _ _ _ _ (fun d => match d with | ⟨0, _⟩ => rfl | ⟨1, _⟩ => rfl))
        · exact lane_ld x5 k _ _ _ _ (fun d => View.ld_unit_apply_of _ _ _ _ _ _ (fun d => match d with | ⟨0, _⟩ => rfl | ⟨1, _⟩ => rfl)) (fun d => View.ld_unit_apply_of _ _ _ _ _ _ (fun d => match d with | ⟨0, _⟩ => rfl | ⟨1, _⟩ => rfl)) (fun d => View.ld_unit_apply_of _ _ _ _ _ _ (fun d => match d with | ⟨0, _⟩ => rfl | ⟨1, _⟩ => rfl)) (fun d => View.ld_unit_apply_of _ _ _ _ _ _ (fun d => match d with | ⟨0, _⟩ => rfl | ⟨1, _⟩ => rfl))

  · rw [Rect.mem_set_unit, Rect.mem_set_unit]
    have h0 : (y 0 : Nat) < 1024 := (y 0).isLt
    have h1 : (y 1 : Nat) < 1024 := (y 1).isLt
    by_cases h : (y 0 : Nat) < 512
    · right
      intro a
      match a with
      | ⟨0, _⟩ => exact ⟨Nat.zero_le _, by show (y 0 : Nat) < 0 + 512; omega⟩
      | ⟨1, _⟩ => exact ⟨Nat.zero_le _, by show (y 1 : Nat) < 0 + 1024; omega⟩
    · left
      intro a
      match a with
      | ⟨0, _⟩ => exact ⟨by show 512 ≤ (y 0 : Nat); omega, by show (y 0 : Nat) < 512 + 512; omega⟩
      | ⟨1, _⟩ => exact ⟨Nat.zero_le _, by show (y 1 : Nat) < 0 + 1024; omega⟩

end Cert.PoolIdeal.Block

end
-- ==== Proof.PoolValue.lean ====
module
public import proofs.«01_k».proof.Proof.PoolBlock
@[expose] public section
set_option maxRecDepth 16384
noncomputable section

/-! The result array of the pooling and feed-forward call: every row of it is one function of that row of its
sequence and of the fifteen rows before it, the meta rows standing in front of each sequence. -/

namespace Cert.PoolIdeal.Block
open Cert.PoolIdeal Cert.PoolIdeal.Gen Idealize.ShloMosaic Idealize.ShloMosaic.TcCoe Idealize.SL.Sem
open Idealize.ShloMosaic.Pipeline (Dat)
open Cert.RowMath
variable (m : (ℓ : Loc nD τ sig) → Buf (Elt Ideal) ℓ) (ρ : Dev nD → PrngReg)

/-! ## What the host leaves in the kernel's operands -/

/-- The up-projection weights are passed as they are. -/
theorem V_v0 (c : Dev nD) : V m c main_v0 = m ((c : Thread nD τ).loc main_arg9) := by
  unfold_abbrev_sides
  after_results
  rfl

/-- The gate weights are passed as they are. -/
theorem V_v1 (c : Dev nD) : V m c main_v1 = m ((c : Thread nD τ).loc main_arg10) := by
  unfold_abbrev_sides
  after_results
  rfl

/-- The down-projection weights are passed as they are. -/
theorem V_v2 (c : Dev nD) : V m c main_v2 = m ((c : Thread nD τ).loc main_arg11) := by
  unfold_abbrev_sides
  after_results
  rfl

/-- The scale before the feed-forward. -/
theorem V_v5 (c : Dev nD) (k : Fin 1024) : (V m c main_v5 : FVec Ideal S1x1024 .f32) (ix2 0 k) = m ((c : Thread nD τ).loc main_arg7) (ix3 0 1 k) := by
  unfold_abbrev_sides
  after_results
  pointwise

/-- The scale after the feed-forward. -/
theorem V_v8 (c : Dev nD) (k : Fin 1024) : (V m c main_v8 : FVec Ideal S1x1024 .f32) (ix2 0 k) = m ((c : Thread nD τ).loc main_arg8) (ix3 0 1 k) := by
  unfold_abbrev_sides
  after_results
  pointwise

/-- The scale before the mixer. -/
theorem V_v11 (c : Dev nD) (k : Fin 1024) : (V m c main_v11 : FVec Ideal S1x1024 .f32) (ix2 0 k) = m ((c : Thread nD τ).loc main_arg2) (ix2 0 k) := by
  unfold_abbrev_sides
  after_results
  pointwise

/-- The mixer's own scale. -/
theorem V_v17 (c : Dev nD) (k : Fin 1024) : (V m c main_v17 : FVec Ideal S1x1024 .f32) (ix2 0 k) = m ((c : Thread nD τ).loc main_arg6) (ix2 0 k) := by
  unfold_abbrev_sides
  after_results
  pointwise

/-- The scale after the mixer. -/
theorem V_v20 (c : Dev nD) (k : Fin 1024) : (V m c main_v20 : FVec Ideal S1x1024 .f32) (ix2 0 k) = m ((c : Thread nD τ).loc main_arg3) (ix2 0 k) := by
  unfold_abbrev_sides
  after_results
  pointwise

/-- The mixer's weights. -/
theorem V_v13 (c : Dev nD) (q : Fin 4) (k l : Fin 256) : (V m c main_v13 : FVec Ideal S4x256x256 .bf16) (ix3 q k l) = m ((c : Thread nD τ).loc main_arg4) (ix4 0 q k l) := by
  unfold_abbrev_sides
  after_results
  pointwise

/-- The mixer's bias, the groups side by side. -/
theorem V_v15 (c : Dev nD) (k : Fin 1024) : (V m c main_v15 : FVec Ideal S1x1024 .f32) (ix2 0 k) = m ((c : Thread nD τ).loc main_arg5) (ix3 0 (grp k) (lane k)) := by
  unfold_abbrev_sides
  after_results
  pointwise
  rfl

/-! ## The windows' blocks at a grid point -/

/-- Window 0 stages the sixteen rows before the block (the first block repeats its own first rows). -/
theorem idx0 : ∀ t : Fin cfg0.N, win0_0.index t 0 = t.val * 64 - 1 ∧ win0_0.index t 1 = 0 :=
  (by decide +kernel : ∀ t : Fin grid0.N, win0_0.index t 0 = t.val * 64 - 1 ∧ win0_0.index t 1 = 0)
/-- The grid's second coordinate counts the blocks of a sequence. -/
theorem coord1 : ∀ t : Fin cfg0.N, ((grid0.coords t) 1).val = t.val % 4 :=
  (by decide +kernel : ∀ t : Fin grid0.N, ((grid0.coords t) 1).val = t.val % 4)
/-- Window 7 moves one block of rows per grid point. -/
theorem idx7 : ∀ t : Fin cfg0.N, win0_7.index t 0 = t.val ∧ win0_7.index t 1 = 0 :=
  (by decide +kernel : ∀ t : Fin grid0.N, win0_7.index t 0 = t.val ∧ win0_7.index t 1 = 0)
/-- Window 13 moves one block of rows per grid point. -/
theorem idx13 : ∀ t : Fin cfg0.N, win0_13.index t 0 = t.val ∧ win0_13.index t 1 = 0 :=
  (by decide +kernel : ∀ t : Fin grid0.N, win0_13.index t 0 = t.val ∧ win0_13.index t 1 = 0)
/-- Window 1 stays at block zero. -/
theorem idx1 : ∀ t : Fin cfg0.N, ∀ a, win0_1.index t a = 0 := (by decide +kernel : ∀ t : Fin grid0.N, ∀ a, win0_1.index t a = 0)
/-- Window 2 stays at block zero. -/
theorem idx2 : ∀ t : Fin cfg0.N, ∀ a, win0_2.index t a = 0 := (by decide +kernel : ∀ t : Fin grid0.N, ∀ a, win0_2.index t a = 0)
/-- Window 3 stays at block zero. -/
theorem idx3 : ∀ t : Fin cfg0.N, ∀ a, win0_3.index t a = 0 := (by decide +kernel : ∀ t : Fin grid0.N, ∀ a, win0_3.index t a = 0)
/-- Window 4 stays at block zero. -/
theorem idx4 : ∀ t : Fin cfg0.N, ∀ a, win0_4.index t a = 0 := (by decide +kernel : ∀ t : Fin grid0.N, ∀ a, win0_4.index t a = 0)
/-- Window 5 stays at block zero. -/
theorem idx5 : ∀ t : Fin cfg0.N, ∀ a, win0_5.index t a = 0 := (by decide +kernel : ∀ t : Fin grid0.N, ∀ a, win0_5.index t a = 0)
/-- Window 6 stays at block zero. -/
theorem idx6 : ∀ t : Fin cfg0.N, ∀ a, win0_6.index t a = 0 := (by decide +kernel : ∀ t : Fin grid0.N, ∀ a, win0_6.index t a = 0)
/-- Window 8 stays at block zero. -/
theorem idx8 : ∀ t : Fin cfg0.N, ∀ a, win0_8.index t a = 0 := (by decide +kernel : ∀ t : Fin grid0.N, ∀ a, win0_8.index t a = 0)
/-- Window 12 stays at block zero. -/
theorem idx12 : ∀ t : Fin cfg0.N, ∀ a, win0_12.index t a = 0 := (by decide +kernel : ∀ t : Fin grid0.N, ∀ a, win0_12.index t a = 0)
/-- Window 9 stays at the weights of layer 0, slot 1. -/
theorem idx9 : ∀ t : Fin cfg0.N, win0_9.index t 0 = 0 ∧ win0_9.index t 1 = 1 ∧ win0_9.index t 2 = 0 ∧ win0_9.index t 3 = 0 := (by decide +kernel : ∀ t : Fin grid0.N, win0_9.index t 0 = 0 ∧ win0_9.index t 1 = 1 ∧ win0_9.index t 2 = 0 ∧ win0_9.index t 3 = 0)
/-- Window 10 stays at the weights of layer 0, slot 1. -/
theorem idx10 : ∀ t : Fin cfg0.N, win0_10.index t 0 = 0 ∧ win0_10.index t 1 = 1 ∧ win0_10.index t 2 = 0 ∧ win0_10.index t 3 = 0 := (by decide +kernel : ∀ t : Fin grid0.N, win0_10.index t 0 = 0 ∧ win0_10.index t 1 = 1 ∧ win0_10.index t 2 = 0 ∧ win0_10.index t 3 = 0)
/-- Window 11 stays at the weights of layer 0, slot 1. -/
theorem idx11 : ∀ t : Fin cfg0.N, win0_11.index t 0 = 0 ∧ win0_11.index t 1 = 1 ∧ win0_11.index t 2 = 0 ∧ win0_11.index t 3 = 0 := (by decide +kernel : ∀ t : Fin grid0.N, win0_11.index t 0 = 0 ∧ win0_11.index t 1 = 1 ∧ win0_11.index t 2 = 0 ∧ win0_11.index t 3 = 0)

/-- The rows before the block, as rows of the argument. -/
theorem iblk0 (c : Dev nD) (t : Fin cfg0.N) (y : S16x1024.Idx) (z : S16384x1024.Idx) (h0 : (z 0).val = (t.val * 64 - 1) * 16 + (y 0).val) (h1 : (z 1).val = (y 1).val) :
    iblk m c 0 t y = m ((c : Thread nD τ).loc main_arg0) z := by
  unfold iblk
  rw [View.read_apply]
  show V m c main_arg0 _ = _
  rw [V_main_arg0]
  refine congrArg _ (funext fun a => Fin.ext ?_)
  match a with
  | ⟨0, _⟩ => blk_simp [(idx0 t).1]; exact h0.symm
  | ⟨1, _⟩ => blk_simp [(idx0 t).2]; exact h1.symm

/-- The block's own rows, as rows of the argument. -/
theorem iblk7 (c : Dev nD) (t : Fin cfg0.N) (y : S1024x1024.Idx) (z : S16384x1024.Idx) (h0 : (z 0).val = t.val * 1024 + (y 0).val) (h1 : (z 1).val = (y 1).val) :
    iblk m c 7 t y = m ((c : Thread nD τ).loc main_arg0) z := by
  unfold iblk
  rw [View.read_apply]
  show V m c main_arg0 _ = _
  rw [V_main_arg0]
  refine congrArg _ (funext fun a => Fin.ext ?_)
  match a with
  | ⟨0, _⟩ => blk_simp [(idx7 t).1]; exact h0.symm
  | ⟨1, _⟩ => blk_simp [(idx7 t).2]; exact h1.symm

/-- The meta rows. -/
theorem iblk1 (c : Dev nD) (t : Fin cfg0.N) (a : Fin 16) (k : Fin 1024) : iblk m c 1 t (ix2 a k : S16x1024.Idx) = m ((c : Thread nD τ).loc main_arg1) (ix2 a k) := by
  unfold iblk
  rw [View.read_apply]
  show V m c main_arg1 _ = _
  rw [V_main_arg1]
  refine congrArg _ (funext fun a => Fin.ext ?_)
  match a with
  | ⟨0, _⟩ => blk_simp [idx1 t]
  | ⟨1, _⟩ => blk_simp [idx1 t]

/-- The row window 2 stages. -/
theorem iblk2 (c : Dev nD) (t : Fin cfg0.N) (k : Fin 1024) : iblk m c 2 t (ix2 0 k : S1x1024.Idx) = m ((c : Thread nD τ).loc main_arg2) (ix2 0 k) := by
  rw [← V_v11 m c k]
  unfold iblk
  rw [View.read_apply]
  show V m c main_v11 _ = _
  refine congrArg _ (funext fun a => Fin.ext ?_)
  match a with
  | ⟨0, _⟩ => blk_simp [idx2 t]
  | ⟨1, _⟩ => blk_simp [idx2 t]

/-- The row window 4 stages. -/
theorem iblk4 (c : Dev nD) (t : Fin cfg0.N) (k : Fin 1024) : iblk m c 4 t (ix2 0 k : S1x1024.Idx) = m ((c : Thread nD τ).loc main_arg5) (ix3 0 (grp k) (lane k)) := by
  rw [← V_v15 m c k]
  unfold iblk
  rw [View.read_apply]
  show V m c main_v15 _ = _
  refine congrArg _ (funext fun a => Fin.ext ?_)
  match a with
  | ⟨0, _⟩ => blk_simp [idx4 t]
  | ⟨1, _⟩ => blk_simp [idx4 t]

/-- The row window 5 stages. -/
theorem iblk5 (c : Dev nD) (t : Fin cfg0.N) (k : Fin 1024) : iblk m c 5 t (ix2 0 k : S1x1024.Idx) = m ((c : Thread nD τ).loc main_arg6) (ix2 0 k) := by
  rw [← V_v17 m c k]
  unfold iblk
  rw [View.read_apply]
  show V m c main_v17 _ = _
  refine congrArg _ (funext fun a => Fin.ext ?_)
  match a with
  | ⟨0, _⟩ => blk_simp [idx5 t]
  | ⟨1, _⟩ => blk_simp [idx5 t]

/-- The row window 6 stages. -/
theorem iblk6 (c : Dev nD) (t : Fin cfg0.N) (k : Fin 1024) : iblk m c 6 t (ix2 0 k : S1x1024.Idx) = m ((c : Thread nD τ).loc main_arg3) (ix2 0 k) := by
  rw [← V_v20 m c k]
  unfold iblk
  rw [View.read_apply]
  show V m c main_v20 _ = _
  refine congrArg _ (funext fun a => Fin.ext ?_)
  match a with
  | ⟨0, _⟩ => blk_simp [idx6 t]
  | ⟨1, _⟩ => blk_simp [idx6 t]

/-- The row window 8 stages. -/
theorem iblk8 (c : Dev nD) (t : Fin cfg0.N) (k : Fin 1024) : iblk m c 8 t (ix2 0 k : S1x1024.Idx) = m ((c : Thread nD τ).loc main_arg7) (ix3 0 1 k) := by
  rw [← V_v5 m c k]
  unfold iblk
  rw [View.read_apply]
  show V m c main_v5 _ = _
  refine congrArg _ (funext fun a => Fin.ext ?_)
  match a with
  | ⟨0, _⟩ => blk_simp [idx8 t]
  | ⟨1, _⟩ => blk_simp [idx8 t]

/-- The row window 12 stages. -/
theorem iblk12 (c : Dev nD) (t : Fin cfg0.N) (k : Fin 1024) : iblk m c 12 t (ix2 0 k : S1x1024.Idx) = m ((c : Thread nD τ).loc main_arg8) (ix3 0 1 k) := by
  rw [← V_v8 m c k]
  unfold iblk
  rw [View.read_apply]
  show V m c main_v8 _ = _
  refine congrArg _ (funext fun a => Fin.ext ?_)
  match a with
  | ⟨0, _⟩ => blk_simp [idx12 t]
  | ⟨1, _⟩ => blk_simp [idx12 t]

/-- The mixer's weights as window 3 stages them. -/
theorem iblk3 (c : Dev nD) (t : Fin cfg0.N) (q : Fin 4) (k l : Fin 256) : iblk m c 3 t (ix3 q k l : S4x256x256.Idx) = m ((c : Thread nD τ).loc main_arg4) (ix4 0 q k l) := by
  rw [← V_v13 m c q k l]
  unfold iblk
  rw [View.read_apply]
  show V m c main_v13 _ = _
  refine congrArg _ (funext fun a => Fin.ext ?_)
  match a with
  | ⟨0, _⟩ => blk_simp [idx3 t]
  | ⟨1, _⟩ => blk_simp [idx3 t]
  | ⟨2, _⟩ => blk_simp [idx3 t]

/-- The weights window 9 stages. -/
theorem iblk9 (c : Dev nD) (t : Fin cfg0.N) (k : Fin 1024) (d : Fin 2816) :
    iblk m c 9 t (ix4 0 0 k d : S1x1x1024x2816.Idx) = m ((c : Thread nD τ).loc main_arg9) (ix4 0 1 k d) := by
  rw [← V_v0 m c]
  unfold iblk
  rw [View.read_apply]
  show V m c main_v0 _ = _
  refine congrArg _ (funext fun a => Fin.ext ?_)
  match a with
  | ⟨0, _⟩ => blk_simp [(idx9 t).1]; rfl
  | ⟨1, _⟩ => blk_simp [(idx9 t).2.1]; rfl
  | ⟨2, _⟩ => blk_simp [(idx9 t).2.2.1]
  | ⟨3, _⟩ => blk_simp [(idx9 t).2.2.2]

/-- The weights window 10 stages. -/
theorem iblk10 (c : Dev nD) (t : Fin cfg0.N) (k : Fin 1024) (d : Fin 2816) :
    iblk m c 10 t (ix4 0 0 k d : S1x1x1024x2816.Idx) = m ((c : Thread nD τ).loc main_arg10) (ix4 0 1 k d) := by
  rw [← V_v1 m c]
  unfold iblk
  rw [View.read_apply]
  show V m c main_v1 _ = _
  refine congrArg _ (funext fun a => Fin.ext ?_)
  match a with
  | ⟨0, _⟩ => blk_simp [(idx10 t).1]; rfl
  | ⟨1, _⟩ => blk_simp [(idx10 t).2.1]; rfl
  | ⟨2, _⟩ => blk_simp [(idx10 t).2.2.1]
  | ⟨3, _⟩ => blk_simp [(idx10 t).2.2.2]

/-- The weights window 11 stages. -/
theorem iblk11 (c : Dev nD) (t : Fin cfg0.N) (d : Fin 2816) (k : Fin 1024) :
    iblk m c 11 t (ix4 0 0 d k : S1x1x2816x1024.Idx) = m ((c : Thread nD τ).loc main_arg11) (ix4 0 1 d k) := by
  rw [← V_v2 m c]
  unfold iblk
  rw [View.read_apply]
  show V m c main_v2 _ = _
  refine congrArg _ (funext fun a => Fin.ext ?_)
  match a with
  | ⟨0, _⟩ => blk_simp [(idx11 t).1]; rfl
  | ⟨1, _⟩ => blk_simp [(idx11 t).2.1]; rfl
  | ⟨2, _⟩ => blk_simp [(idx11 t).2.2.1]
  | ⟨3, _⟩ => blk_simp [(idx11 t).2.2.2]

/-! ## The rows a block sees -/

/-- The meta rows on the selected branch, the staged rows on the other. -/
theorem halo_zero (i : grid0.Coords) (A B : FVec Ideal S16x1024 .f32) (h : (i 1).val = 0) : halo i A B = A := by
  unfold halo
  rw [h]
  rfl

/-- The staged rows in a sequence's later blocks. -/
theorem halo_pos (i : grid0.Coords) (A B : FVec Ideal S16x1024 .f32) (h : (i 1).val = 1 ∨ (i 1).val = 2 ∨ (i 1).val = 3) : halo i A B = B := by
  unfold halo
  rcases h with h | h | h <;> rw [h] <;> rfl

/-- What row `a` of the block, counted from sixteen rows before it, is in its sequence. -/
theorem extBlk_seq (c : Dev nD) (t : Fin cfg0.N) (a : ℕ) (ha : a < 1040) :
    extBlk (fun a k => halo (grid0.coords t) (iblk m c 1 t) (iblk m c 0 t) (ix2 a k)) (fun a k => iblk m c 7 t (ix2 a k : S1024x1024.Idx)) a
      = seqRow (fun a k => m ((c : Thread nD τ).loc main_arg1) (ix2 a k)) (fun r k => m ((c : Thread nD τ).loc main_arg0) (ix2 r k)) (t.val / 4) (t.val % 4 * 1024 + a) := by
  have hN : cfg0.N = 16 := N_0
  have ht : t.val < 16 := hN ▸ t.isLt
  have hc := coord1 t
  funext k
  unfold extBlk seqRow
  by_cases h : a < 16
  · rw [dif_pos h]
    by_cases h0 : t.val % 4 = 0
    · rw [dif_pos (show t.val % 4 * 1024 + a < 16 by omega), halo_zero _ _ _ (hc.trans h0)]
      refine (iblk1 m c t ⟨a, h⟩ k).trans ?_
      refine congrArg _ (congrArg (fun x => ix2 x k) (Fin.ext ?_))
      show a = t.val % 4 * 1024 + a
      omega
    · rw [dif_neg (show ¬ t.val % 4 * 1024 + a < 16 by omega), dif_pos (show t.val / 4 * 4096 + (t.val % 4 * 1024 + a - 16) < 16384 by omega),
        halo_pos _ _ _ (by omega)]
      exact iblk0 m c t _ _ (by show t.val / 4 * 4096 + (t.val % 4 * 1024 + a - 16) = (t.val * 64 - 1) * 16 + a; omega) rfl
  · rw [dif_neg h, dif_pos (show a - 16 < 1024 by omega), dif_neg (show ¬ t.val % 4 * 1024 + a < 16 by omega),
      dif_pos (show t.val / 4 * 4096 + (t.val % 4 * 1024 + a - 16) < 16384 by omega)]
    exact iblk7 m c t _ _ (by show t.val / 4 * 4096 + (t.val % 4 * 1024 + a - 16) = t.val * 1024 + (a - 16); omega) rfl

/-! ## The result array -/

/-- What the kernel computes, as one array: each row is the feed-forward row of that row after the mixer. -/
def result (c : Dev nD) : Buf (Elt Ideal) ((c : Thread nD τ).loc main_v21) := fun z : S16384x1024.Idx =>
  ffnRow (poolMix (fun s => seqRow (fun a k => m ((c : Thread nD τ).loc main_arg1) (ix2 a k)) (fun r k => m ((c : Thread nD τ).loc main_arg0) (ix2 r k)) ((z 0).val / 4096) (16 + (z 0).val % 4096 - s))
        (fun k => m ((c : Thread nD τ).loc main_arg2) (ix2 0 k))
        (fun q k l => m ((c : Thread nD τ).loc main_arg4) (ix4 0 q k l)) (fun k => m ((c : Thread nD τ).loc main_arg5) (ix3 0 (grp k) (lane k)))
        (fun k => m ((c : Thread nD τ).loc main_arg6) (ix2 0 k)) (fun k => m ((c : Thread nD τ).loc main_arg3) (ix2 0 k)))
      (fun k => m ((c : Thread nD τ).loc main_arg7) (ix3 0 1 k)) (fun k => m ((c : Thread nD τ).loc main_arg8) (ix3 0 1 k))
      (fun k d => m ((c : Thread nD τ).loc main_arg9) (ix4 0 1 k d)) (fun k d => m ((c : Thread nD τ).loc main_arg10) (ix4 0 1 k d)) (fun d k => m ((c : Thread nD τ).loc main_arg11) (ix4 0 1 d k)) (z 1)

/-- Every grid point writes its block of that array. -/
theorem flushed_eq (c : Dev nD) (t : Fin cfg0.N) : (dats m 0 c).flushed 13 t = ((cfg0.win 13).blk t).view.read (Elt Ideal) (result m c) := by
  rw [Value.flushed13_A]
  funext (y : S1024x1024.Idx)
  rw [View.read_apply]
  have hN : cfg0.N = 16 := N_0
  have ht : t.val < 16 := hN ▸ t.isLt
  have hy : (y 0).val < 1024 := (y 0).isLt
  have e0 : ((((cfg0.win 13).blk t).view.emb y) 0 : ℕ) = t.val * 1024 + (y 0).val := by blk_simp [(idx13 t).1]
  have e1 : ((((cfg0.win 13).blk t).view.emb y) 1 : ℕ) = (y 1).val := by blk_simp [(idx13 t).2]
  refine (out_apply ..).trans ?_
  unfold result
  simp only [iblk2, iblk3, iblk4, iblk5, iblk6, iblk8, iblk9, iblk10, iblk11, iblk12]
  rw [e0, poolMix_ext (X' := fun s => seqRow (fun a k => m ((c : Thread nD τ).loc main_arg1) (ix2 a k)) (fun r k => m ((c : Thread nD τ).loc main_arg0) (ix2 r k)) ((t.val * 1024 + (y 0).val) / 4096) (16 + (t.val * 1024 + (y 0).val) % 4096 - s))
    (fun s hs => (extBlk_seq m c t _ (by omega)).trans (by
      rw [show t.val / 4 = (t.val * 1024 + (y 0).val) / 4096 by omega,
        show t.val % 4 * 1024 + (16 + (y 0).val - s) = 16 + (t.val * 1024 + (y 0).val) % 4096 - s by omega]))
    (fun _ _ _ => rfl) (fun _ => rfl) (fun _ => rfl)]
  exact congrArg _ (Fin.ext e1.symm)

/-- Every row is in some grid point's block. -/
theorem cover (i : S16384x1024.Idx) : ∃ t : Fin cfg0.N, (cfg0.win 13).flush t = true ∧ i ∈ ((cfg0.win 13).blk t).view.set := by
  have h0 : (i 0 : Nat) < 16384 := (i 0).isLt
  have h1 : (i 1 : Nat) < 1024 := (i 1).isLt
  have hN : cfg0.N = 16 := N_0
  refine ⟨⟨(i 0).val / 1024, by omega⟩, flush0_13 _, ?_⟩
  mem_blk [(idx13 _).1, (idx13 _).2]
  dsimp only
  omega

/-- The array the call ends with. -/
theorem final (c : Dev nD) : (dats m 0 c).arrAt 13 cfg0.N = result m c :=
  (dats m 0 c).arrAt_eq_of_cover 13 (result m c) (fun t _ => flushed_eq m c t) cover

end Cert.PoolIdeal.Block
-- ==== Proof.PoolSums.lean ====
module
public import proofs.«01_k».proof.Proof.PoolRow
public import proofs.«01_k».proof.Proof.Gen.PoolRefIdeal.Run
@[expose] public section
set_option maxRecDepth 16384
noncomputable section

/-! Trailing means as differences of running sums: the running sum down a sequence, the gather that reads it at the
window's start, and the difference of two running sums as the sum over the window. -/

namespace Cert.RowMath
open Idealize.ShloMosaic

/-- A normalized entry is a real number where its gain is: a row with an infinite entry is scaled by zero. -/
theorem nrm_fin (x g : Fin 1024 → EReal) (j : Fin 1024) {r : ℝ} (hg : g j = (r : EReal)) : ∃ v : ℝ, nrm x g j = (v : EReal) := by
  have key : ∃ v : ℝ, x j * rinv x = (v : EReal) := by
    obtain ⟨e, he, hE⟩ := ofBits_eps
    obtain ⟨q, _, hq⟩ := rinv_fin x
    by_cases hx : x j = ⊤ ∨ x j = ⊥
    · have hsq : x j * x j = ⊤ := by rcases hx with h | h <;> rw [h] <;> rfl
      have hs : ∑ k, x k * x k = ⊤ := top_unique (hsq ▸ Finset.single_le_sum (f := fun k => x k * x k) (fun k _ => mul_self_nonneg' (x k)) (Finset.mem_univ j))
      have h0 : rinv x = 0 := by
        unfold rinv
        rw [hs, ofBits_1024, hE]
        have h1024 : ((1024 : ℝ) : EReal) ≠ 0 := by norm_num
        unfold Ideal.div
        rw [if_neg h1024, ← EReal.coe_inv, EReal.top_mul_coe_of_pos (by norm_num), EReal.top_add_coe]
        rfl
      exact ⟨0, by rw [h0, mul_zero]; rfl⟩
    · obtain ⟨hT, hB⟩ := not_or.1 hx
      refine ⟨(x j).toReal * q, ?_⟩
      rw [hq, EReal.coe_mul, EReal.coe_toReal hT hB]
  obtain ⟨v, hv⟩ := key
  exact ⟨v * r, by unfold nrm; rw [hv, hg, EReal.coe_mul]⟩

/-- The sum over a window is the difference of the running sums at its two ends. -/
theorem sum_sub_sum (N : ℕ → EReal) (hN : ∀ s, ∃ v : ℝ, N s = (v : EReal)) (a w : ℕ) (hw : w ≤ a + 1) :
    ∑ s ∈ Finset.range (a + 1), N s - ∑ s ∈ Finset.range (a + 1 - w), N s = ∑ t ∈ Finset.range w, N (a - t) := by
  choose v hv using hN
  obtain rfl : N = fun s => (v s : EReal) := funext hv
  obtain ⟨n, hn⟩ : ∃ n, a + 1 = n + w := ⟨a + 1 - w, by omega⟩
  have e1 : a + 1 - w = n := by omega
  rw [e1, hn, Finset.sum_range_add]
  have hs : ∀ m : ℕ, ∑ s ∈ Finset.range m, (v s : EReal) = ((∑ s ∈ Finset.range m, v s : ℝ) : EReal) := fun m => by
    induction m with
    | zero => rfl
    | succ m ih => rw [Finset.sum_range_succ, Finset.sum_range_succ, ih, EReal.coe_add]
  rw [hs n, add_comm, EReal.add_sub_cancel_right, ← Finset.sum_range_reflect (fun x => (v (n + x) : EReal)) w]
  refine Finset.sum_congr rfl fun t ht => ?_
  have := Finset.mem_range.1 ht
  rw [show n + (w - 1 - t) = a - t by omega]

/-- Dividing by a power of two is multiplying by its reciprocal. -/
theorem div_win (x : EReal) (q : Fin 4) : Ideal.div x ((winOf q : ℝ) : EReal) = x * ((1 / (winOf q : ℝ) : ℝ) : EReal) := by
  have h : ((winOf q : ℝ) : EReal) ≠ 0 := by
    match q with
    | 0 | 1 | 2 | 3 => simp [winOf]
  unfold Ideal.div
  rw [if_neg h, ← EReal.coe_inv, one_div]

/-- A fold of additions from zero is the sum. -/
theorem foldl_add_sum {ι : Type} (l : List ι) (g : ι → EReal) (z : EReal) : l.foldl (fun r n => r + g n) z = z + (l.map g).sum := by
  induction l generalizing z with
  | nil => simp
  | cons a l ih => rw [List.foldl_cons, ih, List.map_cons, List.sum_cons, add_assoc]

end Cert.RowMath

namespace Cert.PoolRefIdeal.Rows
open Cert.PoolRefIdeal Cert.PoolRefIdeal.Gen Idealize.ShloMosaic Idealize.ShloMosaic.TcCoe Idealize.SL.Sem
open Cert.RowMath

/-- The window of a whole column has one position per row. -/
theorem numel_win : (⟨3, ![1, 4112, 1]⟩ : Shape).numel = 4112 := by decide +kernel

/-- Position `n` of a whole column is row `n`. -/
theorem win_pos (n : Fin (⟨3, ![1, 4112, 1]⟩ : Shape).numel) :
    (((⟨3, ![1, 4112, 1]⟩ : Shape).rowMajor.symm n 0).val = 0) ∧ (((⟨3, ![1, 4112, 1]⟩ : Shape).rowMajor.symm n 1).val = n.val)
      ∧ (((⟨3, ![1, 4112, 1]⟩ : Shape).rowMajor.symm n 2).val = 0) := by
  generalize hp : (⟨3, ![1, 4112, 1]⟩ : Shape).rowMajor.symm n = p
  have h0 : (p 0).val < 1 := (p 0).isLt
  have h2 : (p 2).val < 1 := (p 2).isLt
  have hn : (⟨3, ![1, 4112, 1]⟩ : Shape).rowMajor p = n := by rw [← hp]; exact Equiv.apply_symm_apply _ _
  have hv := congrArg Fin.val hn
  rw [Shape.rowMajor_val_three] at hv
  change ((p 0).val * 4112 + (p 1).val) * 1 + (p 2).val = n.val at hv
  refine ⟨by omega, by omega, by omega⟩

/-- Row `s` of a column of the array, zero past the end. -/
def rowAt (x : FVec Ideal S4x4112x1024 .f32) (b : Fin 4) (k : Fin 1024) (s : ℕ) : EReal :=
  if h : s < 4112 then x (ix3 b ⟨s, h⟩ k) else 0

/-- The sum of a list of values over the first numbers. -/
theorem list_sum (f : ℕ → EReal) (M : ℕ) : ((List.range M).map f).sum = ∑ s ∈ Finset.range M, f s := by
  induction M with
  | zero => rfl
  | succ M ih => rw [List.range_succ, List.map_append, List.sum_append, ih, Finset.sum_range_succ, List.map_singleton, List.sum_singleton]

/-- A small word read as a signed number. -/
theorem toInt_small (n : ℕ) (h : n < 2 ^ 31) : (BitVec.ofNat 32 n).toInt = n := by
  have e : (BitVec.ofNat 32 n).toNat = n := by rw [BitVec.toNat_ofNat]; omega
  rw [BitVec.toInt_eq_toNat_of_lt (by omega), e]

/-- A window that ends at row `j` holds the rows up to it. -/
theorem sum_tail (f : ℕ → EReal) (j : ℕ) (hj : j < 4112) :
    ((List.range 4112).map fun n => if 4111 ≤ j + n then f (j + n - 4111) else 0).sum = ∑ s ∈ Finset.range (j + 1), f s := by
  rw [list_sum]
  obtain ⟨d, hd⟩ : ∃ d, 4112 = d + (j + 1) := ⟨4112 - (j + 1), by omega⟩
  rw [hd, Finset.sum_range_add, Finset.sum_eq_zero (fun n hn => if_neg (by have := Finset.mem_range.1 hn; omega)), zero_add]
  refine Finset.sum_congr rfl fun n _ => ?_
  rw [if_pos (by omega), show j + (d + n) - 4111 = n by omega]

/-- The running sum down a sequence. -/
theorem cumsum_apply (x : FVec Ideal S4x4112x1024 .f32) (init : FVec Ideal S_ .f32) (hinit : init (Shape.Idx.first h_S_) = 0) (b : Fin 4) (j : Fin 4112) (k : Fin 1024) :
    Host.reduceWindowAdd ![1, 4112, 1] ![1, 1, 1] ![0, 4111, 0] ![0, 0, 0] x init reduceWindows_S4x4112x1024_S4x4112x1024_w1s1p0_0_w4112s1p4111_0_w1s1p0_0 h_S_ (ix3 b j k)
      = ∑ s ∈ Finset.range (j.val + 1), rowAt x b k s := by
  have hj : j.val < 4112 := j.isLt
  have hb : b.val < 4 := b.isLt
  have hk : k.val < 1024 := k.isLt
  refine (show _ = Ideal.hostReduceWindowAdd ![1, 4112, 1] ![1, 1, 1] ![0, 4111, 0] ![0, 0, 0] reduceWindows_S4x4112x1024_S4x4112x1024_w1s1p0_0_w4112s1p4111_0_w1s1p0_0 x (init (Shape.Idx.first h_S_)) (ix3 b j k) from rfl).trans ?_
  rw [hinit]
  unfold Ideal.hostReduceWindowAdd Host.reduceWindow
  dsimp only
  refine (foldl_add_sum _ _ _).trans ?_
  rw [zero_add, ← sum_tail (rowAt x b k) j.val hj]
  refine Eq.trans ?_ (congrArg (fun M => ((List.range M).map fun n => if 4111 ≤ j.val + n then rowAt x b k (j.val + n - 4111) else 0).sum) numel_win)
  rw [← List.map_coe_finRange_eq_range, List.map_map]
  refine congrArg List.sum (List.map_congr_left fun n _ => ?_)
  obtain ⟨w0, w1, w2⟩ := win_pos n
  have hn : n.val < 4112 := lt_of_lt_of_eq n.isLt numel_win
  show _ = if 4111 ≤ j.val + n.val then rowAt x b k (j.val + n.val - 4111) else 0
  by_cases hle : 4111 ≤ j.val + n.val
  · rw [dif_pos (fun a => by
      match a with
      | ⟨0, _⟩ =>
        show 0 ≤ b.val * 1 + ((⟨3, ![1, 4112, 1]⟩ : Shape).rowMajor.symm n 0).val ∧ b.val * 1 + ((⟨3, ![1, 4112, 1]⟩ : Shape).rowMajor.symm n 0).val - 0 < 4
        rw [w0]; omega
      | ⟨1, _⟩ =>
        show 4111 ≤ j.val * 1 + ((⟨3, ![1, 4112, 1]⟩ : Shape).rowMajor.symm n 1).val ∧ j.val * 1 + ((⟨3, ![1, 4112, 1]⟩ : Shape).rowMajor.symm n 1).val - 4111 < 4112
        rw [w1]; omega
      | ⟨2, _⟩ =>
        show 0 ≤ k.val * 1 + ((⟨3, ![1, 4112, 1]⟩ : Shape).rowMajor.symm n 2).val ∧ k.val * 1 + ((⟨3, ![1, 4112, 1]⟩ : Shape).rowMajor.symm n 2).val - 0 < 1024
        rw [w2]; omega), if_pos hle]
    unfold rowAt
    rw [dif_pos (show j.val + n.val - 4111 < 4112 by omega)]
    refine congrArg x (funext fun a => Fin.ext ?_)
    match a with
    | ⟨0, _⟩ =>
      show b.val * 1 + ((⟨3, ![1, 4112, 1]⟩ : Shape).rowMajor.symm n 0).val - 0 = b.val
      rw [w0]; omega
    | ⟨1, _⟩ =>
      show j.val * 1 + ((⟨3, ![1, 4112, 1]⟩ : Shape).rowMajor.symm n 1).val - 4111 = j.val + n.val - 4111
      rw [w1]; omega
    | ⟨2, _⟩ =>
      show k.val * 1 + ((⟨3, ![1, 4112, 1]⟩ : Shape).rowMajor.symm n 2).val - 0 = k.val
      rw [w2]; omega
  · rw [if_neg hle]
    refine dif_neg fun hin => hle ?_
    have h1 := (hin 1).1
    change 4111 ≤ j.val * 1 + ((⟨3, ![1, 4112, 1]⟩ : Shape).rowMajor.symm n 1).val at h1
    rw [w1] at h1
    omega

/-- The gather along a sequence reads the row its index names. -/
theorem gather_apply (x : FVec Ideal S4x4113x256 .f32) (idx : IVec S4112x1 32) (b : Fin 4) (j : Fin 4112) (k : Fin 256) (n : Fin 4113)
    (hi : idx (ix2 j 0) = BitVec.ofNat 32 n.val) :
    Host.gather gather_S4x4113x256_S4112x1_S4x4112x256_02_1_n_n_1_1_41256 x idx (ix3 b j k) = x (ix3 b n k) := by
  have hn : n.val < 4113 := n.isLt
  unfold Host.gather
  refine congrArg x (funext fun a => Fin.ext ?_)
  match a with
  | ⟨0, _⟩ =>
    show 0 + 0 + b.val = b.val
    omega
  | ⟨1, _⟩ =>
    have hs : gather_S4x4113x256_S4112x1_S4x4112x256_02_1_n_n_1_1_41256.siIdx (ix3 b j k) ⟨0, by decide⟩ = ix2 j 0 := by
      funext a
      match a with
      | ⟨0, _⟩ => rfl
      | ⟨1, _⟩ => rfl
    show min (idx (gather_S4x4113x256_S4112x1_S4x4112x256_02_1_n_n_1_1_41256.siIdx (ix3 b j k) ⟨0, by decide⟩)).toInt.toNat 4112 + 0 + 0 = n.val
    rw [hs, hi, toInt_small _ (by omega)]
    omega
  | ⟨2, _⟩ =>
    show 0 + 0 + k.val = k.val
    omega

end Cert.PoolRefIdeal.Rows
-- ==== Proof.PoolMean.lean ====
module
public import proofs.«01_k».proof.Proof.PoolSums
@[expose] public section
set_option maxRecDepth 16384
noncomputable section

/-! The plain pooling mixer's trailing means: where each window starts, how many rows it holds, and the mean as a quotient
of a difference of running sums. -/

namespace Cert.PoolRefIdeal.Rows
open Cert.PoolRefIdeal Cert.PoolRefIdeal.Gen Idealize.ShloMosaic Idealize.ShloMosaic.TcCoe Idealize.SL.Sem
open Cert.RowMath

/-- The first row of each row's window of `w` rows. -/
def loV (w : BitVec 32) : IVec S4112 32 :=
  maxsi (subi (addi (iotaInDim S4112 32 0) (broadcastInDim S4112 ![] bcast_S_S4112 (constantI S_ 32 1#32))) (broadcastInDim S4112 ![] bcast_S_S4112 (constantI S_ 32 w))) (broadcastInDim S4112 ![] bcast_S_S4112 (constantI S_ 32 0#32))

/-- That row as the gather's index, a negative one counted from the end. -/
def startV (w : BitVec 32) : IVec S4112x1 32 :=
  broadcastInDim S4112x1 ![0] bcast_S4112_S4112x1_0 (select (cmpi .slt (loV w) (broadcastInDim S4112 ![] bcast_S_S4112 (constantI S_ 32 0#32))) (addi (loV w) (broadcastInDim S4112 ![] bcast_S_S4112 (constantI S_ 32 4113#32))) (loV w))

/-- How many rows each row's window holds. -/
def cntV (w : BitVec 32) : FVec Ideal S4112 .f32 := sitofp .f32 (subi (addi (iotaInDim S4112 32 0) (broadcastInDim S4112 ![] bcast_S_S4112 (constantI S_ 32 1#32))) (loV w))

/-- From the sixteenth row on the window is whole. -/
theorem lo_apply (q : Fin 4) (a : Fin 4112) (ha : 16 ≤ a.val) : loV (BitVec.ofNat 32 (winOf q)) (ix1 a) = BitVec.ofNat 32 (a.val + 1 - winOf q) := by
  have hw : 1 ≤ winOf q ∧ winOf q ≤ 16 := by
    match q with
    | 0 | 1 | 2 | 3 => decide
  have ha' : a.val < 4112 := a.isLt
  generalize winOf q = w at hw ⊢
  have e : IntOp.subi (IntOp.addi (BitVec.ofNat 32 a.val) 1#32) (BitVec.ofNat 32 w) = BitVec.ofNat 32 (a.val + 1 - w) := by
    unfold IntOp.subi IntOp.addi
    apply BitVec.eq_of_toNat_eq
    simp only [BitVec.toNat_sub, BitVec.toNat_add, BitVec.toNat_ofNat]
    omega
  show IntOp.maxsi (IntOp.subi (IntOp.addi (BitVec.ofNat 32 a.val) 1#32) (BitVec.ofNat 32 w)) 0#32 = _
  rw [e]
  unfold IntOp.maxsi
  have h1 := toInt_small (a.val + 1 - w) (by omega)
  have h0 : (0#32 : BitVec 32).toInt = 0 := by decide
  simp only [BitVec.slt, BitVec.sle, h1, h0]
  split
  · rfl
  · next hh => simp at hh <;> omega

/-- The index the gather reads there. -/
theorem start_apply (q : Fin 4) (a : Fin 4112) (ha : 16 ≤ a.val) : startV (BitVec.ofNat 32 (winOf q)) (ix2 a 0) = BitVec.ofNat 32 (a.val + 1 - winOf q) := by
  have ha' : a.val < 4112 := a.isLt
  have hl := lo_apply q a ha
  unfold startV
  generalize loV (BitVec.ofNat 32 (winOf q)) = L at hl ⊢
  pointwise
  simp only [hl]
  unfold Scalar.select IntOp.cmpi
  have h1 := toInt_small (a.val + 1 - winOf q) (by omega)
  have h0 : (0#32 : BitVec 32).toInt = 0 := by decide
  simp only [BitVec.slt, h1, h0]
  rw [decide_eq_false (show ¬ ((a.val + 1 - winOf q : ℕ) : ℤ) < 0 by omega)]
  rfl

/-- The number of rows there. -/
theorem cnt_apply (q : Fin 4) (a : Fin 4112) (ha : 16 ≤ a.val) : cntV (BitVec.ofNat 32 (winOf q)) (ix1 a) = ((winOf q : ℝ) : EReal) := by
  have ha' : a.val < 4112 := a.isLt
  have hl := lo_apply q a ha
  unfold cntV
  generalize loV (BitVec.ofNat 32 (winOf q)) = L at hl ⊢
  have hw : 1 ≤ winOf q ∧ winOf q ≤ 16 := by
    match q with
    | 0 | 1 | 2 | 3 => decide
  show (((IntOp.subi (IntOp.addi (BitVec.ofNat 32 a.val) 1#32) (L (ix1 a))).toInt : ℝ) : EReal) = _
  rw [hl]
  have e : IntOp.subi (IntOp.addi (BitVec.ofNat 32 a.val) 1#32) (BitVec.ofNat 32 (a.val + 1 - winOf q)) = BitVec.ofNat 32 (winOf q) := by
    generalize winOf q = w at hw ⊢
    unfold IntOp.subi IntOp.addi
    apply BitVec.eq_of_toNat_eq
    simp only [BitVec.toNat_sub, BitVec.toNat_add, BitVec.toNat_ofNat]
    omega
  rw [e, toInt_small _ (by omega)]
  simp

/-- The mean of group 0 over windows of `w` rows. -/
def mean0 (C : FVec Ideal S4x4113x4x256 .f32) (w : BitVec 32) : FVec Ideal S4x4112x1x256 .f32 :=
  broadcastInDim S4x4112x1x256 ![0, 1, 3] bcast_S4x4112x256_S4x4112x1x256_0_1_3 (Host.divf (subf (shapeCast _ (extractStridedSlice S4x4112x1x256 ![0, 1, 0, 0] C slices_S4x4113x4x256_S4x4112x1x256_0_1_0_0) shapeCasts_S4x4112x1x256_S4x4112x256) (Host.gather gather_S4x4113x256_S4112x1_S4x4112x256_02_1_n_n_1_1_41256 (shapeCast _ (extractStridedSlice S4x4113x1x256 ![0, 0, 0, 0] C slices_S4x4113x4x256_S4x4113x1x256_0_0_0_0) shapeCasts_S4x4113x1x256_S4x4113x256) (startV w))) (broadcastInDim S4x4112x256 ![0, 1, 2] bcast_S1x4112x1_S4x4112x256_0_1_2 (broadcastInDim S1x4112x1 ![1] bcast_S4112_S1x4112x1_1 (cntV w))))

/-- That mean, entry by entry. -/
theorem mean0_apply (C : FVec Ideal S4x4113x4x256 .f32) (b : Fin 4) (a : Fin 4112) (ha : 16 ≤ a.val) (c : Fin 256) :
    mean0 C (BitVec.ofNat 32 (winOf 0)) (ix4 b a 0 c)
      = Ideal.div (C (ix4 b ⟨a.val + 1, by omega⟩ 0 c) - C (ix4 b ⟨a.val + 1 - winOf 0, by omega⟩ 0 c)) ((winOf 0 : ℝ) : EReal) := by
  have hs : (shapeCast _ (extractStridedSlice S4x4113x1x256 ![0, 0, 0, 0] C slices_S4x4113x4x256_S4x4113x1x256_0_0_0_0) shapeCasts_S4x4113x1x256_S4x4113x256) (ix3 b ⟨a.val + 1 - winOf 0, by omega⟩ c) = C (ix4 b ⟨a.val + 1 - winOf 0, by omega⟩ 0 c) := by pointwise
  have hg := gather_apply (shapeCast _ (extractStridedSlice S4x4113x1x256 ![0, 0, 0, 0] C slices_S4x4113x4x256_S4x4113x1x256_0_0_0_0) shapeCasts_S4x4113x1x256_S4x4113x256) (startV (BitVec.ofNat 32 (winOf 0))) b a c ⟨a.val + 1 - winOf 0, by omega⟩ (start_apply 0 a ha)
  rw [hs] at hg
  have hc := cnt_apply 0 a ha
  unfold mean0
  rw [← hg, ← hc]
  generalize cntV (BitVec.ofNat 32 (winOf 0)) = cv
  generalize Host.gather gather_S4x4113x256_S4112x1_S4x4112x256_02_1_n_n_1_1_41256 _ _ = gv
  pointwise
  simp only [Nat.add_comm 1 a.val]

/-- The mean of group 1 over windows of `w` rows. -/
def mean1 (C : FVec Ideal S4x4113x4x256 .f32) (w : BitVec 32) : FVec Ideal S4x4112x1x256 .f32 :=
  broadcastInDim S4x4112x1x256 ![0, 1, 3] bcast_S4x4112x256_S4x4112x1x256_0_1_3 (Host.divf (subf (shapeCast _ (extractStridedSlice S4x4112x1x256 ![0, 1, 1, 0] C slices_S4x4113x4x256_S4x4112x1x256_0_1_1_0) shapeCasts_S4x4112x1x256_S4x4112x256) (Host.gather gather_S4x4113x256_S4112x1_S4x4112x256_02_1_n_n_1_1_41256 (shapeCast _ (extractStridedSlice S4x4113x1x256 ![0, 0, 1, 0] C slices_S4x4113x4x256_S4x4113x1x256_0_0_1_0) shapeCasts_S4x4113x1x256_S4x4113x256) (startV w))) (broadcastInDim S4x4112x256 ![0, 1, 2] bcast_S1x4112x1_S4x4112x256_0_1_2 (broadcastInDim S1x4112x1 ![1] bcast_S4112_S1x4112x1_1 (cntV w))))

/-- That mean, entry by entry. -/
theorem mean1_apply (C : FVec Ideal S4x4113x4x256 .f32) (b : Fin 4) (a : Fin 4112) (ha : 16 ≤ a.val) (c : Fin 256) :
    mean1 C (BitVec.ofNat 32 (winOf 1)) (ix4 b a 0 c)
      = Ideal.div (C (ix4 b ⟨a.val + 1, by omega⟩ 1 c) - C (ix4 b ⟨a.val + 1 - winOf 1, by omega⟩ 1 c)) ((winOf 1 : ℝ) : EReal) := by
  have hs : (shapeCast _ (extractStridedSlice S4x4113x1x256 ![0, 0, 1, 0] C slices_S4x4113x4x256_S4x4113x1x256_0_0_1_0) shapeCasts_S4x4113x1x256_S4x4113x256) (ix3 b ⟨a.val + 1 - winOf 1, by omega⟩ c) = C (ix4 b ⟨a.val + 1 - winOf 1, by omega⟩ 1 c) := by pointwise
  have hg := gather_apply (shapeCast _ (extractStridedSlice S4x4113x1x256 ![0, 0, 1, 0] C slices_S4x4113x4x256_S4x4113x1x256_0_0_1_0) shapeCasts_S4x4113x1x256_S4x4113x256) (startV (BitVec.ofNat 32 (winOf 1))) b a c ⟨a.val + 1 - winOf 1, by omega⟩ (start_apply 1 a ha)
  rw [hs] at hg
  have hc := cnt_apply 1 a ha
  unfold mean1
  rw [← hg, ← hc]
  generalize cntV (BitVec.ofNat 32 (winOf 1)) = cv
  generalize Host.gather gather_S4x4113x256_S4112x1_S4x4112x256_02_1_n_n_1_1_41256 _ _ = gv
  pointwise
  simp only [Nat.add_comm 1 a.val]

/-- The mean of group 2 over windows of `w` rows. -/
def mean2 (C : FVec Ideal S4x4113x4x256 .f32) (w : BitVec 32) : FVec Ideal S4x4112x1x256 .f32 :=
  broadcastInDim S4x4112x1x256 ![0, 1, 3] bcast_S4x4112x256_S4x4112x1x256_0_1_3 (Host.divf (subf (shapeCast _ (extractStridedSlice S4x4112x1x256 ![0, 1, 2, 0] C slices_S4x4113x4x256_S4x4112x1x256_0_1_2_0) shapeCasts_S4x4112x1x256_S4x4112x256) (Host.gather gather_S4x4113x256_S4112x1_S4x4112x256_02_1_n_n_1_1_41256 (shapeCast _ (extractStridedSlice S4x4113x1x256 ![0, 0, 2, 0] C slices_S4x4113x4x256_S4x4113x1x256_0_0_2_0) shapeCasts_S4x4113x1x256_S4x4113x256) (startV w))) (broadcastInDim S4x4112x256 ![0, 1, 2] bcast_S1x4112x1_S4x4112x256_0_1_2 (broadcastInDim S1x4112x1 ![1] bcast_S4112_S1x4112x1_1 (cntV w))))

/-- That mean, entry by entry. -/
theorem mean2_apply (C : FVec Ideal S4x4113x4x256 .f32) (b : Fin 4) (a : Fin 4112) (ha : 16 ≤ a.val) (c : Fin 256) :
    mean2 C (BitVec.ofNat 32 (winOf 2)) (ix4 b a 0 c)
      = Ideal.div (C (ix4 b ⟨a.val + 1, by omega⟩ 2 c) - C (ix4 b ⟨a.val + 1 - winOf 2, by omega⟩ 2 c)) ((winOf 2 : ℝ) : EReal) := by
  have hs : (shapeCast _ (extractStridedSlice S4x4113x1x256 ![0, 0, 2, 0] C slices_S4x4113x4x256_S4x4113x1x256_0_0_2_0) shapeCasts_S4x4113x1x256_S4x4113x256) (ix3 b ⟨a.val + 1 - winOf 2, by omega⟩ c) = C (ix4 b ⟨a.val + 1 - winOf 2, by omega⟩ 2 c) := by pointwise
  have hg := gather_apply (shapeCast _ (extractStridedSlice S4x4113x1x256 ![0, 0, 2, 0] C slices_S4x4113x4x256_S4x4113x1x256_0_0_2_0) shapeCasts_S4x4113x1x256_S4x4113x256) (startV (BitVec.ofNat 32 (winOf 2))) b a c ⟨a.val + 1 - winOf 2, by omega⟩ (start_apply 2 a ha)
  rw [hs] at hg
  have hc := cnt_apply 2 a ha
  unfold mean2
  rw [← hg, ← hc]
  generalize cntV (BitVec.ofNat 32 (winOf 2)) = cv
  generalize Host.gather gather_S4x4113x256_S4112x1_S4x4112x256_02_1_n_n_1_1_41256 _ _ = gv
  pointwise
  simp only [Nat.add_comm 1 a.val]

/-- The mean of group 3 over windows of `w` rows. -/
def mean3 (C : FVec Ideal S4x4113x4x256 .f32) (w : BitVec 32) : FVec Ideal S4x4112x1x256 .f32 :=
  broadcastInDim S4x4112x1x256 ![0, 1, 3] bcast_S4x4112x256_S4x4112x1x256_0_1_3 (Host.divf (subf (shapeCast _ (extractStridedSlice S4x4112x1x256 ![0, 1, 3, 0] C slices_S4x4113x4x256_S4x4112x1x256_0_1_3_0) shapeCasts_S4x4112x1x256_S4x4112x256) (Host.gather gather_S4x4113x256_S4112x1_S4x4112x256_02_1_n_n_1_1_41256 (shapeCast _ (extractStridedSlice S4x4113x1x256 ![0, 0, 3, 0] C slices_S4x4113x4x256_S4x4113x1x256_0_0_3_0) shapeCasts_S4x4113x1x256_S4x4113x256) (startV w))) (broadcastInDim S4x4112x256 ![0, 1, 2] bcast_S1x4112x1_S4x4112x256_0_1_2 (broadcastInDim S1x4112x1 ![1] bcast_S4112_S1x4112x1_1 (cntV w))))

/-- That mean, entry by entry. -/
theorem mean3_apply (C : FVec Ideal S4x4113x4x256 .f32) (b : Fin 4) (a : Fin 4112) (ha : 16 ≤ a.val) (c : Fin 256) :
    mean3 C (BitVec.ofNat 32 (winOf 3)) (ix4 b a 0 c)
      = Ideal.div (C (ix4 b ⟨a.val + 1, by omega⟩ 3 c) - C (ix4 b ⟨a.val + 1 - winOf 3, by omega⟩ 3 c)) ((winOf 3 : ℝ) : EReal) := by
  have hs : (shapeCast _ (extractStridedSlice S4x4113x1x256 ![0, 0, 3, 0] C slices_S4x4113x4x256_S4x4113x1x256_0_0_3_0) shapeCasts_S4x4113x1x256_S4x4113x256) (ix3 b ⟨a.val + 1 - winOf 3, by omega⟩ c) = C (ix4 b ⟨a.val + 1 - winOf 3, by omega⟩ 3 c) := by pointwise
  have hg := gather_apply (shapeCast _ (extractStridedSlice S4x4113x1x256 ![0, 0, 3, 0] C slices_S4x4113x4x256_S4x4113x1x256_0_0_3_0) shapeCasts_S4x4113x1x256_S4x4113x256) (startV (BitVec.ofNat 32 (winOf 3))) b a c ⟨a.val + 1 - winOf 3, by omega⟩ (start_apply 3 a ha)
  rw [hs] at hg
  have hc := cnt_apply 3 a ha
  unfold mean3
  rw [← hg, ← hc]
  generalize cntV (BitVec.ofNat 32 (winOf 3)) = cv
  generalize Host.gather gather_S4x4113x256_S4112x1_S4x4112x256_02_1_n_n_1_1_41256 _ _ = gv
  pointwise
  simp only [Nat.add_comm 1 a.val]

/-- The four means side by side. -/
theorem stack_apply (M0 M1 M2 M3 : FVec Ideal S4x4112x1x256 .f32) (b : Fin 4) (a : Fin 4112) (c : Fin 256) :
    (concatenate S4x4112x4x256 2 [⟨S4x4112x1x256, M0⟩, ⟨S4x4112x1x256, M1⟩, ⟨S4x4112x1x256, M2⟩, ⟨S4x4112x1x256, M3⟩] concatenates_S4x4112x1x256_S4x4112x1x256_S4x4112x1x256_S4x4112x1x256_S4x4112x4x256_d2 (ix4 b a 0 c) = M0 (ix4 b a 0 c))
    ∧ (concatenate S4x4112x4x256 2 [⟨S4x4112x1x256, M0⟩, ⟨S4x4112x1x256, M1⟩, ⟨S4x4112x1x256, M2⟩, ⟨S4x4112x1x256, M3⟩] concatenates_S4x4112x1x256_S4x4112x1x256_S4x4112x1x256_S4x4112x1x256_S4x4112x4x256_d2 (ix4 b a 1 c) = M1 (ix4 b a 0 c))
    ∧ (concatenate S4x4112x4x256 2 [⟨S4x4112x1x256, M0⟩, ⟨S4x4112x1x256, M1⟩, ⟨S4x4112x1x256, M2⟩, ⟨S4x4112x1x256, M3⟩] concatenates_S4x4112x1x256_S4x4112x1x256_S4x4112x1x256_S4x4112x1x256_S4x4112x4x256_d2 (ix4 b a 2 c) = M2 (ix4 b a 0 c))
    ∧ (concatenate S4x4112x4x256 2 [⟨S4x4112x1x256, M0⟩, ⟨S4x4112x1x256, M1⟩, ⟨S4x4112x1x256, M2⟩, ⟨S4x4112x1x256, M3⟩] concatenates_S4x4112x1x256_S4x4112x1x256_S4x4112x1x256_S4x4112x1x256_S4x4112x4x256_d2 (ix4 b a 3 c) = M3 (ix4 b a 0 c)) := by
  refine ⟨?_, ?_, ?_, ?_⟩ <;> pointwise

/-- Each entry of the means is a quotient of a difference of running sums. -/
theorem means_apply (C : FVec Ideal S4x4113x4x256 .f32) (b : Fin 4) (a : Fin 4112) (ha : 16 ≤ a.val) (q : Fin 4) (c : Fin 256) :
    concatenate S4x4112x4x256 2 [⟨S4x4112x1x256, mean0 C 2#32⟩, ⟨S4x4112x1x256, mean1 C 4#32⟩, ⟨S4x4112x1x256, mean2 C 8#32⟩, ⟨S4x4112x1x256, mean3 C 16#32⟩] concatenates_S4x4112x1x256_S4x4112x1x256_S4x4112x1x256_S4x4112x1x256_S4x4112x4x256_d2 (ix4 b a q c)
      = Ideal.div (C (ix4 b ⟨a.val + 1, by omega⟩ q c) - C (ix4 b ⟨a.val + 1 - winOf q, by omega⟩ q c)) ((winOf q : ℝ) : EReal) := by
  have h := stack_apply (mean0 C 2#32) (mean1 C 4#32) (mean2 C 8#32) (mean3 C 16#32) b a c
  match q with
  | 0 => exact h.1.trans (mean0_apply C b a ha c)
  | 1 => exact h.2.1.trans (mean1_apply C b a ha c)
  | 2 => exact h.2.2.1.trans (mean2_apply C b a ha c)
  | 3 => exact h.2.2.2.trans (mean3_apply C b a ha c)

end Cert.PoolRefIdeal.Rows
-- ==== Proof.PoolSteps.lean ====
module
public import proofs.«01_k».proof.Proof.PoolSums
@[expose] public section
set_option maxRecDepth 16384
noncomputable section

/-! The plain pooling and feed-forward call's own steps, each read one row at a time. -/

namespace Cert.PoolRefIdeal.Rows
open Cert.PoolRefIdeal Cert.PoolRefIdeal.Gen Idealize.ShloMosaic Idealize.ShloMosaic.TcCoe Idealize.SL.Sem
open Cert.RowMath

/-- The meta rows in front of each sequence. -/
theorem cat_apply (H : FVec Ideal S16384x1024 .f32) (P : FVec Ideal S16x1024 .f32) (b : Fin 4) (a : Fin 4112) (k : Fin 1024) :
    concatenate S4x4112x1024 1 [⟨S4x16x1024, (broadcastInDim S4x16x1024 ![0, 1, 2] bcast_S1x16x1024_S4x16x1024_0_1_2 (broadcastInDim S1x16x1024 ![1, 2] bcast_S16x1024_S1x16x1024_1_2 P))⟩, ⟨S4x4096x1024, (shapeCast _ H shapeCasts_S16384x1024_S4x4096x1024)⟩] concatenates_S4x16x1024_S4x4096x1024_S4x4112x1024_d1 (ix3 b a k)
      = seqRow (fun a k => P (ix2 a k)) (fun r k => H (ix2 r k)) b.val a.val k := by
  have ha : a.val < 4112 := a.isLt
  have hb : b.val < 4 := b.isLt
  unfold seqRow
  pointwise
  by_cases h16 : a.val < 16
  · simp only [h16, dif_pos, dite_true]
  · simp only [h16, dif_neg, dite_false, not_false_iff]
    rw [dif_pos (show b.val * 4096 + (a.val - 16) < 16384 by omega)]

/-- The normalized rows. -/
theorem norm_apply (X : FVec Ideal S4x4112x1024 .f32) (G : FVec Ideal S2x1024 .f32) (b : Fin 4) (a : Fin 4112) (j : Fin 1024) :
    (mulf (mulf X (broadcastInDim S4x4112x1024 ![0, 1, 2] bcast_S4x4112x1_S4x4112x1024_0_1_2 (Host.rsqrt (addf (Host.divf (broadcastInDim S4x4112x1 ![0, 1] bcast_S4x4112_S4x4112x1_0_1 (Host.reduceAdd (mulf X X) (constant S_ .f32 0x00000000#32) reducesTo_S4x4112x1024_S4x4112_d2 h_S_)) (broadcastInDim S4x4112x1 ![] bcast_S_S4x4112x1 (constant S_ .f32 0x44800000#32))) (broadcastInDim S4x4112x1 ![] bcast_S_S4x4112x1 (constant S_ .f32 0x358637BD#32)))))) (broadcastInDim S4x4112x1024 ![0, 1, 2] bcast_S1x1x1024_S4x4112x1024_0_1_2 (broadcastInDim S1x1x1024 ![2] bcast_S1024_S1x1x1024_2 (shapeCast _ (extractStridedSlice S1x1024 ![0, 0] G slices_S2x1024_S1x1024_0_0) shapeCasts_S1x1024_S1024))) : FVec Ideal S4x4112x1024 .f32) (ix3 b a j)
      = nrm (fun k => X (ix3 b a k)) (fun k => G (ix2 0 k)) j := by
  pointwise
  rfl

/-- The running sums, a row of zeros in front. -/
theorem sums_apply (S : FVec Ideal S4x4112x1024 .f32) (b : Fin 4) (n : Fin 4113) (q : Fin 4) (c : Fin 256) :
    (shapeCast _ (pad S4x4113x1024 ![0, 1, 0] ![0, 0, 0] ![0, 0, 0] (Host.reduceWindowAdd ![1, 4112, 1] ![1, 1, 1] ![0, 4111, 0] ![0, 0, 0] S (broadcastInDim S_ ![] bcast_S_S_ (constant S_ .f32 0x00000000#32)) reduceWindows_S4x4112x1024_S4x4112x1024_w1s1p0_0_w4112s1p4111_0_w1s1p0_0 h_S_) (sitofp .f32 (constantI S_ 32 0#32)) pads_S4x4112x1024_S4x4113x1024_000_100_000 h_S_) shapeCasts_S4x4113x1024_S4x4113x4x256 : FVec Ideal S4x4113x4x256 .f32) (ix4 b n q c)
      = ∑ s ∈ Finset.range n.val, rowAt S b (col q c) s := by
  have hR := cumsum_apply S (broadcastInDim S_ ![] bcast_S_S_ (constant S_ .f32 0x00000000#32)) (by pointwise) b
  generalize Host.reduceWindowAdd ![1, 4112, 1] ![1, 1, 1] ![0, 4111, 0] ![0, 0, 0] S _ _ _ = R at hR ⊢
  have hn : n.val < 4113 := n.isLt
  pointwise
  have hq : q.val < 4 := q.isLt
  have hc : c.val < 256 := c.isLt
  by_cases h : 1 ≤ n.val
  · rw [dif_pos ⟨⟨h, by omega⟩, by omega⟩]
    refine (hR ⟨n.val - 1, by omega⟩ ⟨q.val * 256 + c.val, by omega⟩).trans ?_
    show ∑ s ∈ Finset.range (n.val - 1 + 1), _ = _
    rw [show n.val - 1 + 1 = n.val by omega, show (⟨q.val * 256 + c.val, by omega⟩ : Fin 1024) = col q c from Fin.ext (by show q.val * 256 + c.val = 256 * q.val + c.val; omega)]
  · rw [dif_neg fun hh => h hh.1.1, show n.val = 0 by omega, Finset.sum_range_zero]
    show (((0#32 : BitVec 32).toInt : ℝ) : EReal) = 0
    simp

/-- The mixer's linear map on the means less the rows. -/
theorem linear_apply (W : FVec Ideal S1x4x256x256 .f32) (M : FVec Ideal S4x4112x4x256 .f32) (S : FVec Ideal S4x4112x1024 .f32) (B : FVec Ideal S1x4x256 .f32) (sc : FVec Ideal S1x1024 .f32)
    (b : Fin 4) (a : Fin 4112) (j : Fin 1024) :
    (mulf (shapeCast _ (addf (transpose S4x4112x4x256 [2, 3, 0, 1] (Host.dotGeneral dot_S4x256x256_S4x4112x4x256_S4x256x4x4112_1_3_2_01_0_2 none (shapeCast _ W shapeCasts_S1x4x256x256_S4x256x256) (subf M (shapeCast _ S shapeCasts_S4x4112x1024_S4x4112x4x256))) transposes_S4x256x4x4112_S4x4112x4x256_2_3_0_1) (broadcastInDim S4x4112x4x256 ![0, 1, 2, 3] bcast_S1x1x4x256_S4x4112x4x256_0_1_2_3 (broadcastInDim S1x1x4x256 ![2, 3] bcast_S4x256_S1x1x4x256_2_3 (shapeCast _ B shapeCasts_S1x4x256_S4x256)))) shapeCasts_S4x4112x4x256_S4x4112x1024) (broadcastInDim S4x4112x1024 ![0, 1, 2] bcast_S1x1x1024_S4x4112x1024_0_1_2 (broadcastInDim S1x1x1024 ![2] bcast_S1024_S1x1x1024_2 (shapeCast _ sc shapeCasts_S1x1024_S1024))) : FVec Ideal S4x4112x1024 .f32) (ix3 b a j)
      = ((∑ c : Fin 256, W (ix4 0 (grp j) c (lane j)) * (M (ix4 b a (grp j) c) - S (ix3 b a (col (grp j) c)))) + B (ix3 0 (grp j) (lane j))) * sc (ix2 0 j) := by
  pointwise
  simp only [Nat.mul_comm (j.val / 256) 256]
  rfl

/-- The rows with the mixer's rows, normalized, added. -/
theorem mix_apply (X Y : FVec Ideal S4x4112x1024 .f32) (G : FVec Ideal S2x1024 .f32) (b : Fin 4) (a : Fin 4112) (j : Fin 1024) :
    (addf X (mulf (mulf Y (broadcastInDim S4x4112x1024 ![0, 1, 2] bcast_S4x4112x1_S4x4112x1024_0_1_2 (Host.rsqrt (addf (Host.divf (broadcastInDim S4x4112x1 ![0, 1] bcast_S4x4112_S4x4112x1_0_1 (Host.reduceAdd (mulf Y Y) (constant S_ .f32 0x00000000#32) reducesTo_S4x4112x1024_S4x4112_d2 h_S_)) (broadcastInDim S4x4112x1 ![] bcast_S_S4x4112x1 (constant S_ .f32 0x44800000#32))) (broadcastInDim S4x4112x1 ![] bcast_S_S4x4112x1 (constant S_ .f32 0x358637BD#32)))))) (broadcastInDim S4x4112x1024 ![0, 1, 2] bcast_S1x1x1024_S4x4112x1024_0_1_2 (broadcastInDim S1x1x1024 ![2] bcast_S1024_S1x1x1024_2 (shapeCast _ (extractStridedSlice S1x1024 ![0, 0] G slices_S2x1024_S1x1024_0_0) shapeCasts_S1x1024_S1024)))) : FVec Ideal S4x4112x1024 .f32) (ix3 b a j)
      = X (ix3 b a j) + nrm (fun k => Y (ix3 b a k)) (fun k => G (ix2 0 k)) j := by
  pointwise
  rfl

/-- The rows normalized for the feed-forward. -/
theorem pre_apply (X : FVec Ideal S4x4112x1024 .f32) (G : FVec Ideal S2x2x1024 .f32) (b : Fin 4) (a : Fin 4112) (j : Fin 1024) :
    (mulf (mulf X (broadcastInDim S4x4112x1024 ![0, 1, 2] bcast_S4x4112x1_S4x4112x1024_0_1_2 (Host.rsqrt (addf (Host.divf (broadcastInDim S4x4112x1 ![0, 1] bcast_S4x4112_S4x4112x1_0_1 (Host.reduceAdd (mulf X X) (constant S_ .f32 0x00000000#32) reducesTo_S4x4112x1024_S4x4112_d2 h_S_)) (broadcastInDim S4x4112x1 ![] bcast_S_S4x4112x1 (constant S_ .f32 0x44800000#32))) (broadcastInDim S4x4112x1 ![] bcast_S_S4x4112x1 (constant S_ .f32 0x358637BD#32)))))) (broadcastInDim S4x4112x1024 ![0, 1, 2] bcast_S1x1x1024_S4x4112x1024_0_1_2 (broadcastInDim S1x1x1024 ![2] bcast_S1024_S1x1x1024_2 (shapeCast _ (extractStridedSlice S1x1x1024 ![0, 1, 0] G slices_S2x2x1024_S1x1x1024_0_1_0) shapeCasts_S1x1x1024_S1024))) : FVec Ideal S4x4112x1024 .f32) (ix3 b a j)
      = nrm (fun k => X (ix3 b a k)) (fun k => G (ix3 0 1 k)) j := by
  pointwise
  rfl

/-- The feed-forward of normalized rows. -/
theorem mid_apply (Z : FVec Ideal S4x4112x1024 .f32) (w1 w3 : FVec Ideal S2x2x1024x2816 .f32) (w2 : FVec Ideal S2x2x2816x1024 .f32) (b : Fin 4) (a : Fin 4112) (j : Fin 1024) :
    (Host.dotGeneral dot_S4x4112x2816_S2816x1024_S4x4112x1024_2_0_01_1_n_n none (mulf (mulf (Host.dotGeneral dot_S4x4112x1024_S1024x2816_S4x4112x2816_2_0_01_1_n_n none Z (shapeCast _ (extractStridedSlice S1x1x1024x2816 ![0, 1, 0, 0] w1 slices_S2x2x1024x2816_S1x1x1024x2816_0_1_0_0) shapeCasts_S1x1x1024x2816_S1024x2816)) (Host.divf (broadcastInDim S4x4112x2816 ![] bcast_S_S4x4112x2816 (constant S_ .f32 0x3F800000#32)) (addf (broadcastInDim S4x4112x2816 ![] bcast_S_S4x4112x2816 (constant S_ .f32 0x3F800000#32)) (Host.exp (Host.negf (Host.dotGeneral dot_S4x4112x1024_S1024x2816_S4x4112x2816_2_0_01_1_n_n none Z (shapeCast _ (extractStridedSlice S1x1x1024x2816 ![0, 1, 0, 0] w1 slices_S2x2x1024x2816_S1x1x1024x2816_0_1_0_0) shapeCasts_S1x1x1024x2816_S1024x2816))))))) (Host.dotGeneral dot_S4x4112x1024_S1024x2816_S4x4112x2816_2_0_01_1_n_n none Z (shapeCast _ (extractStridedSlice S1x1x1024x2816 ![0, 1, 0, 0] w3 slices_S2x2x1024x2816_S1x1x1024x2816_0_1_0_0) shapeCasts_S1x1x1024x2816_S1024x2816))) (shapeCast _ (extractStridedSlice S1x1x2816x1024 ![0, 1, 0, 0] w2 slices_S2x2x2816x1024_S1x1x2816x1024_0_1_0_0) shapeCasts_S1x1x2816x1024_S2816x1024) : FVec Ideal S4x4112x1024 .f32) (ix3 b a j)
      = mix (fun c => gate (∑ k : Fin 1024, Z (ix3 b a k) * w1 (ix4 0 1 k c)) (∑ k : Fin 1024, Z (ix3 b a k) * w3 (ix4 0 1 k c))) (fun c k => w2 (ix4 0 1 c k)) j := by
  pointwise
  rfl

/-- The residual update, the meta rows dropped. -/
theorem end_apply (X f : FVec Ideal S4x4112x1024 .f32) (G : FVec Ideal S2x2x1024 .f32) (r : Fin 16384) (j : Fin 1024) :
    (shapeCast _ (extractStridedSlice S4x4096x1024 ![0, 16, 0] (addf X (mulf (broadcastInDim S4x4112x1024 ![] bcast_S_S4x4112x1024 (constant S_ .f32 0x3F000000#32)) (mulf (mulf f (broadcastInDim S4x4112x1024 ![0, 1, 2] bcast_S4x4112x1_S4x4112x1024_0_1_2 (Host.rsqrt (addf (Host.divf (broadcastInDim S4x4112x1 ![0, 1] bcast_S4x4112_S4x4112x1_0_1 (Host.reduceAdd (mulf f f) (constant S_ .f32 0x00000000#32) reducesTo_S4x4112x1024_S4x4112_d2 h_S_)) (broadcastInDim S4x4112x1 ![] bcast_S_S4x4112x1 (constant S_ .f32 0x44800000#32))) (broadcastInDim S4x4112x1 ![] bcast_S_S4x4112x1 (constant S_ .f32 0x358637BD#32)))))) (broadcastInDim S4x4112x1024 ![0, 1, 2] bcast_S1x1x1024_S4x4112x1024_0_1_2 (broadcastInDim S1x1x1024 ![2] bcast_S1024_S1x1x1024_2 (shapeCast _ (extractStridedSlice S1x1x1024 ![0, 1, 0] G slices_S2x2x1024_S1x1x1024_0_1_0) shapeCasts_S1x1x1024_S1024)))))) slices_S4x4112x1024_S4x4096x1024_0_16_0) shapeCasts_S4x4096x1024_S16384x1024 : FVec Ideal S16384x1024 .f32) (ix2 r j)
      = addNorm (fun k => X (ix3 ⟨r.val / 4096, by omega⟩ ⟨16 + r.val % 4096, by omega⟩ k)) (fun k => G (ix3 0 1 k))
          (fun k => f (ix3 ⟨r.val / 4096, by omega⟩ ⟨16 + r.val % 4096, by omega⟩ k)) j := by
  pointwise
  rfl

end Cert.PoolRefIdeal.Rows
-- ==== Proof.PoolRef.lean ====
module
public import proofs.«01_k».proof.Proof.PoolMean
public import proofs.«01_k».proof.Proof.PoolSteps
@[expose] public section
set_option maxRecDepth 16384
noncomputable section

/-! The plain pooling and feed-forward call, read one row at a time. -/

namespace Cert.PoolRefIdeal.Rows
open Cert.PoolRefIdeal Cert.PoolRefIdeal.Gen Idealize.ShloMosaic Idealize.ShloMosaic.TcCoe Idealize.SL.Sem Idealize.ShloMosaic.StableHlo
open Cert.RowMath Cert.PoolRefIdeal.Value
variable (V0 : Valuation τ sig (Elt Ideal))

/-- A row of the sequences with the meta rows in front. -/
theorem row3 (b : Fin 4) (a : Fin 4112) (k : Fin 1024) : (res_main_v3 V0 : FVec Ideal S4x4112x1024 .f32) (ix3 b a k) = seqRow (fun a k => (V0 (Proc.devRef .tc main_arg1) : FVec Ideal S16x1024 .f32) (ix2 a k)) (fun r k => (V0 (Proc.devRef .tc main_arg0) : FVec Ideal S16384x1024 .f32) (ix2 r k)) b.val a.val k := by
  unfold res_main_v3
  exact cat_apply _ _ b a k

/-- That row, normalized. -/
theorem row18 (b : Fin 4) (a : Fin 4112) (k : Fin 1024) : (res_main_v18 V0 : FVec Ideal S4x4112x1024 .f32) (ix3 b a k) = nrm (seqRow (fun a k => (V0 (Proc.devRef .tc main_arg1) : FVec Ideal S16x1024 .f32) (ix2 a k)) (fun r k => (V0 (Proc.devRef .tc main_arg0) : FVec Ideal S16384x1024 .f32) (ix2 r k)) b.val a.val) (fun k => (V0 (Proc.devRef .tc main_arg2) : FVec Ideal S2x1024 .f32) (ix2 0 k)) k := by
  unfold res_main_v18
  refine (norm_apply (res_main_v3 V0) _ b a k).trans ?_
  rw [show (fun k => (res_main_v3 V0 : FVec Ideal S4x4112x1024 .f32) (ix3 b a k)) = seqRow (fun a k => (V0 (Proc.devRef .tc main_arg1) : FVec Ideal S16x1024 .f32) (ix2 a k)) (fun r k => (V0 (Proc.devRef .tc main_arg0) : FVec Ideal S16384x1024 .f32) (ix2 r k)) b.val a.val from funext fun k => row3 V0 b a k]

/-- Every normalized entry is a real number. -/
theorem row_fin (hG : ∀ k : Fin 1024, ∃ r : ℝ, (V0 (Proc.devRef .tc main_arg2) : FVec Ideal S2x1024 .f32) (ix2 0 k) = (r : EReal)) (b : Fin 4) (k : Fin 1024) (s : ℕ) : ∃ v : ℝ, rowAt (res_main_v18 V0) b k s = (v : EReal) := by
  unfold rowAt
  by_cases h : s < 4112
  · obtain ⟨r, hr⟩ := hG k
    obtain ⟨v, hv⟩ := nrm_fin (seqRow (fun a k => (V0 (Proc.devRef .tc main_arg1) : FVec Ideal S16x1024 .f32) (ix2 a k)) (fun r k => (V0 (Proc.devRef .tc main_arg0) : FVec Ideal S16384x1024 .f32) (ix2 r k)) b.val s) (fun k => (V0 (Proc.devRef .tc main_arg2) : FVec Ideal S2x1024 .f32) (ix2 0 k)) k hr
    exact ⟨v, by rw [dif_pos h]; exact (row18 V0 b ⟨s, h⟩ k).trans hv⟩
  · exact ⟨0, by rw [dif_neg h]; rfl⟩

/-- The trailing mean, as the sum over the window times one over its length. -/
theorem row131 (hG : ∀ k : Fin 1024, ∃ r : ℝ, (V0 (Proc.devRef .tc main_arg2) : FVec Ideal S2x1024 .f32) (ix2 0 k) = (r : EReal)) (b : Fin 4) (a : Fin 4112) (ha : 16 ≤ a.val) (q : Fin 4) (c : Fin 256) : (res_main_v131 V0 : FVec Ideal S4x4112x4x256 .f32) (ix4 b a q c)
    = (∑ t ∈ Finset.range (winOf q), nrm (seqRow (fun a k => (V0 (Proc.devRef .tc main_arg1) : FVec Ideal S16x1024 .f32) (ix2 a k)) (fun r k => (V0 (Proc.devRef .tc main_arg0) : FVec Ideal S16384x1024 .f32) (ix2 r k)) b.val (a.val - t)) (fun k => (V0 (Proc.devRef .tc main_arg2) : FVec Ideal S2x1024 .f32) (ix2 0 k)) (col q c)) * ((1 / (winOf q : ℝ) : ℝ) : EReal) := by
  have ha' : a.val < 4112 := a.isLt
  have hw : winOf q ≤ 16 := by
    match q with
    | 0 | 1 | 2 | 3 => decide
  refine (show _ = _ from means_apply (res_main_v25 V0) b a ha q c).trans ?_
  have hs : ∀ n : Fin 4113, (res_main_v25 V0 : FVec Ideal S4x4113x4x256 .f32) (ix4 b n q c) = ∑ s ∈ Finset.range n.val, rowAt (res_main_v18 V0) b (col q c) s := fun n => by
    unfold res_main_v25
    exact sums_apply _ b n q c
  rw [hs, hs]
  show Ideal.div (∑ s ∈ Finset.range (a.val + 1), rowAt (res_main_v18 V0) b (col q c) s - ∑ s ∈ Finset.range (a.val + 1 - winOf q), rowAt (res_main_v18 V0) b (col q c) s) _ = _
  rw [sum_sub_sum _ (row_fin V0 hG b (col q c)) a.val (winOf q) (by omega), div_win]
  refine congrArg (· * ((1 / (winOf q : ℝ) : ℝ) : EReal)) (Finset.sum_congr rfl fun t _ => ?_)
  unfold rowAt
  rw [dif_pos (show a.val - t < 4112 by omega)]
  exact row18 V0 b ⟨a.val - t, by omega⟩ (col q c)

/-- The mixer's row. -/
theorem row141 (hG : ∀ k : Fin 1024, ∃ r : ℝ, (V0 (Proc.devRef .tc main_arg2) : FVec Ideal S2x1024 .f32) (ix2 0 k) = (r : EReal)) (b : Fin 4) (a : Fin 4112) (ha : 16 ≤ a.val) (k : Fin 1024) : (res_main_v141 V0 : FVec Ideal S4x4112x1024 .f32) (ix3 b a k)
    = poolRow (fun s => seqRow (fun a k => (V0 (Proc.devRef .tc main_arg1) : FVec Ideal S16x1024 .f32) (ix2 a k)) (fun r k => (V0 (Proc.devRef .tc main_arg0) : FVec Ideal S16384x1024 .f32) (ix2 r k)) b.val (a.val - s)) (fun k => (V0 (Proc.devRef .tc main_arg2) : FVec Ideal S2x1024 .f32) (ix2 0 k)) (fun q k l => (V0 (Proc.devRef .tc main_arg4) : FVec Ideal S1x4x256x256 .f32) (ix4 0 q k l)) (fun k => (V0 (Proc.devRef .tc main_arg5) : FVec Ideal S1x4x256 .f32) (ix3 0 (grp k) (lane k))) (fun k => (V0 (Proc.devRef .tc main_arg6) : FVec Ideal S1x1024 .f32) (ix2 0 k)) k := by
  unfold res_main_v141
  refine (linear_apply _ (res_main_v131 V0) (res_main_v18 V0) _ _ b a k).trans ?_
  unfold poolRow poolGrp
  simp only [row131 V0 hG b a ha, row18, col_grp]
  refine congrArg (· * _) (congrArg₂ (· + ·) (Finset.sum_congr rfl fun c _ => mul_comm _ _) ?_)
  rfl

/-- The row after the mixer. -/
theorem row157 (hG : ∀ k : Fin 1024, ∃ r : ℝ, (V0 (Proc.devRef .tc main_arg2) : FVec Ideal S2x1024 .f32) (ix2 0 k) = (r : EReal)) (b : Fin 4) (a : Fin 4112) (ha : 16 ≤ a.val) (k : Fin 1024) : (res_main_v157 V0 : FVec Ideal S4x4112x1024 .f32) (ix3 b a k)
    = poolMix (fun s => seqRow (fun a k => (V0 (Proc.devRef .tc main_arg1) : FVec Ideal S16x1024 .f32) (ix2 a k)) (fun r k => (V0 (Proc.devRef .tc main_arg0) : FVec Ideal S16384x1024 .f32) (ix2 r k)) b.val (a.val - s)) (fun k => (V0 (Proc.devRef .tc main_arg2) : FVec Ideal S2x1024 .f32) (ix2 0 k)) (fun q k l => (V0 (Proc.devRef .tc main_arg4) : FVec Ideal S1x4x256x256 .f32) (ix4 0 q k l)) (fun k => (V0 (Proc.devRef .tc main_arg5) : FVec Ideal S1x4x256 .f32) (ix3 0 (grp k) (lane k))) (fun k => (V0 (Proc.devRef .tc main_arg6) : FVec Ideal S1x1024 .f32) (ix2 0 k)) (fun k => (V0 (Proc.devRef .tc main_arg3) : FVec Ideal S2x1024 .f32) (ix2 0 k)) k := by
  unfold res_main_v157
  refine (mix_apply (res_main_v3 V0) (res_main_v141 V0) _ b a k).trans ?_
  unfold poolMix
  rw [show (fun k => (res_main_v141 V0 : FVec Ideal S4x4112x1024 .f32) (ix3 b a k)) = poolRow (fun s => seqRow (fun a k => (V0 (Proc.devRef .tc main_arg1) : FVec Ideal S16x1024 .f32) (ix2 a k)) (fun r k => (V0 (Proc.devRef .tc main_arg0) : FVec Ideal S16384x1024 .f32) (ix2 r k)) b.val (a.val - s)) (fun k => (V0 (Proc.devRef .tc main_arg2) : FVec Ideal S2x1024 .f32) (ix2 0 k)) (fun q k l => (V0 (Proc.devRef .tc main_arg4) : FVec Ideal S1x4x256x256 .f32) (ix4 0 q k l)) (fun k => (V0 (Proc.devRef .tc main_arg5) : FVec Ideal S1x4x256 .f32) (ix3 0 (grp k) (lane k))) (fun k => (V0 (Proc.devRef .tc main_arg6) : FVec Ideal S1x1024 .f32) (ix2 0 k)) from funext fun k => row141 V0 hG b a ha k, row3]
  rfl

/-- The feed-forward's row before its residual. -/
theorem row183 (b : Fin 4) (a : Fin 4112) (k : Fin 1024) : (res_main_v183 V0 : FVec Ideal S4x4112x1024 .f32) (ix3 b a k)
    = ffnMid (fun k => (res_main_v157 V0 : FVec Ideal S4x4112x1024 .f32) (ix3 b a k)) (fun k => (V0 (Proc.devRef .tc main_arg7) : FVec Ideal S2x2x1024 .f32) (ix3 0 1 k)) (fun k d => (V0 (Proc.devRef .tc main_arg9) : FVec Ideal S2x2x1024x2816 .f32) (ix4 0 1 k d)) (fun k d => (V0 (Proc.devRef .tc main_arg10) : FVec Ideal S2x2x1024x2816 .f32) (ix4 0 1 k d)) (fun d k => (V0 (Proc.devRef .tc main_arg11) : FVec Ideal S2x2x2816x1024 .f32) (ix4 0 1 d k)) k := by
  unfold res_main_v183 res_main_v179
  refine (mid_apply (res_main_v172 V0) _ _ _ b a k).trans ?_
  have h : ∀ k, (res_main_v172 V0 : FVec Ideal S4x4112x1024 .f32) (ix3 b a k) = nrm (fun k => (res_main_v157 V0 : FVec Ideal S4x4112x1024 .f32) (ix3 b a k)) (fun k => (V0 (Proc.devRef .tc main_arg7) : FVec Ideal S2x2x1024 .f32) (ix3 0 1 k)) k := fun k => by
    unfold res_main_v172
    exact pre_apply _ _ b a k
  simp only [h]
  rfl

/-- Each entry of the plain result is the feed-forward row of the row after the mixer. -/
theorem result_apply (hG : ∀ k : Fin 1024, ∃ r : ℝ, (V0 (Proc.devRef .tc main_arg2) : FVec Ideal S2x1024 .f32) (ix2 0 k) = (r : EReal)) (r : Fin 16384) (j : Fin 1024) :
    (shapeCast _ (extractStridedSlice S4x4096x1024 ![0, 16, 0] (addf (res_main_v157 V0) (mulf (broadcastInDim S4x4112x1024 ![] bcast_S_S4x4112x1024 (constant S_ .f32 0x3F000000#32)) (mulf (mulf (res_main_v183 V0) (broadcastInDim S4x4112x1024 ![0, 1, 2] bcast_S4x4112x1_S4x4112x1024_0_1_2 (Host.rsqrt (addf (Host.divf (broadcastInDim S4x4112x1 ![0, 1] bcast_S4x4112_S4x4112x1_0_1 (Host.reduceAdd (mulf (res_main_v183 V0) (res_main_v183 V0)) (constant S_ .f32 0x00000000#32) reducesTo_S4x4112x1024_S4x4112_d2 h_S_)) (broadcastInDim S4x4112x1 ![] bcast_S_S4x4112x1 (constant S_ .f32 0x44800000#32))) (broadcastInDim S4x4112x1 ![] bcast_S_S4x4112x1 (constant S_ .f32 0x358637BD#32)))))) (broadcastInDim S4x4112x1024 ![0, 1, 2] bcast_S1x1x1024_S4x4112x1024_0_1_2 (broadcastInDim S1x1x1024 ![2] bcast_S1024_S1x1x1024_2 (shapeCast _ (extractStridedSlice S1x1x1024 ![0, 1, 0] (V0 (Proc.devRef .tc main_arg8)) slices_S2x2x1024_S1x1x1024_0_1_0) shapeCasts_S1x1x1024_S1024)))))) slices_S4x4112x1024_S4x4096x1024_0_16_0) shapeCasts_S4x4096x1024_S16384x1024 : FVec Ideal S16384x1024 .f32) (ix2 r j)
      = ffnRow (poolMix (fun s => seqRow (fun a k => (V0 (Proc.devRef .tc main_arg1) : FVec Ideal S16x1024 .f32) (ix2 a k)) (fun r k => (V0 (Proc.devRef .tc main_arg0) : FVec Ideal S16384x1024 .f32) (ix2 r k)) (r.val / 4096) (16 + r.val % 4096 - s)) (fun k => (V0 (Proc.devRef .tc main_arg2) : FVec Ideal S2x1024 .f32) (ix2 0 k)) (fun q k l => (V0 (Proc.devRef .tc main_arg4) : FVec Ideal S1x4x256x256 .f32) (ix4 0 q k l)) (fun k => (V0 (Proc.devRef .tc main_arg5) : FVec Ideal S1x4x256 .f32) (ix3 0 (grp k) (lane k))) (fun k => (V0 (Proc.devRef .tc main_arg6) : FVec Ideal S1x1024 .f32) (ix2 0 k)) (fun k => (V0 (Proc.devRef .tc main_arg3) : FVec Ideal S2x1024 .f32) (ix2 0 k))) (fun k => (V0 (Proc.devRef .tc main_arg7) : FVec Ideal S2x2x1024 .f32) (ix3 0 1 k)) (fun k => (V0 (Proc.devRef .tc main_arg8) : FVec Ideal S2x2x1024 .f32) (ix3 0 1 k)) (fun k d => (V0 (Proc.devRef .tc main_arg9) : FVec Ideal S2x2x1024x2816 .f32) (ix4 0 1 k d)) (fun k d => (V0 (Proc.devRef .tc main_arg10) : FVec Ideal S2x2x1024x2816 .f32) (ix4 0 1 k d)) (fun d k => (V0 (Proc.devRef .tc main_arg11) : FVec Ideal S2x2x2816x1024 .f32) (ix4 0 1 d k)) j := by
  refine (end_apply (res_main_v157 V0) (res_main_v183 V0) _ r j).trans ?_
  unfold ffnRow
  rw [show (fun k => (res_main_v183 V0 : FVec Ideal S4x4112x1024 .f32) (ix3 ⟨r.val / 4096, by omega⟩ ⟨16 + r.val % 4096, by omega⟩ k)) = _ from funext fun k => row183 V0 ⟨r.val / 4096, by omega⟩ ⟨16 + r.val % 4096, by omega⟩ k,
    show (fun k => (res_main_v157 V0 : FVec Ideal S4x4112x1024 .f32) (ix3 ⟨r.val / 4096, by omega⟩ ⟨16 + r.val % 4096, by omega⟩ k)) = _ from
      funext fun k => row157 V0 hG ⟨r.val / 4096, by omega⟩ ⟨16 + r.val % 4096, by omega⟩ (Nat.le_add_right 16 _) k]

end Cert.PoolRefIdeal.Rows
-- ==== Proof.PoolClaims.lean ====
module
public import proofs.«01_k».proof.Defs
public import proofs.«01_k».proof.Proof.Gen.Pool.Frame
public import proofs.«01_k».proof.Proof.Gen.PoolIdeal.Frame
public import proofs.«01_k».proof.Proof.PoolValue
public import proofs.«01_k».proof.Proof.PoolRef
public import Idealize.ShloMosaic.Lib.ReduceAll
@[expose] public section
set_option maxRecDepth 16384
noncomputable section

/-! The claims about the feed-forward call with the pooling mixer. -/

namespace Cert.PoolClaims
open Idealize.ShloMosaic Idealize.ShloMosaic.TcCoe Idealize.SL.Sem

/-- The shapes of the precondition fit each other. -/
instance preFacts : Cert.Pre_pre_gain_finite.Facts where
  slices_S2x1024_S1x1024_0_0 := by decide
  shapeCasts_S1x1024_S1024 := by decide
  bcast_S_S1024 := by decide
  reducesTo_S1024_S_d0 := by decide
  h_S_ := by decide

/-- A number whose absolute value is below infinity is real. -/
theorem real_of_lt (x : EReal) (h : Ideal.cmp .olt (max x (-x)) (Ideal.ofBits .f32 0x7F800000#32) = 1#1) :
    ∃ r : ℝ, x = (r : EReal) := by
  have ht : (Ideal.ofBits .f32 0x7F800000#32 : EReal) = ⊤ := by simp [Ideal.ofBits, Ideal.ieee]
  rw [ht] at h
  induction x using EReal.rec with
  | bot => simp [Ideal.cmp] at h
  | top => simp [Ideal.cmp] at h
  | coe r => exact ⟨r, rfl⟩

/-- The precondition says that every entry of the first mixer gain is a real number. -/
theorem gain_real (m : (ℓ : Loc Cert.PoolIdeal.nD Cert.PoolIdeal.τ Cert.PoolIdeal.sig) → Buf (Elt Ideal) ℓ)
    (h : Cert.Pre_PoolIdeal_pre_gain_finite m) (c : Dev Cert.PoolIdeal.nD) (k : Fin 1024) :
    ∃ r : ℝ, (m ((c.tc : Thread Cert.PoolIdeal.nD Cert.PoolIdeal.τ).loc Cert.PoolIdeal.main_arg2) : FVec Ideal Cert.PoolIdeal.S2x1024 .f32) (ix2 0 k) = (r : EReal) := by
  have h1 := congrFun (h c) (fun a => a.elim0)
  haveI : Subsingleton Cert.Pre_pre_gain_finite.S_.Idx := ⟨fun a b => funext fun d => d.elim0⟩
  have h2 := Host.reduce_andi_all _ _ _ _ _ h1 (ix1 k)
  refine real_of_lt _ (Eq.trans ?_ h2)
  pointwise
  rfl

/-- The kernel as printed runs to the end and leaves its arguments and the machine at rest. -/
theorem framePool : Cert.quiescent_Pool := fun m ρ _ => Cert.Pool.Gen.frame m ρ
/-- So does it at exact numbers. -/
theorem framePoolIdeal : Cert.quiescent_PoolIdeal := fun m ρ _ => Cert.PoolIdeal.Gen.frame m ρ
/-- And in particular where the gain is finite. -/
theorem framePoolIdealPre : Cert.quiescent_PoolIdeal_pre_pre_gain_finite := fun m ρ _ => Cert.PoolIdeal.Gen.frame m ρ
/-- So does the plain program. -/
theorem framePoolRefIdeal : Cert.quiescent_PoolRefIdeal := fun m ρ _ =>
  (θ_run Cert.PoolRefIdeal.defs _ _).mono (fun r h => ⟨fun c => (h c).2, sem_eq_zero_of_no_sems (by decide) r.2⟩)
    (Cert.PoolRefIdeal.Value.run (F := Ideal) m ρ)
/-- And in particular where the gain is finite. -/
theorem framePoolRefIdealPre : Cert.quiescent_PoolRefIdeal_pre_pre_gain_finite := fun m ρ _ => framePoolRefIdeal m ρ trivial

/-- The kernel and the plain mathematics end with the same array. -/
theorem algebraicPool : Cert.algebraic_PoolIdeal_PoolRefIdeal_pre_pre_gain_finite := by
  intro m ρ m' ρ' hp hag
  refine ⟨fun c => Cert.PoolIdeal.Block.result m c,
    (θ_run Cert.PoolIdeal.defs _ _).mono (fun _ h c => ⟨(h c).1.trans (Cert.PoolIdeal.Block.final m c), (h c).2⟩) (Cert.PoolIdeal.Value.run_blocks m ρ),
    (θ_run Cert.PoolRefIdeal.defs _ _).mono (fun _ h c => ⟨(h c).1.trans ?_, (h c).2⟩) (Cert.PoolRefIdeal.Value.run m' ρ')⟩
  funext (z : Cert.PoolRefIdeal.S16384x1024.Idx)
  obtain ⟨r, j, rfl⟩ : ∃ (r : Fin 16384) (j : Fin 1024), z = ix2 r j := ⟨z 0, z 1, eq_ix2 z⟩
  obtain ⟨e0, e1, e2, e3, e4, e5, e6, e7, e8, e9, e10, e11⟩ := hag c
  refine (Cert.PoolRefIdeal.Rows.result_apply (StableHlo.launchContents m' c) (fun k => ?_) r j).trans ?_
  · obtain ⟨g, hg⟩ := gain_real m hp c k
    exact ⟨g, (congrFun e2 (ix2 0 k)).trans hg⟩
  · rw [show StableHlo.launchContents m' c (Proc.devRef .tc Cert.PoolRefIdeal.main_arg0) = m ((c.tc : Thread Cert.PoolIdeal.nD Cert.PoolIdeal.τ).loc Cert.PoolIdeal.main_arg0) from e0,
      show StableHlo.launchContents m' c (Proc.devRef .tc Cert.PoolRefIdeal.main_arg1) = m ((c.tc : Thread Cert.PoolIdeal.nD Cert.PoolIdeal.τ).loc Cert.PoolIdeal.main_arg1) from e1,
      show StableHlo.launchContents m' c (Proc.devRef .tc Cert.PoolRefIdeal.main_arg2) = m ((c.tc : Thread Cert.PoolIdeal.nD Cert.PoolIdeal.τ).loc Cert.PoolIdeal.main_arg2) from e2,
      show StableHlo.launchContents m' c (Proc.devRef .tc Cert.PoolRefIdeal.main_arg3) = m ((c.tc : Thread Cert.PoolIdeal.nD Cert.PoolIdeal.τ).loc Cert.PoolIdeal.main_arg3) from e3,
      show StableHlo.launchContents m' c (Proc.devRef .tc Cert.PoolRefIdeal.main_arg4) = m ((c.tc : Thread Cert.PoolIdeal.nD Cert.PoolIdeal.τ).loc Cert.PoolIdeal.main_arg4) from e4,
      show StableHlo.launchContents m' c (Proc.devRef .tc Cert.PoolRefIdeal.main_arg5) = m ((c.tc : Thread Cert.PoolIdeal.nD Cert.PoolIdeal.τ).loc Cert.PoolIdeal.main_arg5) from e5,
      show StableHlo.launchContents m' c (Proc.devRef .tc Cert.PoolRefIdeal.main_arg6) = m ((c.tc : Thread Cert.PoolIdeal.nD Cert.PoolIdeal.τ).loc Cert.PoolIdeal.main_arg6) from e6,
      show StableHlo.launchContents m' c (Proc.devRef .tc Cert.PoolRefIdeal.main_arg7) = m ((c.tc : Thread Cert.PoolIdeal.nD Cert.PoolIdeal.τ).loc Cert.PoolIdeal.main_arg7) from e7,
      show StableHlo.launchContents m' c (Proc.devRef .tc Cert.PoolRefIdeal.main_arg8) = m ((c.tc : Thread Cert.PoolIdeal.nD Cert.PoolIdeal.τ).loc Cert.PoolIdeal.main_arg8) from e8,
      show StableHlo.launchContents m' c (Proc.devRef .tc Cert.PoolRefIdeal.main_arg9) = m ((c.tc : Thread Cert.PoolIdeal.nD Cert.PoolIdeal.τ).loc Cert.PoolIdeal.main_arg9) from e9,
      show StableHlo.launchContents m' c (Proc.devRef .tc Cert.PoolRefIdeal.main_arg10) = m ((c.tc : Thread Cert.PoolIdeal.nD Cert.PoolIdeal.τ).loc Cert.PoolIdeal.main_arg10) from e10,
      show StableHlo.launchContents m' c (Proc.devRef .tc Cert.PoolRefIdeal.main_arg11) = m ((c.tc : Thread Cert.PoolIdeal.nD Cert.PoolIdeal.τ).loc Cert.PoolIdeal.main_arg11) from e11]
    rfl

end Cert.PoolClaims
-- ==== Proof.QkvBlock.lean ====
module
public import proofs.«01_k».proof.Proof.Gen.QkvIdeal.Value
public import proofs.«01_k».proof.Proof.RowMath
public import Idealize.ShloMosaic.Lib.Pipeline.ValueKit
public import Idealize.ShloMosaic.Lib.Pipeline.ReadBack
@[expose] public section
set_option maxRecDepth 16384
noncomputable section

/-! The projection to queries, keys and values: what the body leaves in each result's block. -/

namespace Cert.RowMath
open Idealize.ShloMosaic

/-- Lane `j` of part `p` of the three parts of the projection. -/
def part (p : Fin 3) (j : Fin 1024) : Fin 3072 := ⟨1024 * p.val + j.val, by omega⟩

/-- A query lane: the projection times one eighth, over the logarithm of two. -/
def query (h g w : Fin 1024 → EReal) : EReal :=
  Ideal.div (up h g w * Ideal.ofBits FTy.f32 1040187392#32) (Ideal.log (Ideal.ofBits FTy.f32 1073741824#32))

/-- A query lane as the kernel has it: the finished sum times the row's factor times the one constant. -/
def queryLate (h g w : Fin 1024 → EReal) : EReal := (∑ k, h k * g k * w k) * (rinv h * (((1 / 8) * (Real.log 2)⁻¹ : ℝ) : EReal))

/-- The logarithm of two, at exact numbers. -/
theorem log_two : Ideal.log (Ideal.ofBits FTy.f32 1073741824#32) = ((Real.log 2 : ℝ) : EReal) := by
  have h : Ideal.ofBits FTy.f32 1073741824#32 = ((2 : ℝ) : EReal) := by
    simp [Ideal.ofBits, Ideal.ieee, -EReal.coe_mul]; norm_num
  rw [h, Ideal.log_coe, if_neg (by norm_num)]

/-- One eighth, as printed. -/
theorem ofBits_scale : Ideal.ofBits FTy.f32 1040187392#32 = ((1 / 8 : ℝ) : EReal) := by
  simp [Ideal.ofBits, Ideal.ieee, -EReal.coe_mul]; norm_num

/-- The two forms of a query lane are one number. -/
theorem queryLate_eq (h g w : Fin 1024 → EReal) : queryLate h g w = query h g w := by
  unfold query queryLate
  rw [← upLate_eq, log_two, Ideal.div_coe (Real.log_pos (by norm_num)).ne', ofBits_scale]
  unfold upLate
  rw [EReal.coe_mul, one_div (Real.log 2), mul_assoc, mul_assoc]

end Cert.RowMath

namespace Cert.QkvIdeal.Block
open Cert.QkvIdeal Cert.QkvIdeal.Gen Idealize.ShloMosaic Idealize.ShloMosaic.TcCoe Idealize.SL.Sem
open Cert.RowMath

/-- The named constant, at exact numbers. -/
theorem q_scale : Named.named (F := Ideal) Cert.QkvIdeal.κ "q_scale" (φ := .f32) 0x3E38AA3B#32 = (((1 / 8) * (Real.log 2)⁻¹ : ℝ) : EReal) :=
  IdealRules.named_const.ideal_named_scalar _ _ _ _ rfl

/-- The queries of the first half of the rows, entry by entry. -/
theorem pay4_apply (H G W) (i : Fin 512) (j : Fin 1024) : k0_pay4 (F := Ideal) H G W (ix2 i j)
    = queryLate (fun k => H (ix2 i k)) (fun k => G (ix2 0 k)) (fun k => W (ix2 k j)) := by
  unfold k0_pay4 k0_pay2 k0_pay3
  rw [q_scale]
  dsimp only
  pointwise
  rfl

/-- The queries of the second half of the rows, entry by entry. -/
theorem pay9_apply (H G W) (i : Fin 512) (j : Fin 1024) : k0_pay9 (F := Ideal) H G W (ix2 i j)
    = queryLate (fun k => H (ix2 i k)) (fun k => G (ix2 0 k)) (fun k => W (ix2 k j)) := by
  unfold k0_pay9 k0_pay7 k0_pay8
  rw [q_scale]
  dsimp only
  pointwise
  rfl

/-- The keys of the first half of the rows, entry by entry. -/
theorem pay5_apply (H G W) (i : Fin 512) (j : Fin 1024) : k0_pay5 (F := Ideal) H G W (ix2 i j)
    = upLate (fun k => H (ix2 i k)) (fun k => G (ix2 0 k)) (fun k => W (ix2 k j)) := by
  unfold k0_pay5 k0_pay2 k0_pay3
  dsimp only
  pointwise
  rfl

/-- The keys of the second half of the rows, entry by entry. -/
theorem pay10_apply (H G W) (i : Fin 512) (j : Fin 1024) : k0_pay10 (F := Ideal) H G W (ix2 i j)
    = upLate (fun k => H (ix2 i k)) (fun k => G (ix2 0 k)) (fun k => W (ix2 k j)) := by
  unfold k0_pay10 k0_pay7 k0_pay8
  dsimp only
  pointwise
  rfl

/-- The values of the first half of the rows, entry by entry. -/
theorem pay6_apply (H G W) (i : Fin 512) (j : Fin 1024) : k0_pay6 (F := Ideal) H G W (ix2 i j)
    = upLate (fun k => H (ix2 i k)) (fun k => G (ix2 0 k)) (fun k => W (ix2 k j)) := by
  unfold k0_pay6 k0_pay2 k0_pay3
  dsimp only
  pointwise
  rfl

/-- The values of the second half of the rows, entry by entry. -/
theorem pay1_apply (H G W) (i : Fin 512) (j : Fin 1024) : k0_pay1 (F := Ideal) (k0_pay7 H) (k0_pay11 H G W) (ix2 i j)
    = upLate (fun k => H (ix2 i k)) (fun k => G (ix2 0 k)) (fun k => W (ix2 k j)) := by
  unfold k0_pay1 k0_pay11 k0_pay7 k0_pay8
  dsimp only
  pointwise
  rfl

/-- What the body leaves in the block of the queries, entry by entry. -/
theorem out3_apply (x0 x1 x2) (y : S1024x1024.Idx) : out0_3 (F := Ideal) x0 x1 x2 y
      = query (fun k => x0 (ix2 (y 0) k)) (fun k => x1 (ix2 0 k)) (fun k => x2 (ix2 k (part 0 (y 1)))) := by
  unfold out0_3
  canon_tiles x h
  · obtain ⟨a, b, rfl⟩ : ∃ (a : Fin 512) (b : Fin 1024), x = ix2 a b := ⟨x 0, x 1, eq_ix2 x⟩
    refine (pay9_apply ..).trans ?_
    rw [queryLate_eq]
    refine congr (congr (congrArg query (funext fun k => ?_)) (funext fun k => ?_)) (funext fun k => ?_)
    · exact View.ld_unit_apply_of _ _ _ _ _ _ (fun d => match d with | ⟨0, _⟩ => h0 | ⟨1, _⟩ => (Nat.zero_add _).symm)
    · exact View.ld_unit_apply_of _ _ _ _ _ _ (fun d => match d with | ⟨0, _⟩ => rfl | ⟨1, _⟩ => (Nat.zero_add _).symm)
    · exact View.ld_unit_apply_of _ _ _ _ _ _ (fun d => match d with | ⟨0, _⟩ => (Nat.zero_add _).symm | ⟨1, _⟩ => congrArg (0 + ·) h1)
  · obtain ⟨a, b, rfl⟩ : ∃ (a : Fin 512) (b : Fin 1024), x = ix2 a b := ⟨x 0, x 1, eq_ix2 x⟩
    refine (pay4_apply ..).trans ?_
    rw [queryLate_eq]
    refine congr (congr (congrArg query (funext fun k => ?_)) (funext fun k => ?_)) (funext fun k => ?_)
    · exact View.ld_unit_apply_of _ _ _ _ _ _ (fun d => match d with | ⟨0, _⟩ => h0.trans (Nat.zero_add _).symm | ⟨1, _⟩ => (Nat.zero_add _).symm)
    · exact View.ld_unit_apply_of _ _ _ _ _ _ (fun d => match d with | ⟨0, _⟩ => rfl | ⟨1, _⟩ => (Nat.zero_add _).symm)
    · exact View.ld_unit_apply_of _ _ _ _ _ _ (fun d => match d with | ⟨0, _⟩ => (Nat.zero_add _).symm | ⟨1, _⟩ => congrArg (0 + ·) h1)

/-- What the body leaves in the block of the keys, entry by entry. -/
theorem out4_apply (x0 x1 x2) (y : S1024x1024.Idx) : out0_4 (F := Ideal) x0 x1 x2 y
      = up (fun k => x0 (ix2 (y 0) k)) (fun k => x1 (ix2 0 k)) (fun k => x2 (ix2 k (part 1 (y 1)))) := by
  unfold out0_4
  canon_tiles x h
  · obtain ⟨a, b, rfl⟩ : ∃ (a : Fin 512) (b : Fin 1024), x = ix2 a b := ⟨x 0, x 1, eq_ix2 x⟩
    refine (pay10_apply ..).trans ?_
    rw [upLate_eq]
    refine congr (congr (congrArg up (funext fun k => ?_)) (funext fun k => ?_)) (funext fun k => ?_)
    · exact View.ld_unit_apply_of _ _ _ _ _ _ (fun d => match d with | ⟨0, _⟩ => h0 | ⟨1, _⟩ => (Nat.zero_add _).symm)
    · exact View.ld_unit_apply_of _ _ _ _ _ _ (fun d => match d with | ⟨0, _⟩ => rfl | ⟨1, _⟩ => (Nat.zero_add _).symm)
    · exact View.ld_unit_apply_of _ _ _ _ _ _ (fun d => match d with | ⟨0, _⟩ => (Nat.zero_add _).symm | ⟨1, _⟩ => congrArg (1024 + ·) h1)
  · obtain ⟨a, b, rfl⟩ : ∃ (a : Fin 512) (b : Fin 1024), x = ix2 a b := ⟨x 0, x 1, eq_ix2 x⟩
    refine (pay5_apply ..).trans ?_
    rw [upLate_eq]
    refine congr (congr (congrArg up (funext fun k => ?_)) (funext fun k => ?_)) (funext fun k => ?_)
    · exact View.ld_unit_apply_of _ _ _ _ _ _ (fun d => match d with | ⟨0, _⟩ => h0.trans (Nat.zero_add _).symm | ⟨1, _⟩ => (Nat.zero_add _).symm)
    · exact View.ld_unit_apply_of _ _ _ _ _ _ (fun d => match d with | ⟨0, _⟩ => rfl | ⟨1, _⟩ => (Nat.zero_add _).symm)
    · exact View.ld_unit_apply_of _ _ _ _ _ _ (fun d => match d with | ⟨0, _⟩ => (Nat.zero_add _).symm | ⟨1, _⟩ => congrArg (1024 + ·) h1)

/-- What the body leaves in the block of the values, entry by entry. -/
theorem out5_apply (x0 x1 x2) (y : S1024x1024.Idx) : out0_5 (F := Ideal) x0 x1 x2 y
      = up (fun k => x0 (ix2 (y 0) k)) (fun k => x1 (ix2 0 k)) (fun k => x2 (ix2 k (part 2 (y 1)))) := by
  unfold out0_5
  canon_tiles x h
  · obtain ⟨a, b, rfl⟩ : ∃ (a : Fin 512) (b : Fin 1024), x = ix2 a b := ⟨x 0, x 1, eq_ix2 x⟩
    refine (pay1_apply ..).trans ?_
    rw [upLate_eq]
    refine congr (congr (congrArg up (funext fun k => ?_)) (funext fun k => ?_)) (funext fun k => ?_)
    · exact View.ld_unit_apply_of _ _ _ _ _ _ (fun d => match d with | ⟨0, _⟩ => h0 | ⟨1, _⟩ => (Nat.zero_add _).symm)
    · exact View.ld_unit_apply_of _ _ _ _ _ _ (fun d => match d with | ⟨0, _⟩ => rfl | ⟨1, _⟩ => (Nat.zero_add _).symm)
    · exact View.ld_unit_apply_of _ _ _ _ _ _ (fun d => match d with | ⟨0, _⟩ => (Nat.zero_add _).symm | ⟨1, _⟩ => congrArg (2048 + ·) h1)
  · obtain ⟨a, b, rfl⟩ : ∃ (a : Fin 512) (b : Fin 1024), x = ix2 a b := ⟨x 0, x 1, eq_ix2 x⟩
    refine (pay6_apply ..).trans ?_
    rw [upLate_eq]
    refine congr (congr (congrArg up (funext fun k => ?_)) (funext fun k => ?_)) (funext fun k => ?_)
    · exact View.ld_unit_apply_of _ _ _ _ _ _ (fun d => match d with | ⟨0, _⟩ => h0.trans (Nat.zero_add _).symm | ⟨1, _⟩ => (Nat.zero_add _).symm)
    · exact View.ld_unit_apply_of _ _ _ _ _ _ (fun d => match d with | ⟨0, _⟩ => rfl | ⟨1, _⟩ => (Nat.zero_add _).symm)
    · exact View.ld_unit_apply_of _ _ _ _ _ _ (fun d => match d with | ⟨0, _⟩ => (Nat.zero_add _).symm | ⟨1, _⟩ => congrArg (2048 + ·) h1)

end Cert.QkvIdeal.Block
-- ==== Proof.QkvValue.lean ====
module
public import proofs.«01_k».proof.Proof.QkvBlock
@[expose] public section
set_option maxRecDepth 16384
noncomputable section

/-! The three result arrays of the projection: every row of each is one function of that row of the hidden state. -/

namespace Cert.QkvIdeal.Block
open Cert.QkvIdeal Cert.QkvIdeal.Gen Idealize.ShloMosaic Idealize.ShloMosaic.TcCoe Idealize.SL.Sem
open Idealize.ShloMosaic.Pipeline (Dat)
open Cert.RowMath
variable (m : (ℓ : Loc nD τ sig) → Buf (Elt Ideal) ℓ) (ρ : Dev nD → PrngReg)

/-- The gain before the projection. -/
theorem V_v2 (c : Dev nD) (k : Fin 1024) : (V m c main_v2 : FVec Ideal S1x1024 .f32) (ix2 0 k) = m ((c : Thread nD τ).loc main_arg1) (ix2 1 k) := by
  unfold_abbrev_sides
  after_results
  pointwise

/-- The weights of the projection. -/
theorem V_v4 (c : Dev nD) (k : Fin 1024) (d : Fin 3072) : (V m c main_v4 : FVec Ideal S1024x3072 .bf16) (ix2 k d) = m ((c : Thread nD τ).loc main_arg2) (ix3 0 k d) := by
  unfold_abbrev_sides
  after_results
  pointwise

/-- Window 0 moves one block of rows per grid point. -/
theorem idx0 : ∀ t : Fin cfg0.N, win0_0.index t 0 = t.val ∧ win0_0.index t 1 = 0 :=
  (by decide +kernel : ∀ t : Fin grid0.N, win0_0.index t 0 = t.val ∧ win0_0.index t 1 = 0)
/-- Window 3 moves one block of rows per grid point. -/
theorem idx3 : ∀ t : Fin cfg0.N, win0_3.index t 0 = t.val ∧ win0_3.index t 1 = 0 :=
  (by decide +kernel : ∀ t : Fin grid0.N, win0_3.index t 0 = t.val ∧ win0_3.index t 1 = 0)
/-- Window 4 moves one block of rows per grid point. -/
theorem idx4 : ∀ t : Fin cfg0.N, win0_4.index t 0 = t.val ∧ win0_4.index t 1 = 0 :=
  (by decide +kernel : ∀ t : Fin grid0.N, win0_4.index t 0 = t.val ∧ win0_4.index t 1 = 0)
/-- Window 5 moves one block of rows per grid point. -/
theorem idx5 : ∀ t : Fin cfg0.N, win0_5.index t 0 = t.val ∧ win0_5.index t 1 = 0 :=
  (by decide +kernel : ∀ t : Fin grid0.N, win0_5.index t 0 = t.val ∧ win0_5.index t 1 = 0)
/-- Window 1 stays at block zero. -/
theorem idx1 : ∀ t : Fin cfg0.N, ∀ a, win0_1.index t a = 0 := (by decide +kernel : ∀ t : Fin grid0.N, ∀ a, win0_1.index t a = 0)
/-- Window 2 stays at block zero. -/
theorem idx2 : ∀ t : Fin cfg0.N, ∀ a, win0_2.index t a = 0 := (by decide +kernel : ∀ t : Fin grid0.N, ∀ a, win0_2.index t a = 0)

/-- The hidden state's block, as rows of the argument. -/
theorem iblk0 (c : Dev nD) (t : Fin cfg0.N) (y : S1024x1024.Idx) (z : S16384x1024.Idx) (h0 : (z 0).val = t.val * 1024 + (y 0).val) (h1 : (z 1).val = (y 1).val) :
    iblk m c 0 t y = m ((c : Thread nD τ).loc main_arg0) z := by
  unfold iblk
  rw [View.read_apply]
  show V m c main_arg0 _ = _
  rw [V_main_arg0]
  refine congrArg _ (funext fun a => Fin.ext ?_)
  match a with
  | ⟨0, _⟩ => blk_simp [(idx0 t).1]; exact h0.symm
  | ⟨1, _⟩ => blk_simp [(idx0 t).2]; exact h1.symm

/-- What window 1 stages, read off the argument. -/
theorem iblk1 (c : Dev nD) (t : Fin cfg0.N) (k : Fin 1024) : iblk m c 1 t (ix2 0 k : S1x1024.Idx) = m ((c : Thread nD τ).loc main_arg1) (ix2 1 k) := by
  rw [← V_v2 m c k]
  unfold iblk
  rw [View.read_apply]
  show V m c main_v2 _ = _
  refine congrArg _ (funext fun a => Fin.ext ?_)
  match a with
  | ⟨0, _⟩ => blk_simp [idx1 t]
  | ⟨1, _⟩ => blk_simp [idx1 t]

/-- What window 2 stages, read off the argument. -/
theorem iblk2 (c : Dev nD) (t : Fin cfg0.N) (k : Fin 1024) (d : Fin 3072) :
    iblk m c 2 t (ix2 k d : S1024x3072.Idx) = m ((c : Thread nD τ).loc main_arg2) (ix3 0 k d) := by
  rw [← V_v4 m c k d]
  unfold iblk
  rw [View.read_apply]
  show V m c main_v4 _ = _
  refine congrArg _ (funext fun a => Fin.ext ?_)
  match a with
  | ⟨0, _⟩ => blk_simp [idx2 t]
  | ⟨1, _⟩ => blk_simp [idx2 t]

/-- The queries, as one array: each row is that row of the input, normalized and projected. -/
def result3 (c : Dev nD) : Buf (Elt Ideal) ((c : Thread nD τ).loc main_v5_0) := fun z : S16384x1024.Idx =>
  query (fun k => m ((c : Thread nD τ).loc main_arg0) (ix2 (z 0) k)) (fun k => m ((c : Thread nD τ).loc main_arg1) (ix2 1 k))
    (fun k => m ((c : Thread nD τ).loc main_arg2) (ix3 0 k (part 0 (z 1))))

/-- Every grid point writes its block of the queries. -/
theorem flushed_eq3 (c : Dev nD) (t : Fin cfg0.N) : (dats m 0 c).flushed 3 t = ((cfg0.win 3).blk t).view.read (Elt Ideal) (result3 m c) := by
  rw [Value.flushed3]
  funext (y : S1024x1024.Idx)
  rw [View.read_apply]
  have e0 : ((((cfg0.win 3).blk t).view.emb y) 0 : ℕ) = t.val * 1024 + (y 0).val := by blk_simp [(idx3 t).1]
  have e1 : ((((cfg0.win 3).blk t).view.emb y) 1 : ℕ) = (y 1).val := by blk_simp [(idx3 t).2]
  refine (out3_apply ..).trans ?_
  unfold result3
  simp only [iblk1, iblk2]
  rw [show (fun k : Fin 1024 => iblk m c 0 t (ix2 (y 0) k : S1024x1024.Idx)) = fun k => m ((c : Thread nD τ).loc main_arg0) (ix2 (((cfg0.win 3).blk t).view.emb y 0) k) from
    funext fun k => iblk0 m c t _ _ e0 rfl]
  exact congrArg (fun j : Fin 1024 => query (fun k => m ((c : Thread nD τ).loc main_arg0) (ix2 (((cfg0.win 3).blk t).view.emb y 0) k)) (fun k => m ((c : Thread nD τ).loc main_arg1) (ix2 1 k))
    (fun k => m ((c : Thread nD τ).loc main_arg2) (ix3 0 k (part 0 j)))) (Fin.ext e1.symm)

/-- Every row of the queries is in some grid point's block. -/
theorem cover3 (i : S16384x1024.Idx) : ∃ t : Fin cfg0.N, (cfg0.win 3).flush t = true ∧ i ∈ ((cfg0.win 3).blk t).view.set := by
  have h0 : (i 0 : Nat) < 16384 := (i 0).isLt
  have h1 : (i 1 : Nat) < 1024 := (i 1).isLt
  have hN : cfg0.N = 16 := N_0
  refine ⟨⟨(i 0).val / 1024, by omega⟩, flush0_3 _, ?_⟩
  mem_blk [(idx3 _).1, (idx3 _).2]
  dsimp only
  omega

/-- The array of the queries when the kernel has run. -/
theorem final3 (c : Dev nD) : (dats m 0 c).arrAt 3 cfg0.N = result3 m c :=
  (dats m 0 c).arrAt_eq_of_cover 3 (result3 m c) (fun t _ => flushed_eq3 m c t) cover3

/-- The keys, as one array: each row is that row of the input, normalized and projected. -/
def result4 (c : Dev nD) : Buf (Elt Ideal) ((c : Thread nD τ).loc main_v5_1) := fun z : S16384x1024.Idx =>
  up (fun k => m ((c : Thread nD τ).loc main_arg0) (ix2 (z 0) k)) (fun k => m ((c : Thread nD τ).loc main_arg1) (ix2 1 k))
    (fun k => m ((c : Thread nD τ).loc main_arg2) (ix3 0 k (part 1 (z 1))))

/-- Every grid point writes its block of the keys. -/
theorem flushed_eq4 (c : Dev nD) (t : Fin cfg0.N) : (dats m 0 c).flushed 4 t = ((cfg0.win 4).blk t).view.read (Elt Ideal) (result4 m c) := by
  rw [Value.flushed4]
  funext (y : S1024x1024.Idx)
  rw [View.read_apply]
  have e0 : ((((cfg0.win 4).blk t).view.emb y) 0 : ℕ) = t.val * 1024 + (y 0).val := by blk_simp [(idx4 t).1]
  have e1 : ((((cfg0.win 4).blk t).view.emb y) 1 : ℕ) = (y 1).val := by blk_simp [(idx4 t).2]
  refine (out4_apply ..).trans ?_
  unfold result4
  simp only [iblk1, iblk2]
  rw [show (fun k : Fin 1024 => iblk m c 0 t (ix2 (y 0) k : S1024x1024.Idx)) = fun k => m ((c : Thread nD τ).loc main_arg0) (ix2 (((cfg0.win 4).blk t).view.emb y 0) k) from
    funext fun k => iblk0 m c t _ _ e0 rfl]
  exact congrArg (fun j : Fin 1024 => up (fun k => m ((c : Thread nD τ).loc main_arg0) (ix2 (((cfg0.win 4).blk t).view.emb y 0) k)) (fun k => m ((c : Thread nD τ).loc main_arg1) (ix2 1 k))
    (fun k => m ((c : Thread nD τ).loc main_arg2) (ix3 0 k (part 1 j)))) (Fin.ext e1.symm)

/-- Every row of the keys is in some grid point's block. -/
theorem cover4 (i : S16384x1024.Idx) : ∃ t : Fin cfg0.N, (cfg0.win 4).flush t = true ∧ i ∈ ((cfg0.win 4).blk t).view.set := by
  have h0 : (i 0 : Nat) < 16384 := (i 0).isLt
  have h1 : (i 1 : Nat) < 1024 := (i 1).isLt
  have hN : cfg0.N = 16 := N_0
  refine ⟨⟨(i 0).val / 1024, by omega⟩, flush0_4 _, ?_⟩
  mem_blk [(idx4 _).1, (idx4 _).2]
  dsimp only
  omega

/-- The array of the keys when the kernel has run. -/
theorem final4 (c : Dev nD) : (dats m 0 c).arrAt 4 cfg0.N = result4 m c :=
  (dats m 0 c).arrAt_eq_of_cover 4 (result4 m c) (fun t _ => flushed_eq4 m c t) cover4

/-- The values, as one array: each row is that row of the input, normalized and projected. -/
def result5 (c : Dev nD) : Buf (Elt Ideal) ((c : Thread nD τ).loc main_v5_2) := fun z : S16384x1024.Idx =>
  up (fun k => m ((c : Thread nD τ).loc main_arg0) (ix2 (z 0) k)) (fun k => m ((c : Thread nD τ).loc main_arg1) (ix2 1 k))
    (fun k => m ((c : Thread nD τ).loc main_arg2) (ix3 0 k (part 2 (z 1))))

/-- Every grid point writes its block of the values. -/
theorem flushed_eq5 (c : Dev nD) (t : Fin cfg0.N) : (dats m 0 c).flushed 5 t = ((cfg0.win 5).blk t).view.read (Elt Ideal) (result5 m c) := by
  rw [Value.flushed5]
  funext (y : S1024x1024.Idx)
  rw [View.read_apply]
  have e0 : ((((cfg0.win 5).blk t).view.emb y) 0 : ℕ) = t.val * 1024 + (y 0).val := by blk_simp [(idx5 t).1]
  have e1 : ((((cfg0.win 5).blk t).view.emb y) 1 : ℕ) = (y 1).val := by blk_simp [(idx5 t).2]
  refine (out5_apply ..).trans ?_
  unfold result5
  simp only [iblk1, iblk2]
  rw [show (fun k : Fin 1024 => iblk m c 0 t (ix2 (y 0) k : S1024x1024.Idx)) = fun k => m ((c : Thread nD τ).loc main_arg0) (ix2 (((cfg0.win 5).blk t).view.emb y 0) k) from
    funext fun k => iblk0 m c t _ _ e0 rfl]
  exact congrArg (fun j : Fin 1024 => up (fun k => m ((c : Thread nD τ).loc main_arg0) (ix2 (((cfg0.win 5).blk t).view.emb y 0) k)) (fun k => m ((c : Thread nD τ).loc main_arg1) (ix2 1 k))
    (fun k => m ((c : Thread nD τ).loc main_arg2) (ix3 0 k (part 2 j)))) (Fin.ext e1.symm)

/-- Every row of the values is in some grid point's block. -/
theorem cover5 (i : S16384x1024.Idx) : ∃ t : Fin cfg0.N, (cfg0.win 5).flush t = true ∧ i ∈ ((cfg0.win 5).blk t).view.set := by
  have h0 : (i 0 : Nat) < 16384 := (i 0).isLt
  have h1 : (i 1 : Nat) < 1024 := (i 1).isLt
  have hN : cfg0.N = 16 := N_0
  refine ⟨⟨(i 0).val / 1024, by omega⟩, flush0_5 _, ?_⟩
  mem_blk [(idx5 _).1, (idx5 _).2]
  dsimp only
  omega

/-- The array of the values when the kernel has run. -/
theorem final5 (c : Dev nD) : (dats m 0 c).arrAt 5 cfg0.N = result5 m c :=
  (dats m 0 c).arrAt_eq_of_cover 5 (result5 m c) (fun t _ => flushed_eq5 m c t) cover5

end Cert.QkvIdeal.Block
-- ==== Proof.QkvRef.lean ====
module
public import proofs.«01_k».proof.Proof.QkvBlock
public import proofs.«01_k».proof.Proof.Gen.QkvRefIdeal.Run
@[expose] public section
set_option maxRecDepth 16384
noncomputable section

/-! The plain projection, read one row at a time. -/

namespace Cert.QkvRefIdeal.Rows
open Cert.QkvRefIdeal Cert.QkvRefIdeal.Gen Idealize.ShloMosaic Idealize.ShloMosaic.TcCoe Idealize.SL.Sem
open Cert.RowMath
variable (H : FVec Ideal S16384x1024 .f32) (G : FVec Ideal S2x1024 .f32) (W : FVec Ideal S1x1024x3072 .f32)

/-- Each entry of the plain queries. -/
theorem queries_apply (r : Fin 16384) (j : Fin 1024) :
    (truncf .bf16 (Host.divf (mulf (extractStridedSlice S16384x1024 ![0, 0] (Host.dotGeneral dot_S16384x1024_S1024x3072_S16384x3072_1_0_0_1_n_n none (mulf (mulf H (broadcastInDim S16384x1024 ![0, 1] bcast_S16384x1_S16384x1024_0_1 (Host.rsqrt (addf (Host.divf (broadcastInDim S16384x1 ![0] bcast_S16384_S16384x1_0 (Host.reduceAdd (mulf H H) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ (extractStridedSlice S1x1024 ![1, 0] G slices_S2x1024_S1x1024_1_0) shapeCasts_S1x1024_S1024)))) (shapeCast _ W shapeCasts_S1x1024x3072_S1024x3072)) slices_S16384x3072_S16384x1024_0_0) (broadcastInDim S16384x1024 ![] bcast_S_S16384x1024 (constant S_ .f32 0x3E000000#32))) (broadcastInDim S16384x1024 ![] bcast_S_S16384x1024 (Host.log (constant S_ .f32 0x40000000#32)))) bitsLt_bf16_f32 : FVec Ideal S16384x1024 .bf16) (ix2 r j)
      = query (fun k => H (ix2 r k)) (fun k => G (ix2 1 k)) (fun k => W (ix3 0 k (part 0 j))) := by
  rw [show part 0 j = ⟨j.val, by omega⟩ from Fin.ext (by show 1024 * 0 + j.val = j.val; omega)]
  pointwise
  rfl

/-- Each entry of the plain keys. -/
theorem keys_apply (r : Fin 16384) (j : Fin 1024) :
    (truncf .bf16 (extractStridedSlice S16384x1024 ![0, 1024] (Host.dotGeneral dot_S16384x1024_S1024x3072_S16384x3072_1_0_0_1_n_n none (mulf (mulf H (broadcastInDim S16384x1024 ![0, 1] bcast_S16384x1_S16384x1024_0_1 (Host.rsqrt (addf (Host.divf (broadcastInDim S16384x1 ![0] bcast_S16384_S16384x1_0 (Host.reduceAdd (mulf H H) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ (extractStridedSlice S1x1024 ![1, 0] G slices_S2x1024_S1x1024_1_0) shapeCasts_S1x1024_S1024)))) (shapeCast _ W shapeCasts_S1x1024x3072_S1024x3072)) slices_S16384x3072_S16384x1024_0_1024) bitsLt_bf16_f32 : FVec Ideal S16384x1024 .bf16) (ix2 r j)
      = up (fun k => H (ix2 r k)) (fun k => G (ix2 1 k)) (fun k => W (ix3 0 k (part 1 j))) := by
  pointwise
  rfl

/-- Each entry of the plain values. -/
theorem values_apply (r : Fin 16384) (j : Fin 1024) :
    (truncf .bf16 (extractStridedSlice S16384x1024 ![0, 2048] (Host.dotGeneral dot_S16384x1024_S1024x3072_S16384x3072_1_0_0_1_n_n none (mulf (mulf H (broadcastInDim S16384x1024 ![0, 1] bcast_S16384x1_S16384x1024_0_1 (Host.rsqrt (addf (Host.divf (broadcastInDim S16384x1 ![0] bcast_S16384_S16384x1_0 (Host.reduceAdd (mulf H H) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ (extractStridedSlice S1x1024 ![1, 0] G slices_S2x1024_S1x1024_1_0) shapeCasts_S1x1024_S1024)))) (shapeCast _ W shapeCasts_S1x1024x3072_S1024x3072)) slices_S16384x3072_S16384x1024_0_2048) bitsLt_bf16_f32 : FVec Ideal S16384x1024 .bf16) (ix2 r j)
      = up (fun k => H (ix2 r k)) (fun k => G (ix2 1 k)) (fun k => W (ix3 0 k (part 2 j))) := by
  pointwise
  rfl

end Cert.QkvRefIdeal.Rows
-- ==== Proof.QkvClaims.lean ====
module
public import proofs.«01_k».proof.Defs
public import proofs.«01_k».proof.Proof.Gen.Qkv.Frame
public import proofs.«01_k».proof.Proof.Gen.QkvIdeal.Frame
public import proofs.«01_k».proof.Proof.QkvValue
public import proofs.«01_k».proof.Proof.QkvRef
@[expose] public section
set_option maxRecDepth 16384
noncomputable section

/-! The claims about the projection to queries, keys and values. -/

namespace Cert.QkvClaims
open Idealize.ShloMosaic Idealize.ShloMosaic.TcCoe Idealize.SL.Sem

/-- The kernel as printed runs to the end and leaves its arguments and the machine at rest. -/
theorem frameQkv : Cert.quiescent_Qkv := fun m ρ _ => Cert.Qkv.Gen.frame m ρ
/-- So does it at exact numbers. -/
theorem frameQkvIdeal : Cert.quiescent_QkvIdeal := fun m ρ _ => Cert.QkvIdeal.Gen.frame m ρ
/-- So does the plain program. -/
theorem frameQkvRefIdeal : Cert.quiescent_QkvRefIdeal := fun m ρ _ =>
  (θ_run Cert.QkvRefIdeal.defs _ _).mono (fun r h => ⟨fun c => (h c).2.2.2, sem_eq_zero_of_no_sems (by decide) r.2⟩)
    (Cert.QkvRefIdeal.Value.run (F := Ideal) m ρ)

/-- The one named constant is the number that its name says. -/
theorem preservesQkv : Cert.preserves_Qkv_QkvIdeal :=
  IdealRules.named_const.statement Cert.QkvIdeal.κ "q_scale" .f32 0x3E38AA3B#32 (((1 / 8) * (Real.log 2)⁻¹ : ℝ) : EReal) rfl

/-- The kernel and the plain mathematics end with the same three arrays. -/
theorem algebraicQkv : Cert.algebraic_QkvIdeal_QkvRefIdeal := by
  intro m ρ m' ρ' _ hag
  refine ⟨fun c => Cert.QkvIdeal.Block.result3 m c, fun c => Cert.QkvIdeal.Block.result4 m c, fun c => Cert.QkvIdeal.Block.result5 m c,
    (θ_run Cert.QkvIdeal.defs _ _).mono (fun _ h c => ⟨(h c).1.trans (Cert.QkvIdeal.Block.final3 m c),
      (h c).2.1.trans (Cert.QkvIdeal.Block.final4 m c), (h c).2.2.1.trans (Cert.QkvIdeal.Block.final5 m c), (h c).2.2.2⟩) (Cert.QkvIdeal.Value.run_blocks m ρ),
    (θ_run Cert.QkvRefIdeal.defs _ _).mono (fun _ h c => ⟨(h c).1.trans ?_, (h c).2.1.trans ?_, (h c).2.2.1.trans ?_, (h c).2.2.2⟩) (Cert.QkvRefIdeal.Value.run m' ρ')⟩
  · funext (z : Cert.QkvRefIdeal.S16384x1024.Idx)
    obtain ⟨r, j, rfl⟩ : ∃ (r : Fin 16384) (j : Fin 1024), z = ix2 r j := ⟨z 0, z 1, eq_ix2 z⟩
    refine (Cert.QkvRefIdeal.Rows.queries_apply _ _ _ r j).trans ?_
    obtain ⟨e0, e1, e2⟩ := hag c
    rw [e0, e1, e2]
    rfl
  · funext (z : Cert.QkvRefIdeal.S16384x1024.Idx)
    obtain ⟨r, j, rfl⟩ : ∃ (r : Fin 16384) (j : Fin 1024), z = ix2 r j := ⟨z 0, z 1, eq_ix2 z⟩
    refine (Cert.QkvRefIdeal.Rows.keys_apply _ _ _ r j).trans ?_
    obtain ⟨e0, e1, e2⟩ := hag c
    rw [e0, e1, e2]
    rfl
  · funext (z : Cert.QkvRefIdeal.S16384x1024.Idx)
    obtain ⟨r, j, rfl⟩ : ∃ (r : Fin 16384) (j : Fin 1024), z = ix2 r j := ⟨z 0, z 1, eq_ix2 z⟩
    refine (Cert.QkvRefIdeal.Rows.values_apply _ _ _ r j).trans ?_
    obtain ⟨e0, e1, e2⟩ := hag c
    rw [e0, e1, e2]
    rfl

end Cert.QkvClaims
-- ==== Proof.AttnClaims.lean ====
module
public import proofs.«01_k».proof.Defs
public import proofs.«01_k».proof.Proof.Gen.Attn.Frame
public import proofs.«01_k».proof.Proof.Gen.AttnIdeal.Frame
@[expose] public section
noncomputable section

/-! The claims about the attention: it runs to the end. What it computes is not claimed. -/

namespace Cert.AttnClaims
open Idealize.ShloMosaic Idealize.SL.Sem

/-- The attention as printed runs to the end and leaves its arguments and the machine at rest. -/
theorem frameAttn : Cert.quiescent_Attn := fun m ρ _ => Cert.Attn.Gen.frame m ρ
/-- So does it at exact numbers. -/
theorem frameAttnIdeal : Cert.quiescent_AttnIdeal := fun m ρ _ => Cert.AttnIdeal.Gen.frame m ρ

end Cert.AttnClaims
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.FfnIdeal.Value
public import proofs.«01_k».proof.Proof.Gen.OutIdeal.Value
public import proofs.«01_k».proof.Proof.Gen.FfnRefIdeal.Run
public import proofs.«01_k».proof.Proof.Gen.OutRefIdeal.Run
public import proofs.«01_k».proof.Proof.Gen.FfnRefIdeal.Read
public import proofs.«01_k».proof.Proof.Gen.OutRefIdeal.Read
public import proofs.«01_k».proof.Proof.FfnClaims
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolRefIdeal
public import proofs.«01_k».proof.Proof.Gen.PoolIdeal.Value
public import proofs.«01_k».proof.Proof.Gen.PoolRefIdeal.Run
public import proofs.«01_k».proof.Proof.OutClaims
public import proofs.«01_k».proof.Proof.PoolClaims
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvIdeal.Value
public import proofs.«01_k».proof.Proof.Gen.QkvRefIdeal.Run
public import proofs.«01_k».proof.Proof.QkvClaims
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.AttnClaims
public import Idealize.ShloMosaic.Adequacy
public import Idealize.ShloMosaic.Init

@[expose] public section

noncomputable section

namespace Cert.Proof

open Idealize.ShloMosaic Idealize.SL.Sem Cert.Ffn

/-- All the claims of the directory. -/
theorem claim : Cert.Claim := ⟨Cert.Ffn.Gen.facts, Cert.FfnIdeal.Gen.facts, Cert.FfnRefIdeal.Gen.facts, Cert.Out.Gen.facts, Cert.OutIdeal.Gen.facts, Cert.OutRefIdeal.Gen.facts, Cert.Pool.Gen.facts, Cert.PoolIdeal.Gen.facts, Cert.PoolRefIdeal.Gen.facts, Cert.Qkv.Gen.facts, Cert.QkvIdeal.Gen.facts, Cert.QkvRefIdeal.Gen.facts, Cert.Attn.Gen.facts, Cert.AttnIdeal.Gen.facts, Cert.PoolClaims.preFacts,
  Cert.FfnClaims.frameFfn, Cert.FfnClaims.frameFfnIdeal, Cert.FfnClaims.frameFfnRefIdeal,
  Cert.OutClaims.frameOut, Cert.OutClaims.frameOutIdeal, Cert.OutClaims.frameOutRefIdeal,
  Cert.PoolClaims.framePool, Cert.PoolClaims.framePoolIdeal, Cert.PoolClaims.framePoolIdealPre, Cert.PoolClaims.framePoolRefIdeal, Cert.PoolClaims.framePoolRefIdealPre,
  Cert.QkvClaims.frameQkv, Cert.QkvClaims.frameQkvIdeal, Cert.QkvClaims.frameQkvRefIdeal,
  Cert.AttnClaims.frameAttn, Cert.AttnClaims.frameAttnIdeal,
  trivial, Cert.FfnClaims.algebraicFfn, trivial, Cert.OutClaims.algebraicOut, trivial, Cert.PoolClaims.algebraicPool, Cert.QkvClaims.preservesQkv, Cert.QkvClaims.algebraicQkv, trivial⟩

end Cert.Proof

end
